-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_finite_gates [hPre_finite_gates : Cert.Pre_finite_gates.Facts] (m : (ℓ : Loc Cert.GlaIdeal.nD Cert.GlaIdeal.τ Cert.GlaIdeal.sig) → Buf (Elt Ideal) ℓ) : Prop :=
  ∀ c : Dev Cert.GlaIdeal.nD,
    (Cert.Pre_finite_gates.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3))).1 = (fun _ => 1#1)
    ∧ (Cert.Pre_finite_gates.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3))).2 = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_finite_gates [hPre_finite_gates : Cert.Pre_finite_gates.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_finite_gates.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3))).1 = (fun _ => 1#1)
    ∧ (Cert.Pre_finite_gates.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3))).2 = (fun _ => 1#1)

def Pre_GlaBwd (m : (ℓ : Loc Cert.GlaBwd.nD Cert.GlaBwd.τ Cert.GlaBwd.sig) → Buf (Elt Bits) ℓ) : Prop :=
  True

def Pre_GlaBwdIdeal (m : (ℓ : Loc Cert.GlaBwdIdeal.nD Cert.GlaBwdIdeal.τ Cert.GlaBwdIdeal.sig) → Buf (Elt Ideal) ℓ) : Prop :=
  True

def Pre_GlaBwdIdeal_finite_gates_bwd [hPre_finite_gates_bwd : Cert.Pre_finite_gates_bwd.Facts] (m : (ℓ : Loc Cert.GlaBwdIdeal.nD Cert.GlaBwdIdeal.τ Cert.GlaBwdIdeal.sig) → Buf (Elt Ideal) ℓ) : Prop :=
  ∀ c : Dev Cert.GlaBwdIdeal.nD,
    (Cert.Pre_finite_gates_bwd.fn (F := Ideal) (m ((c.tc : Thread Cert.GlaBwdIdeal.nD Cert.GlaBwdIdeal.τ).loc Cert.GlaBwdIdeal.main_arg0)) (m ((c.tc : Thread Cert.GlaBwdIdeal.nD Cert.GlaBwdIdeal.τ).loc Cert.GlaBwdIdeal.main_arg1)) (m ((c.tc : Thread Cert.GlaBwdIdeal.nD Cert.GlaBwdIdeal.τ).loc Cert.GlaBwdIdeal.main_arg2)) (m ((c.tc : Thread Cert.GlaBwdIdeal.nD Cert.GlaBwdIdeal.τ).loc Cert.GlaBwdIdeal.main_arg3)) (m ((c.tc : Thread Cert.GlaBwdIdeal.nD Cert.GlaBwdIdeal.τ).loc Cert.GlaBwdIdeal.main_arg4)) (m ((c.tc : Thread Cert.GlaBwdIdeal.nD Cert.GlaBwdIdeal.τ).loc Cert.GlaBwdIdeal.main_arg5))).1 = (fun _ => 1#1)
    ∧ (Cert.Pre_finite_gates_bwd.fn (F := Ideal) (m ((c.tc : Thread Cert.GlaBwdIdeal.nD Cert.GlaBwdIdeal.τ).loc Cert.GlaBwdIdeal.main_arg0)) (m ((c.tc : Thread Cert.GlaBwdIdeal.nD Cert.GlaBwdIdeal.τ).loc Cert.GlaBwdIdeal.main_arg1)) (m ((c.tc : Thread Cert.GlaBwdIdeal.nD Cert.GlaBwdIdeal.τ).loc Cert.GlaBwdIdeal.main_arg2)) (m ((c.tc : Thread Cert.GlaBwdIdeal.nD Cert.GlaBwdIdeal.τ).loc Cert.GlaBwdIdeal.main_arg3)) (m ((c.tc : Thread Cert.GlaBwdIdeal.nD Cert.GlaBwdIdeal.τ).loc Cert.GlaBwdIdeal.main_arg4)) (m ((c.tc : Thread Cert.GlaBwdIdeal.nD Cert.GlaBwdIdeal.τ).loc Cert.GlaBwdIdeal.main_arg5))).2 = (fun _ => 1#1)

def Pre_GlaBwdRefIdeal (m : (ℓ : Loc Cert.GlaBwdRefIdeal.nD Cert.GlaBwdRefIdeal.τ Cert.GlaBwdRefIdeal.sig) → Buf (Elt Ideal) ℓ) : Prop :=
  True

def Pre_GlaBwdRefIdeal_finite_gates_bwd [hPre_finite_gates_bwd : Cert.Pre_finite_gates_bwd.Facts] (m : (ℓ : Loc Cert.GlaBwdRefIdeal.nD Cert.GlaBwdRefIdeal.τ Cert.GlaBwdRefIdeal.sig) → Buf (Elt Ideal) ℓ) : Prop :=
  ∀ c : Dev Cert.GlaBwdRefIdeal.nD,
    (Cert.Pre_finite_gates_bwd.fn (F := Ideal) (m ((c.tc : Thread Cert.GlaBwdRefIdeal.nD Cert.GlaBwdRefIdeal.τ).loc Cert.GlaBwdRefIdeal.main_arg0)) (m ((c.tc : Thread Cert.GlaBwdRefIdeal.nD Cert.GlaBwdRefIdeal.τ).loc Cert.GlaBwdRefIdeal.main_arg1)) (m ((c.tc : Thread Cert.GlaBwdRefIdeal.nD Cert.GlaBwdRefIdeal.τ).loc Cert.GlaBwdRefIdeal.main_arg2)) (m ((c.tc : Thread Cert.GlaBwdRefIdeal.nD Cert.GlaBwdRefIdeal.τ).loc Cert.GlaBwdRefIdeal.main_arg3)) (m ((c.tc : Thread Cert.GlaBwdRefIdeal.nD Cert.GlaBwdRefIdeal.τ).loc Cert.GlaBwdRefIdeal.main_arg4)) (m ((c.tc : Thread Cert.GlaBwdRefIdeal.nD Cert.GlaBwdRefIdeal.τ).loc Cert.GlaBwdRefIdeal.main_arg5))).1 = (fun _ => 1#1)
    ∧ (Cert.Pre_finite_gates_bwd.fn (F := Ideal) (m ((c.tc : Thread Cert.GlaBwdRefIdeal.nD Cert.GlaBwdRefIdeal.τ).loc Cert.GlaBwdRefIdeal.main_arg0)) (m ((c.tc : Thread Cert.GlaBwdRefIdeal.nD Cert.GlaBwdRefIdeal.τ).loc Cert.GlaBwdRefIdeal.main_arg1)) (m ((c.tc : Thread Cert.GlaBwdRefIdeal.nD Cert.GlaBwdRefIdeal.τ).loc Cert.GlaBwdRefIdeal.main_arg2)) (m ((c.tc : Thread Cert.GlaBwdRefIdeal.nD Cert.GlaBwdRefIdeal.τ).loc Cert.GlaBwdRefIdeal.main_arg3)) (m ((c.tc : Thread Cert.GlaBwdRefIdeal.nD Cert.GlaBwdRefIdeal.τ).loc Cert.GlaBwdRefIdeal.main_arg4)) (m ((c.tc : Thread Cert.GlaBwdRefIdeal.nD Cert.GlaBwdRefIdeal.τ).loc Cert.GlaBwdRefIdeal.main_arg5))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaIdeal_pre_finite_gates [hGlaIdeal : Cert.GlaIdeal.Facts] [hPre_finite_gates : Cert.Pre_finite_gates.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_finite_gates m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def quiescent_GlaRefIdeal_pre_finite_gates [hGlaRefIdeal : Cert.GlaRefIdeal.Facts] [hPre_finite_gates : Cert.Pre_finite_gates.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_finite_gates m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def quiescent_GlaBwd [hGlaBwd : Cert.GlaBwd.Facts] : Prop :=
  ∀ (m : (ℓ : Loc Cert.GlaBwd.nD Cert.GlaBwd.τ Cert.GlaBwd.sig) → Buf (Elt Bits) ℓ) (g : Dev Cert.GlaBwd.nD → PrngReg), Pre_GlaBwd m →
    θ_run (Cert.GlaBwd.defs (F := Bits)) (onTc (τ := Cert.GlaBwd.τ) (Cert.GlaBwd.main (F := Bits))) ⟨m, fun _ => 0, g⟩ (fun r => (∀ c : Dev Cert.GlaBwd.nD,
      r.2.mem ((c.tc : Thread Cert.GlaBwd.nD Cert.GlaBwd.τ).loc Cert.GlaBwd.main_arg0) = m ((c.tc : Thread Cert.GlaBwd.nD Cert.GlaBwd.τ).loc Cert.GlaBwd.main_arg0)
      ∧ r.2.mem ((c.tc : Thread Cert.GlaBwd.nD Cert.GlaBwd.τ).loc Cert.GlaBwd.main_arg1) = m ((c.tc : Thread Cert.GlaBwd.nD Cert.GlaBwd.τ).loc Cert.GlaBwd.main_arg1)
      ∧ r.2.mem ((c.tc : Thread Cert.GlaBwd.nD Cert.GlaBwd.τ).loc Cert.GlaBwd.main_arg2) = m ((c.tc : Thread Cert.GlaBwd.nD Cert.GlaBwd.τ).loc Cert.GlaBwd.main_arg2)
      ∧ r.2.mem ((c.tc : Thread Cert.GlaBwd.nD Cert.GlaBwd.τ).loc Cert.GlaBwd.main_arg3) = m ((c.tc : Thread Cert.GlaBwd.nD Cert.GlaBwd.τ).loc Cert.GlaBwd.main_arg3)
      ∧ r.2.mem ((c.tc : Thread Cert.GlaBwd.nD Cert.GlaBwd.τ).loc Cert.GlaBwd.main_arg4) = m ((c.tc : Thread Cert.GlaBwd.nD Cert.GlaBwd.τ).loc Cert.GlaBwd.main_arg4)
      ∧ r.2.mem ((c.tc : Thread Cert.GlaBwd.nD Cert.GlaBwd.τ).loc Cert.GlaBwd.main_arg5) = m ((c.tc : Thread Cert.GlaBwd.nD Cert.GlaBwd.τ).loc Cert.GlaBwd.main_arg5))
      ∧ r.2.sem = fun _ => 0)

def quiescent_GlaBwdIdeal [hGlaBwdIdeal : Cert.GlaBwdIdeal.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg), Pre_GlaBwdIdeal m →
    θ_run (Cert.GlaBwdIdeal.defs (F := Ideal)) (onTc (τ := Cert.GlaBwdIdeal.τ) (Cert.GlaBwdIdeal.main (F := Ideal))) ⟨m, fun _ => 0, g⟩ (fun r => (∀ c : Dev Cert.GlaBwdIdeal.nD,
      r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
      ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
      ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
      ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
      ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4)
      ∧ r.2.mem ((c.tc : Thread Cert.GlaBwdIdeal.nD Cert.GlaBwdIdeal.τ).loc Cert.GlaBwdIdeal.main_arg5) = m ((c.tc : Thread Cert.GlaBwdIdeal.nD Cert.GlaBwdIdeal.τ).loc Cert.GlaBwdIdeal.main_arg5))
      ∧ r.2.sem = fun _ => 0)

def quiescent_GlaBwdIdeal_pre_finite_gates_bwd [hGlaBwdIdeal : Cert.GlaBwdIdeal.Facts] [hPre_finite_gates_bwd : Cert.Pre_finite_gates_bwd.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg), Pre_GlaBwdIdeal_finite_gates_bwd m →
    θ_run (Cert.GlaBwdIdeal.defs (F := Ideal)) (onTc (τ := Cert.GlaBwdIdeal.τ) (Cert.GlaBwdIdeal.main (F := Ideal))) ⟨m, fun _ => 0, g⟩ (fun r => (∀ c : Dev Cert.GlaBwdIdeal.nD,
      r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
      ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
      ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
      ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
      ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4)
      ∧ r.2.mem ((c.tc : Thread Cert.GlaBwdIdeal.nD Cert.GlaBwdIdeal.τ).loc Cert.GlaBwdIdeal.main_arg5) = m ((c.tc : Thread Cert.GlaBwdIdeal.nD Cert.GlaBwdIdeal.τ).loc Cert.GlaBwdIdeal.main_arg5))
      ∧ r.2.sem = fun _ => 0)

def quiescent_GlaBwdRefIdeal [hGlaBwdRefIdeal : Cert.GlaBwdRefIdeal.Facts] : Prop :=
  ∀ (m : (ℓ : Loc Cert.GlaBwdRefIdeal.nD Cert.GlaBwdRefIdeal.τ Cert.GlaBwdRefIdeal.sig) → Buf (Elt Ideal) ℓ) (g : Dev Cert.GlaBwdRefIdeal.nD → PrngReg), Pre_GlaBwdRefIdeal m →
    θ_run (Cert.GlaBwdRefIdeal.defs (F := Ideal)) (onTc (τ := Cert.GlaBwdRefIdeal.τ) (Cert.GlaBwdRefIdeal.main (F := Ideal))) ⟨m, fun _ => 0, g⟩ (fun r => (∀ c : Dev Cert.GlaBwdRefIdeal.nD,
      r.2.mem ((c.tc : Thread Cert.GlaBwdRefIdeal.nD Cert.GlaBwdRefIdeal.τ).loc Cert.GlaBwdRefIdeal.main_arg0) = m ((c.tc : Thread Cert.GlaBwdRefIdeal.nD Cert.GlaBwdRefIdeal.τ).loc Cert.GlaBwdRefIdeal.main_arg0)
      ∧ r.2.mem ((c.tc : Thread Cert.GlaBwdRefIdeal.nD Cert.GlaBwdRefIdeal.τ).loc Cert.GlaBwdRefIdeal.main_arg1) = m ((c.tc : Thread Cert.GlaBwdRefIdeal.nD Cert.GlaBwdRefIdeal.τ).loc Cert.GlaBwdRefIdeal.main_arg1)
      ∧ r.2.mem ((c.tc : Thread Cert.GlaBwdRefIdeal.nD Cert.GlaBwdRefIdeal.τ).loc Cert.GlaBwdRefIdeal.main_arg2) = m ((c.tc : Thread Cert.GlaBwdRefIdeal.nD Cert.GlaBwdRefIdeal.τ).loc Cert.GlaBwdRefIdeal.main_arg2)
      ∧ r.2.mem ((c.tc : Thread Cert.GlaBwdRefIdeal.nD Cert.GlaBwdRefIdeal.τ).loc Cert.GlaBwdRefIdeal.main_arg3) = m ((c.tc : Thread Cert.GlaBwdRefIdeal.nD Cert.GlaBwdRefIdeal.τ).loc Cert.GlaBwdRefIdeal.main_arg3)
      ∧ r.2.mem ((c.tc : Thread Cert.GlaBwdRefIdeal.nD Cert.GlaBwdRefIdeal.τ).loc Cert.GlaBwdRefIdeal.main_arg4) = m ((c.tc : Thread Cert.GlaBwdRefIdeal.nD Cert.GlaBwdRefIdeal.τ).loc Cert.GlaBwdRefIdeal.main_arg4)
      ∧ r.2.mem ((c.tc : Thread Cert.GlaBwdRefIdeal.nD Cert.GlaBwdRefIdeal.τ).loc Cert.GlaBwdRefIdeal.main_arg5) = m ((c.tc : Thread Cert.GlaBwdRefIdeal.nD Cert.GlaBwdRefIdeal.τ).loc Cert.GlaBwdRefIdeal.main_arg5))
      ∧ r.2.sem = fun _ => 0)

def quiescent_GlaBwdRefIdeal_pre_finite_gates_bwd [hGlaBwdRefIdeal : Cert.GlaBwdRefIdeal.Facts] [hPre_finite_gates_bwd : Cert.Pre_finite_gates_bwd.Facts] : Prop :=
  ∀ (m : (ℓ : Loc Cert.GlaBwdRefIdeal.nD Cert.GlaBwdRefIdeal.τ Cert.GlaBwdRefIdeal.sig) → Buf (Elt Ideal) ℓ) (g : Dev Cert.GlaBwdRefIdeal.nD → PrngReg), Pre_GlaBwdRefIdeal_finite_gates_bwd m →
    θ_run (Cert.GlaBwdRefIdeal.defs (F := Ideal)) (onTc (τ := Cert.GlaBwdRefIdeal.τ) (Cert.GlaBwdRefIdeal.main (F := Ideal))) ⟨m, fun _ => 0, g⟩ (fun r => (∀ c : Dev Cert.GlaBwdRefIdeal.nD,
      r.2.mem ((c.tc : Thread Cert.GlaBwdRefIdeal.nD Cert.GlaBwdRefIdeal.τ).loc Cert.GlaBwdRefIdeal.main_arg0) = m ((c.tc : Thread Cert.GlaBwdRefIdeal.nD Cert.GlaBwdRefIdeal.τ).loc Cert.GlaBwdRefIdeal.main_arg0)
      ∧ r.2.mem ((c.tc : Thread Cert.GlaBwdRefIdeal.nD Cert.GlaBwdRefIdeal.τ).loc Cert.GlaBwdRefIdeal.main_arg1) = m ((c.tc : Thread Cert.GlaBwdRefIdeal.nD Cert.GlaBwdRefIdeal.τ).loc Cert.GlaBwdRefIdeal.main_arg1)
      ∧ r.2.mem ((c.tc : Thread Cert.GlaBwdRefIdeal.nD Cert.GlaBwdRefIdeal.τ).loc Cert.GlaBwdRefIdeal.main_arg2) = m ((c.tc : Thread Cert.GlaBwdRefIdeal.nD Cert.GlaBwdRefIdeal.τ).loc Cert.GlaBwdRefIdeal.main_arg2)
      ∧ r.2.mem ((c.tc : Thread Cert.GlaBwdRefIdeal.nD Cert.GlaBwdRefIdeal.τ).loc Cert.GlaBwdRefIdeal.main_arg3) = m ((c.tc : Thread Cert.GlaBwdRefIdeal.nD Cert.GlaBwdRefIdeal.τ).loc Cert.GlaBwdRefIdeal.main_arg3)
      ∧ r.2.mem ((c.tc : Thread Cert.GlaBwdRefIdeal.nD Cert.GlaBwdRefIdeal.τ).loc Cert.GlaBwdRefIdeal.main_arg4) = m ((c.tc : Thread Cert.GlaBwdRefIdeal.nD Cert.GlaBwdRefIdeal.τ).loc Cert.GlaBwdRefIdeal.main_arg4)
      ∧ r.2.mem ((c.tc : Thread Cert.GlaBwdRefIdeal.nD Cert.GlaBwdRefIdeal.τ).loc Cert.GlaBwdRefIdeal.main_arg5) = m ((c.tc : Thread Cert.GlaBwdRefIdeal.nD Cert.GlaBwdRefIdeal.τ).loc Cert.GlaBwdRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def preserves_Gla_GlaIdeal : Prop :=
  True

def algebraic_GlaIdeal_GlaRefIdeal_pre_finite_gates [hGlaIdeal : Cert.GlaIdeal.Facts] [hGlaRefIdeal : Cert.GlaRefIdeal.Facts] [hPre_finite_gates : Cert.Pre_finite_gates.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_finite_gates m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)) →
    ∃ (v0 : (c : Dev Cert.GlaIdeal.nD) → Buf (Elt Ideal) ((c.tc : Thread Cert.GlaIdeal.nD Cert.GlaIdeal.τ).loc Cert.GlaIdeal.main_v4)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v4) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v73) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3))

def preserves_GlaBwd_GlaBwdIdeal : Prop :=
  True

def algebraic_GlaBwdIdeal_GlaBwdRefIdeal_pre_finite_gates_bwd [hGlaBwdIdeal : Cert.GlaBwdIdeal.Facts] [hGlaBwdRefIdeal : Cert.GlaBwdRefIdeal.Facts] [hPre_finite_gates_bwd : Cert.Pre_finite_gates_bwd.Facts] : Prop :=
  ∀ (m : (ℓ : Loc Cert.GlaBwdIdeal.nD Cert.GlaBwdIdeal.τ Cert.GlaBwdIdeal.sig) → Buf (Elt Ideal) ℓ) (g : Dev Cert.GlaBwdIdeal.nD → PrngReg)
    (m' : (ℓ : Loc Cert.GlaBwdRefIdeal.nD Cert.GlaBwdRefIdeal.τ Cert.GlaBwdRefIdeal.sig) → Buf (Elt Ideal) ℓ) (g' : Dev Cert.GlaBwdRefIdeal.nD → PrngReg), Pre_GlaBwdIdeal_finite_gates_bwd m →
    (∀ c : Dev Cert.GlaBwdIdeal.nD,
      m' ((c.tc : Thread Cert.GlaBwdRefIdeal.nD Cert.GlaBwdRefIdeal.τ).loc Cert.GlaBwdRefIdeal.main_arg0) = m ((c.tc : Thread Cert.GlaBwdIdeal.nD Cert.GlaBwdIdeal.τ).loc Cert.GlaBwdIdeal.main_arg0)
      ∧ m' ((c.tc : Thread Cert.GlaBwdRefIdeal.nD Cert.GlaBwdRefIdeal.τ).loc Cert.GlaBwdRefIdeal.main_arg1) = m ((c.tc : Thread Cert.GlaBwdIdeal.nD Cert.GlaBwdIdeal.τ).loc Cert.GlaBwdIdeal.main_arg1)
      ∧ m' ((c.tc : Thread Cert.GlaBwdRefIdeal.nD Cert.GlaBwdRefIdeal.τ).loc Cert.GlaBwdRefIdeal.main_arg2) = m ((c.tc : Thread Cert.GlaBwdIdeal.nD Cert.GlaBwdIdeal.τ).loc Cert.GlaBwdIdeal.main_arg2)
      ∧ m' ((c.tc : Thread Cert.GlaBwdRefIdeal.nD Cert.GlaBwdRefIdeal.τ).loc Cert.GlaBwdRefIdeal.main_arg3) = m ((c.tc : Thread Cert.GlaBwdIdeal.nD Cert.GlaBwdIdeal.τ).loc Cert.GlaBwdIdeal.main_arg3)
      ∧ m' ((c.tc : Thread Cert.GlaBwdRefIdeal.nD Cert.GlaBwdRefIdeal.τ).loc Cert.GlaBwdRefIdeal.main_arg4) = m ((c.tc : Thread Cert.GlaBwdIdeal.nD Cert.GlaBwdIdeal.τ).loc Cert.GlaBwdIdeal.main_arg4)
      ∧ m' ((c.tc : Thread Cert.GlaBwdRefIdeal.nD Cert.GlaBwdRefIdeal.τ).loc Cert.GlaBwdRefIdeal.main_arg5) = m ((c.tc : Thread Cert.GlaBwdIdeal.nD Cert.GlaBwdIdeal.τ).loc Cert.GlaBwdIdeal.main_arg5)) →
    ∃ (v0 : (c : Dev Cert.GlaBwdIdeal.nD) → Buf (Elt Ideal) ((c.tc : Thread Cert.GlaBwdIdeal.nD Cert.GlaBwdIdeal.τ).loc Cert.GlaBwdIdeal.main_v6)),
      θ_run (Cert.GlaBwdIdeal.defs (F := Ideal)) (onTc (τ := Cert.GlaBwdIdeal.τ) (Cert.GlaBwdIdeal.main (F := Ideal))) ⟨m, fun _ => 0, g⟩ (fun r => ∀ c : Dev Cert.GlaBwdIdeal.nD,
          r.2.mem ((c.tc : Thread Cert.GlaBwdIdeal.nD Cert.GlaBwdIdeal.τ).loc Cert.GlaBwdIdeal.main_v6) = v0 c
          ∧ r.2.mem ((c.tc : Thread Cert.GlaBwdIdeal.nD Cert.GlaBwdIdeal.τ).loc Cert.GlaBwdIdeal.main_arg0) = m ((c.tc : Thread Cert.GlaBwdIdeal.nD Cert.GlaBwdIdeal.τ).loc Cert.GlaBwdIdeal.main_arg0)
          ∧ r.2.mem ((c.tc : Thread Cert.GlaBwdIdeal.nD Cert.GlaBwdIdeal.τ).loc Cert.GlaBwdIdeal.main_arg1) = m ((c.tc : Thread Cert.GlaBwdIdeal.nD Cert.GlaBwdIdeal.τ).loc Cert.GlaBwdIdeal.main_arg1)
          ∧ r.2.mem ((c.tc : Thread Cert.GlaBwdIdeal.nD Cert.GlaBwdIdeal.τ).loc Cert.GlaBwdIdeal.main_arg2) = m ((c.tc : Thread Cert.GlaBwdIdeal.nD Cert.GlaBwdIdeal.τ).loc Cert.GlaBwdIdeal.main_arg2)
          ∧ r.2.mem ((c.tc : Thread Cert.GlaBwdIdeal.nD Cert.GlaBwdIdeal.τ).loc Cert.GlaBwdIdeal.main_arg3) = m ((c.tc : Thread Cert.GlaBwdIdeal.nD Cert.GlaBwdIdeal.τ).loc Cert.GlaBwdIdeal.main_arg3)
          ∧ r.2.mem ((c.tc : Thread Cert.GlaBwdIdeal.nD Cert.GlaBwdIdeal.τ).loc Cert.GlaBwdIdeal.main_arg4) = m ((c.tc : Thread Cert.GlaBwdIdeal.nD Cert.GlaBwdIdeal.τ).loc Cert.GlaBwdIdeal.main_arg4)
          ∧ r.2.mem ((c.tc : Thread Cert.GlaBwdIdeal.nD Cert.GlaBwdIdeal.τ).loc Cert.GlaBwdIdeal.main_arg5) = m ((c.tc : Thread Cert.GlaBwdIdeal.nD Cert.GlaBwdIdeal.τ).loc Cert.GlaBwdIdeal.main_arg5))
      ∧ θ_run (Cert.GlaBwdRefIdeal.defs (F := Ideal)) (onTc (τ := Cert.GlaBwdRefIdeal.τ) (Cert.GlaBwdRefIdeal.main (F := Ideal))) ⟨m', fun _ => 0, g'⟩ (fun r => ∀ c : Dev Cert.GlaBwdRefIdeal.nD,
          r.2.mem ((c.tc : Thread Cert.GlaBwdRefIdeal.nD Cert.GlaBwdRefIdeal.τ).loc Cert.GlaBwdRefIdeal.main_v107) = v0 c
          ∧ r.2.mem ((c.tc : Thread Cert.GlaBwdRefIdeal.nD Cert.GlaBwdRefIdeal.τ).loc Cert.GlaBwdRefIdeal.main_arg0) = m' ((c.tc : Thread Cert.GlaBwdRefIdeal.nD Cert.GlaBwdRefIdeal.τ).loc Cert.GlaBwdRefIdeal.main_arg0)
          ∧ r.2.mem ((c.tc : Thread Cert.GlaBwdRefIdeal.nD Cert.GlaBwdRefIdeal.τ).loc Cert.GlaBwdRefIdeal.main_arg1) = m' ((c.tc : Thread Cert.GlaBwdRefIdeal.nD Cert.GlaBwdRefIdeal.τ).loc Cert.GlaBwdRefIdeal.main_arg1)
          ∧ r.2.mem ((c.tc : Thread Cert.GlaBwdRefIdeal.nD Cert.GlaBwdRefIdeal.τ).loc Cert.GlaBwdRefIdeal.main_arg2) = m' ((c.tc : Thread Cert.GlaBwdRefIdeal.nD Cert.GlaBwdRefIdeal.τ).loc Cert.GlaBwdRefIdeal.main_arg2)
          ∧ r.2.mem ((c.tc : Thread Cert.GlaBwdRefIdeal.nD Cert.GlaBwdRefIdeal.τ).loc Cert.GlaBwdRefIdeal.main_arg3) = m' ((c.tc : Thread Cert.GlaBwdRefIdeal.nD Cert.GlaBwdRefIdeal.τ).loc Cert.GlaBwdRefIdeal.main_arg3)
          ∧ r.2.mem ((c.tc : Thread Cert.GlaBwdRefIdeal.nD Cert.GlaBwdRefIdeal.τ).loc Cert.GlaBwdRefIdeal.main_arg4) = m' ((c.tc : Thread Cert.GlaBwdRefIdeal.nD Cert.GlaBwdRefIdeal.τ).loc Cert.GlaBwdRefIdeal.main_arg4)
          ∧ r.2.mem ((c.tc : Thread Cert.GlaBwdRefIdeal.nD Cert.GlaBwdRefIdeal.τ).loc Cert.GlaBwdRefIdeal.main_arg5) = m' ((c.tc : Thread Cert.GlaBwdRefIdeal.nD Cert.GlaBwdRefIdeal.τ).loc Cert.GlaBwdRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v36)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v36) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v69) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v27_0)) (v1 : (c : Dev Cert.InprojIdeal.nD) → Buf (Elt Ideal) ((c.tc : Thread Cert.InprojIdeal.nD Cert.InprojIdeal.τ).loc Cert.InprojIdeal.main_v27_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v27_0) = v0 c
          ∧ r.2.mem ((c.tc : Thread Cert.InprojIdeal.nD Cert.InprojIdeal.τ).loc Cert.InprojIdeal.main_v27_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v43) = v0 c
          ∧ r.2.mem ((c.tc : Thread Cert.InprojRefIdeal.nD Cert.InprojRefIdeal.τ).loc Cert.InprojRefIdeal.main_v44) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def Claim : Prop :=
  ∃ (hGla : Cert.Gla.Facts) (hGlaIdeal : Cert.GlaIdeal.Facts) (hGlaRefIdeal : Cert.GlaRefIdeal.Facts) (hGlaBwd : Cert.GlaBwd.Facts) (hGlaBwdIdeal : Cert.GlaBwdIdeal.Facts) (hGlaBwdRefIdeal : Cert.GlaBwdRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hPre_finite_gates : Cert.Pre_finite_gates.Facts) (hPre_finite_gates_bwd : Cert.Pre_finite_gates_bwd.Facts),
    quiescent_Gla (hGla := hGla)
    ∧ quiescent_GlaIdeal (hGlaIdeal := hGlaIdeal)
    ∧ quiescent_GlaIdeal_pre_finite_gates (hGlaIdeal := hGlaIdeal) (hPre_finite_gates := hPre_finite_gates)
    ∧ quiescent_GlaRefIdeal (hGlaRefIdeal := hGlaRefIdeal)
    ∧ quiescent_GlaRefIdeal_pre_finite_gates (hGlaRefIdeal := hGlaRefIdeal) (hPre_finite_gates := hPre_finite_gates)
    ∧ quiescent_GlaBwd (hGlaBwd := hGlaBwd)
    ∧ quiescent_GlaBwdIdeal (hGlaBwdIdeal := hGlaBwdIdeal)
    ∧ quiescent_GlaBwdIdeal_pre_finite_gates_bwd (hGlaBwdIdeal := hGlaBwdIdeal) (hPre_finite_gates_bwd := hPre_finite_gates_bwd)
    ∧ quiescent_GlaBwdRefIdeal (hGlaBwdRefIdeal := hGlaBwdRefIdeal)
    ∧ quiescent_GlaBwdRefIdeal_pre_finite_gates_bwd (hGlaBwdRefIdeal := hGlaBwdRefIdeal) (hPre_finite_gates_bwd := hPre_finite_gates_bwd)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ preserves_Gla_GlaIdeal
    ∧ algebraic_GlaIdeal_GlaRefIdeal_pre_finite_gates (hGlaIdeal := hGlaIdeal) (hGlaRefIdeal := hGlaRefIdeal) (hPre_finite_gates := hPre_finite_gates)
    ∧ preserves_GlaBwd_GlaBwdIdeal
    ∧ algebraic_GlaBwdIdeal_GlaBwdRefIdeal_pre_finite_gates_bwd (hGlaBwdIdeal := hGlaBwdIdeal) (hGlaBwdRefIdeal := hGlaBwdRefIdeal) (hPre_finite_gates_bwd := hPre_finite_gates_bwd)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
-- ==== Pre_finite_gates.lean ====
abbrev S65536x5120 : Shape := ⟨2, ![65536, 5120]⟩
abbrev S65536x512 : Shape := ⟨2, ![65536, 512]⟩
abbrev S1x16x256 : Shape := ⟨3, ![1, 16, 256]⟩
abbrev S1x256 : Shape := ⟨2, ![1, 256]⟩
abbrev S65536x16 : Shape := ⟨2, ![65536, 16]⟩
abbrev S_ : Shape := ⟨0, ![]⟩

class Facts : Prop where
  slices_S65536x512_S65536x16_0_256 : S65536x512.Slices ![0, 256] S65536x16
  bcast_S_S65536x16 : S_.BroadcastsInDim S65536x16 (![] : Fin 0 → Fin S65536x16.rank)
  bcast_S_S1x16x256 : S_.BroadcastsInDim S1x16x256 (![] : Fin 0 → Fin S1x16x256.rank)

variable [Facts]

def fn {F : FTy → Type} [FloatOps F] (main_arg0 : FVec F S65536x5120 .bf16) (main_arg1 : FVec F S65536x512 .f32) (main_arg2 : FVec F S1x16x256 .f32) (main_arg3 : FVec F S1x256 .f32) : IVec S65536x16 1 × IVec S1x16x256 1 :=
  let main_v0 : FVec F S65536x16 .f32 := (extractStridedSlice S65536x16 ![0, 256] · slices_S65536x512_S65536x16_0_256) main_arg1
  let main_v1 : FVec F S65536x16 .f32 := Host.absf main_v0
  let main_cst : FVec F S_ .f32 := constant S_ .f32 0x7F800000#32
  let main_v2 : FVec F S65536x16 .f32 := broadcastInDim S65536x16 ![] bcast_S_S65536x16 main_cst
  let main_v3 : IVec S65536x16 1 := cmpf .olt main_v1 main_v2
  let main_v4 : FVec F S1x16x256 .f32 := Host.absf main_arg2
  let main_cst_0 : FVec F S_ .f32 := constant S_ .f32 0x7F800000#32
  let main_v5 : FVec F S1x16x256 .f32 := broadcastInDim S1x16x256 ![] bcast_S_S1x16x256 main_cst_0
  let main_v6 : IVec S1x16x256 1 := cmpf .olt main_v4 main_v5
  (main_v3, main_v6)
-- ==== Pre_finite_gates_bwd.lean ====
abbrev S65536x5120 : Shape := ⟨2, ![65536, 5120]⟩
abbrev S65536x512 : Shape := ⟨2, ![65536, 512]⟩
abbrev S1x16x256 : Shape := ⟨3, ![1, 16, 256]⟩
abbrev S1x256 : Shape := ⟨2, ![1, 256]⟩
abbrev S1x512 : Shape := ⟨2, ![1, 512]⟩
abbrev S65536x16 : Shape := ⟨2, ![65536, 16]⟩
abbrev S_ : Shape := ⟨0, ![]⟩

class Facts : Prop where
  slices_S65536x512_S65536x16_0_272 : S65536x512.Slices ![0, 272] S65536x16
  bcast_S_S65536x16 : S_.BroadcastsInDim S65536x16 (![] : Fin 0 → Fin S65536x16.rank)
  bcast_S_S1x16x256 : S_.BroadcastsInDim S1x16x256 (![] : Fin 0 → Fin S1x16x256.rank)

variable [Facts]

def fn {F : FTy → Type} [FloatOps F] (main_arg0 : FVec F S65536x5120 .bf16) (main_arg1 : FVec F S65536x512 .f32) (main_arg2 : FVec F S1x16x256 .f32) (main_arg3 : FVec F S1x256 .f32) (main_arg4 : FVec F S65536x512 .f32) (main_arg5 : FVec F S1x512 .f32) : IVec S65536x16 1 × IVec S1x16x256 1 :=
  let main_v0 : FVec F S65536x16 .f32 := (extractStridedSlice S65536x16 ![0, 272] · slices_S65536x512_S65536x16_0_272) main_arg1
  let main_v1 : FVec F S65536x16 .f32 := Host.absf main_v0
  let main_cst : FVec F S_ .f32 := constant S_ .f32 0x7F800000#32
  let main_v2 : FVec F S65536x16 .f32 := broadcastInDim S65536x16 ![] bcast_S_S65536x16 main_cst
  let main_v3 : IVec S65536x16 1 := cmpf .olt main_v1 main_v2
  let main_v4 : FVec F S1x16x256 .f32 := Host.absf main_arg2
  let main_cst_0 : FVec F S_ .f32 := constant S_ .f32 0x7F800000#32
  let main_v5 : FVec F S1x16x256 .f32 := broadcastInDim S1x16x256 ![] bcast_S_S1x16x256 main_cst_0
  let main_v6 : IVec S1x16x256 1 := cmpf .olt main_v4 main_v5
  (main_v3, main_v6)
-- ==== Gla.lean ====
abbrev S65536x5120 : Shape := ⟨2, ![65536, 5120]⟩
abbrev S65536x512 : Shape := ⟨2, ![65536, 512]⟩
abbrev S1x16x256 : Shape := ⟨3, ![1, 16, 256]⟩
abbrev S1x256 : Shape := ⟨2, ![1, 256]⟩
abbrev S16x256 : Shape := ⟨2, ![16, 256]⟩
abbrev S_ : Shape := ⟨0, ![]⟩
abbrev S256x256 : Shape := ⟨2, ![256, 256]⟩
abbrev S256 : Shape := ⟨1, ![256]⟩
abbrev S2048x512 : Shape := ⟨2, ![2048, 512]⟩
abbrev S2048x256 : Shape := ⟨2, ![2048, 256]⟩
abbrev S512x256 : Shape := ⟨2, ![512, 256]⟩
abbrev S64x256 : Shape := ⟨2, ![64, 256]⟩
abbrev S64x512 : Shape := ⟨2, ![64, 512]⟩
abbrev S256x512 : Shape := ⟨2, ![256, 512]⟩

abbrev nBuf : Space → Nat
  | .hbm => 11
  | .vmem => 12
  | .smem => 0
  | _ => 0

abbrev bufTy : (tb : Table) → Fin (tcTables nBuf tb) → BufTy
  | .hbm, ⟨0, _⟩ => ⟨S65536x5120, .bf16⟩
  | .hbm, ⟨1, _⟩ => ⟨S65536x512, .f32⟩
  | .hbm, ⟨2, _⟩ => ⟨S1x16x256, .f32⟩
  | .hbm, ⟨3, _⟩ => ⟨S1x256, .f32⟩
  | .hbm, ⟨4, _⟩ => ⟨S16x256, .f32⟩
  | .hbm, ⟨5, _⟩ => ⟨S_, .i32⟩
  | .hbm, ⟨6, _⟩ => ⟨S_, .f32⟩
  | .hbm, ⟨7, _⟩ => ⟨S256x256, .f32⟩
  | .hbm, ⟨8, _⟩ => ⟨S256, .f32⟩
  | .hbm, ⟨9, _⟩ => ⟨S1x256, .f32⟩
  | .hbm, ⟨10, _⟩ => ⟨S65536x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x256, .f32⟩
  | .local _ .vmem, ⟨5, _⟩ => ⟨S2048x256, .f32⟩
  | .local _ .vmem, ⟨6, _⟩ => ⟨S256x256, .f32⟩
  | .local _ .vmem, ⟨7, _⟩ => ⟨S1x256, .f32⟩
  | .local _ .vmem, ⟨8, _⟩ => ⟨S2048x512, .f32⟩
  | .local _ .vmem, ⟨9, _⟩ => ⟨S2048x512, .f32⟩
  | .local _ .vmem, ⟨10, _⟩ => ⟨S512x256, .f32⟩
  | .local _ .vmem, ⟨11, _⟩ => ⟨S2048x256, .f32⟩
  | _, _ => ⟨S65536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GlaRefIdeal.lean ====
abbrev S65536x5120 : Shape := ⟨2, ![65536, 5120]⟩
abbrev S65536x512 : Shape := ⟨2, ![65536, 512]⟩
abbrev S1x16x256 : Shape := ⟨3, ![1, 16, 256]⟩
abbrev S1x256 : Shape := ⟨2, ![1, 256]⟩
abbrev S65536x256 : Shape := ⟨2, ![65536, 256]⟩
abbrev S32x2048x4x64 : Shape := ⟨4, ![32, 2048, 4, 64]⟩
abbrev S_ : Shape := ⟨0, ![]⟩
abbrev S32x2048x4x128 : Shape := ⟨4, ![32, 2048, 4, 128]⟩
abbrev S65536x16 : Shape := ⟨2, ![65536, 16]⟩
abbrev S32x2048x16 : Shape := ⟨3, ![32, 2048, 16]⟩
abbrev S16x256 : Shape := ⟨2, ![16, 256]⟩
abbrev S32x2048x256 : Shape := ⟨3, ![32, 2048, 256]⟩
abbrev S256 : Shape := ⟨1, ![256]⟩
abbrev S1x1x256 : Shape := ⟨3, ![1, 1, 256]⟩
abbrev S32x32x64x4x64 : Shape := ⟨5, ![32, 32, 64, 4, 64]⟩
abbrev S32x32x64x4x128 : Shape := ⟨5, ![32, 32, 64, 4, 128]⟩
abbrev S32x32x1x4x64 : Shape := ⟨5, ![32, 32, 1, 4, 64]⟩
abbrev S32x32x4x64x64 : Shape := ⟨5, ![32, 32, 4, 64, 64]⟩
abbrev S64x64 : Shape := ⟨2, ![64, 64]⟩
abbrev S32x32x4x128x64 : Shape := ⟨5, ![32, 32, 4, 128, 64]⟩
abbrev S32x32x4x64x128 : Shape := ⟨5, ![32, 32, 4, 64, 128]⟩
abbrev S32x32x4x64 : Shape := ⟨4, ![32, 32, 4, 64]⟩
abbrev S32x4x64x128 : Shape := ⟨4, ![32, 4, 64, 128]⟩
abbrev S1x32x4x64 : Shape := ⟨4, ![1, 32, 4, 64]⟩
abbrev S32x4x64 : Shape := ⟨3, ![32, 4, 64]⟩
abbrev S1x32x4x64x128 : Shape := ⟨5, ![1, 32, 4, 64, 128]⟩
abbrev S1x32x64x4x64 : Shape := ⟨5, ![1, 32, 64, 4, 64]⟩
abbrev S32x64x4x64 : Shape := ⟨4, ![32, 64, 4, 64]⟩
abbrev S1x32x64x4x128 : Shape := ⟨5, ![1, 32, 64, 4, 128]⟩
abbrev S32x64x4x128 : Shape := ⟨4, ![32, 64, 4, 128]⟩
abbrev S32x4x64x1 : Shape := ⟨4, ![32, 4, 64, 1]⟩
abbrev S32x4x128x64 : Shape := ⟨4, ![32, 4, 128, 64]⟩

abbrev nBuf : Space → Nat
  | .hbm => 145
  | .vmem => 0
  | .smem => 0
  | _ => 0

abbrev hbmTy0_0 (i : Nat) : BufTy := match i % 128 with
  | 0 => ⟨S65536x5120, .bf16⟩
  | 1 => ⟨S65536x512, .f32⟩
  | 2 => ⟨S1x16x256, .f32⟩
  | 3 => ⟨S1x256, .f32⟩
  | 4 => ⟨S65536x5120, .f32⟩
  | 5 => ⟨S65536x256, .f32⟩
  | 6 => ⟨S32x2048x4x64, .f32⟩
  | 7 => ⟨S_, .f32⟩
  | 8 => ⟨S32x2048x4x64, .f32⟩
  | 9 => ⟨S32x2048x4x64, .f32⟩
  | 10 => ⟨S65536x256, .f32⟩
  | 11 => ⟨S32x2048x4x64, .f32⟩
  | 12 => ⟨S65536x512, .f32⟩
  | 13 => ⟨S32x2048x4x128, .f32⟩
  | 14 => ⟨S65536x16, .f32⟩
  | 15 => ⟨S32x2048x16, .f32⟩
  | 16 => ⟨S16x256, .f32⟩
  | 17 => ⟨S32x2048x256, .f32⟩
  | 18 => ⟨S256, .f32⟩
  | 19 => ⟨S1x1x256, .f32⟩
  | 20 => ⟨S32x2048x256, .f32⟩
  | 21 => ⟨S32x2048x256, .f32⟩
  | 22 => ⟨S32x2048x256, .f32⟩
  | 23 => ⟨S_, .f32⟩
  | 24 => ⟨S32x2048x256, .f32⟩
  | 25 => ⟨S32x2048x256, .f32⟩
  | 26 => ⟨S32x2048x256, .f32⟩
  | 27 => ⟨S32x2048x256, .f32⟩
  | 28 => ⟨S32x2048x256, .i1⟩
  | 29 => ⟨S32x2048x256, .f32⟩
  | 30 => ⟨S32x2048x256, .f32⟩
  | 31 => ⟨S32x2048x256, .f32⟩
  | 32 => ⟨S32x2048x256, .f32⟩
  | 33 => ⟨S32x2048x256, .f32⟩
  | 34 => ⟨S32x2048x256, .f32⟩
  | 35 => ⟨S32x2048x256, .f32⟩
  | 36 => ⟨S32x2048x256, .f32⟩
  | 37 => ⟨S32x2048x256, .f32⟩
  | 38 => ⟨S_, .f32⟩
  | 39 => ⟨S32x2048x256, .f32⟩
  | 40 => ⟨S32x2048x256, .f32⟩
  | 41 => ⟨S32x2048x4x64, .f32⟩
  | 42 => ⟨S32x32x64x4x64, .f32⟩
  | 43 => ⟨S32x32x64x4x64, .f32⟩
  | 44 => ⟨S32x32x64x4x128, .f32⟩
  | 45 => ⟨S32x32x64x4x64, .f32⟩
  | 46 => ⟨S_, .f32⟩
  | 47 => ⟨S_, .f32⟩
  | 48 => ⟨S32x32x64x4x64, .f32⟩
  | 49 => ⟨S32x32x1x4x64, .f32⟩
  | 50 => ⟨S32x32x64x4x64, .f32⟩
  | 51 => ⟨S32x32x64x4x64, .f32⟩
  | 52 => ⟨S32x32x64x4x64, .f32⟩
  | 53 => ⟨S32x32x64x4x64, .f32⟩
  | 54 => ⟨S32x32x64x4x64, .f32⟩
  | 55 => ⟨S32x32x64x4x64, .f32⟩
  | 56 => ⟨S32x32x64x4x64, .f32⟩
  | 57 => ⟨S32x32x64x4x64, .f32⟩
  | 58 => ⟨S32x32x4x64x64, .f32⟩
  | 59 => ⟨S_, .i1⟩
  | 60 => ⟨S64x64, .i1⟩
  | 61 => ⟨S64x64, .i32⟩
  | 62 => ⟨S_, .i32⟩
  | 63 => ⟨S64x64, .i32⟩
  | 64 => ⟨S64x64, .i32⟩
  | 65 => ⟨S64x64, .i32⟩
  | 66 => ⟨S64x64, .i1⟩
  | 67 => ⟨S_, .i1⟩
  | 68 => ⟨S64x64, .i1⟩
  | 69 => ⟨S64x64, .i1⟩
  | 70 => ⟨S_, .f32⟩
  | 71 => ⟨S_, .f32⟩
  | 72 => ⟨S32x32x4x64x64, .i1⟩
  | 73 => ⟨S32x32x4x64x64, .f32⟩
  | 74 => ⟨S32x32x4x64x64, .f32⟩
  | 75 => ⟨S32x32x4x128x64, .f32⟩
  | 76 => ⟨S32x32x64x4x128, .f32⟩
  | 77 => ⟨S32x32x1x4x64, .f32⟩
  | 78 => ⟨S32x32x64x4x64, .f32⟩
  | 79 => ⟨S32x32x64x4x64, .f32⟩
  | 80 => ⟨S32x32x64x4x64, .f32⟩
  | 81 => ⟨S32x32x64x4x64, .f32⟩
  | 82 => ⟨S32x32x4x64x128, .f32⟩
  | 83 => ⟨S32x32x4x64, .f32⟩
  | 84 => ⟨S32x32x4x64, .f32⟩
  | 85 => ⟨S32x32x64x4x64, .f32⟩
  | 86 => ⟨S32x32x64x4x64, .f32⟩
  | 87 => ⟨S_, .f32⟩
  | 88 => ⟨S32x4x64x128, .f32⟩
  | 89 => ⟨S32x32x4x64, .f32⟩
  | 90 => ⟨S32x32x4x64x128, .f32⟩
  | 91 => ⟨S32x32x64x4x64, .f32⟩
  | 92 => ⟨S32x32x64x4x128, .f32⟩
  | 93 => ⟨S_, .f32⟩
  | 94 => ⟨S32x32x64x4x128, .f32⟩
  | 95 => ⟨S_, .i32⟩
  | 96 => ⟨S32x32x4x64, .f32⟩
  | 97 => ⟨S32x32x4x64x128, .f32⟩
  | 98 => ⟨S32x32x64x4x64, .f32⟩
  | 99 => ⟨S32x32x64x4x128, .f32⟩
  | 100 => ⟨S_, .i32⟩
  | 101 => ⟨S32x4x64x128, .f32⟩
  | 102 => ⟨S32x32x64x4x128, .f32⟩
  | 103 => ⟨S_, .i32⟩
  | 104 => ⟨S_, .i1⟩
  | 105 => ⟨S_, .i32⟩
  | 106 => ⟨S_, .i32⟩
  | 107 => ⟨S_, .i32⟩
  | 108 => ⟨S1x32x4x64, .f32⟩
  | 109 => ⟨S32x4x64, .f32⟩
  | 110 => ⟨S_, .i32⟩
  | 111 => ⟨S_, .i32⟩
  | 112 => ⟨S_, .i32⟩
  | 113 => ⟨S_, .i32⟩
  | 114 => ⟨S1x32x4x64x128, .f32⟩
  | 115 => ⟨S32x4x64x128, .f32⟩
  | 116 => ⟨S_, .i32⟩
  | 117 => ⟨S_, .i32⟩
  | 118 => ⟨S_, .i32⟩
  | 119 => ⟨S_, .i32⟩
  | 120 => ⟨S1x32x64x4x64, .f32⟩
  | 121 => ⟨S32x64x4x64, .f32⟩
  | 122 => ⟨S_, .i32⟩
  | 123 => ⟨S_, .i32⟩
  | 124 => ⟨S_, .i32⟩
  | 125 => ⟨S_, .i32⟩
  | 126 => ⟨S1x32x64x4x128, .f32⟩
  | 127 => ⟨S32x64x4x128, .f32⟩
  | _ => ⟨S65536x5120, .bf16⟩

abbrev hbmTy0_1 (i : Nat) : BufTy := match i % 128 with
  | 0 => ⟨S32x4x64x1, .f32⟩
  | 1 => ⟨S32x4x64x128, .f32⟩
  | 2 => ⟨S32x4x64x128, .f32⟩
  | 3 => ⟨S32x4x64x128, .f32⟩
  | 4 => ⟨S32x4x128x64, .f32⟩
  | 5 => ⟨S32x64x4x128, .f32⟩
  | 6 => ⟨S32x64x4x128, .f32⟩
  | 7 => ⟨S1x32x64x4x128, .f32⟩
  | 8 => ⟨S_, .i32⟩
  | 9 => ⟨S_, .i32⟩
  | 10 => ⟨S_, .i32⟩
  | 11 => ⟨S_, .i32⟩
  | 12 => ⟨S32x32x64x4x128, .f32⟩
  | 13 => ⟨S_, .i32⟩
  | 14 => ⟨S_, .i32⟩
  | 15 => ⟨S32x32x64x4x128, .f32⟩
  | 16 => ⟨S65536x512, .f32⟩
  | _ => ⟨S65536x5120, .bf16⟩

abbrev hbmTy (i : Nat) : BufTy := match i / 128 with
  | 0 => hbmTy0_0 i
  | 1 => hbmTy0_1 i
  | _ => ⟨S65536x5120, .bf16⟩

abbrev bufTy : (tb : Table) → Fin (tcTables nBuf tb) → BufTy
  | .hbm, ⟨i, _⟩ => hbmTy i
  | _, _ => ⟨S65536x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_call0_call0_cst : Ref sig .tc := ⟨.hbm, 46, rfl⟩
abbrev main_call0_call0_v0 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_c : Ref sig .tc := ⟨.hbm, 59, rfl⟩
abbrev main_v50 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_0 : Ref sig .tc := ⟨.hbm, 67, rfl⟩
abbrev main_call1_v5 : Ref sig .tc := ⟨.hbm, 68, rfl⟩
abbrev main_v51 : Ref sig .tc := ⟨.hbm, 69, rfl⟩
abbrev main_cst_2 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_3 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_4 : Ref sig .tc := ⟨.hbm, 93, rfl⟩
abbrev main_v70 : Ref sig .tc := ⟨.hbm, 94, rfl⟩
abbrev main_c_5 : Ref sig .tc := ⟨.hbm, 95, rfl⟩
abbrev main_v71_0 : Ref sig .tc := ⟨.hbm, 96, rfl⟩
abbrev main_v71_1 : Ref sig .tc := ⟨.hbm, 97, rfl⟩
abbrev main_v71_2 : Ref sig .tc := ⟨.hbm, 98, rfl⟩
abbrev main_v71_3 : Ref sig .tc := ⟨.hbm, 99, rfl⟩
abbrev main_v71_4 : Ref sig .tc := ⟨.hbm, 100, rfl⟩
abbrev main_v71_5 : Ref sig .tc := ⟨.hbm, 101, rfl⟩
abbrev main_v71_6 : Ref sig .tc := ⟨.hbm, 102, rfl⟩
abbrev main_while0c_c_12 : Ref sig .tc := ⟨.hbm, 103, rfl⟩
abbrev main_while0c_v74 : Ref sig .tc := ⟨.hbm, 104, rfl⟩
abbrev main_while0b_call3_c : Ref sig .tc := ⟨.hbm, 105, rfl⟩
abbrev main_while0b_call3_c_0 : Ref sig .tc := ⟨.hbm, 106, rfl⟩
abbrev main_while0b_call3_c_1 : Ref sig .tc := ⟨.hbm, 107, rfl⟩
abbrev main_while0b_call3_v0 : Ref sig .tc := ⟨.hbm, 108, rfl⟩
abbrev main_while0b_v74 : Ref sig .tc := ⟨.hbm, 109, rfl⟩
abbrev main_while0b_call4_c : Ref sig .tc := ⟨.hbm, 110, rfl⟩
abbrev main_while0b_call4_c_0 : Ref sig .tc := ⟨.hbm, 111, rfl⟩
abbrev main_while0b_call4_c_1 : Ref sig .tc := ⟨.hbm, 112, rfl⟩
abbrev main_while0b_call4_c_2 : Ref sig .tc := ⟨.hbm, 113, rfl⟩
abbrev main_while0b_call4_v0 : Ref sig .tc := ⟨.hbm, 114, rfl⟩
abbrev main_while0b_v75 : Ref sig .tc := ⟨.hbm, 115, rfl⟩
abbrev main_while0b_call5_c : Ref sig .tc := ⟨.hbm, 116, rfl⟩
abbrev main_while0b_call5_c_0 : Ref sig .tc := ⟨.hbm, 117, rfl⟩
abbrev main_while0b_call5_c_1 : Ref sig .tc := ⟨.hbm, 118, rfl⟩
abbrev main_while0b_call5_c_2 : Ref sig .tc := ⟨.hbm, 119, rfl⟩
abbrev main_while0b_call5_v0 : Ref sig .tc := ⟨.hbm, 120, rfl⟩
abbrev main_while0b_v76 : Ref sig .tc := ⟨.hbm, 121, rfl⟩
abbrev main_while0b_call6_c : Ref sig .tc := ⟨.hbm, 122, rfl⟩
abbrev main_while0b_call6_c_0 : Ref sig .tc := ⟨.hbm, 123, rfl⟩
abbrev main_while0b_call6_c_1 : Ref sig .tc := ⟨.hbm, 124, rfl⟩
abbrev main_while0b_call6_c_2 : Ref sig .tc := ⟨.hbm, 125, rfl⟩
abbrev main_while0b_call6_v0 : Ref sig .tc := ⟨.hbm, 126, rfl⟩
abbrev main_while0b_v77 : Ref sig .tc := ⟨.hbm, 127, rfl⟩
abbrev main_while0b_v78 : Ref sig .tc := ⟨.hbm, 128, rfl⟩
abbrev main_while0b_v79 : Ref sig .tc := ⟨.hbm, 129, rfl⟩
abbrev main_while0b_v80 : Ref sig .tc := ⟨.hbm, 130, rfl⟩
abbrev main_while0b_v81 : Ref sig .tc := ⟨.hbm, 131, rfl⟩
abbrev main_while0b_v82 : Ref sig .tc := ⟨.hbm, 132, rfl⟩
abbrev main_while0b_v83 : Ref sig .tc := ⟨.hbm, 133, rfl⟩
abbrev main_while0b_v84 : Ref sig .tc := ⟨.hbm, 134, rfl⟩
abbrev main_while0b_call7_v0 : Ref sig .tc := ⟨.hbm, 135, rfl⟩
abbrev main_while0b_call7_c : Ref sig .tc := ⟨.hbm, 136, rfl⟩
abbrev main_while0b_call7_c_0 : Ref sig .tc := ⟨.hbm, 137, rfl⟩
abbrev main_while0b_call7_c_1 : Ref sig .tc := ⟨.hbm, 138, rfl⟩
abbrev main_while0b_call7_c_2 : Ref sig .tc := ⟨.hbm, 139, rfl⟩
abbrev main_while0b_v85 : Ref sig .tc := ⟨.hbm, 140, rfl⟩
abbrev main_while0b_c_12 : Ref sig .tc := ⟨.hbm, 141, rfl⟩
abbrev main_while0b_v86 : Ref sig .tc := ⟨.hbm, 142, rfl⟩
abbrev main_v72 : Ref sig .tc := ⟨.hbm, 143, rfl⟩
abbrev main_v73 : Ref sig .tc := ⟨.hbm, 144, rfl⟩

abbrev nD : Nat := 1
abbrev τ : Topo := Topo.v7x

variable {F : FTy → Type} [FloatOps F]

abbrev main_while0_count : Scf.Loop 32 := ⟨0#32, 32#32, 1#32⟩
-- ==== GlaBwd.lean ====
abbrev S65536x5120 : Shape := ⟨2, ![65536, 5120]⟩
abbrev S65536x512 : Shape := ⟨2, ![65536, 512]⟩
abbrev S1x16x256 : Shape := ⟨3, ![1, 16, 256]⟩
abbrev S1x256 : Shape := ⟨2, ![1, 256]⟩
abbrev S1x512 : Shape := ⟨2, ![1, 512]⟩
abbrev S16x256 : Shape := ⟨2, ![16, 256]⟩
abbrev S_ : Shape := ⟨0, ![]⟩
abbrev S256x256 : Shape := ⟨2, ![256, 256]⟩
abbrev S256 : Shape := ⟨1, ![256]⟩
abbrev S512 : Shape := ⟨1, ![512]⟩
abbrev S2048x512 : Shape := ⟨2, ![2048, 512]⟩
abbrev S2048x256 : Shape := ⟨2, ![2048, 256]⟩
abbrev S512x256 : Shape := ⟨2, ![512, 256]⟩
abbrev S64x256 : Shape := ⟨2, ![64, 256]⟩
abbrev S64x512 : Shape := ⟨2, ![64, 512]⟩
abbrev S256x512 : Shape := ⟨2, ![256, 512]⟩
abbrev S2048x128 : Shape := ⟨2, ![2048, 128]⟩
abbrev S2048 : Shape := ⟨1, ![2048]⟩
abbrev S2048x1 : Shape := ⟨2, ![2048, 1]⟩

abbrev nBuf : Space → Nat
  | .hbm => 15
  | .vmem => 18
  | .smem => 0
  | _ => 0

abbrev bufTy : (tb : Table) → Fin (tcTables nBuf tb) → BufTy
  | .hbm, ⟨0, _⟩ => ⟨S65536x5120, .bf16⟩
  | .hbm, ⟨1, _⟩ => ⟨S65536x512, .f32⟩
  | .hbm, ⟨2, _⟩ => ⟨S1x16x256, .f32⟩
  | .hbm, ⟨3, _⟩ => ⟨S1x256, .f32⟩
  | .hbm, ⟨4, _⟩ => ⟨S65536x512, .f32⟩
  | .hbm, ⟨5, _⟩ => ⟨S1x512, .f32⟩
  | .hbm, ⟨6, _⟩ => ⟨S16x256, .f32⟩
  | .hbm, ⟨7, _⟩ => ⟨S_, .i32⟩
  | .hbm, ⟨8, _⟩ => ⟨S_, .f32⟩
  | .hbm, ⟨9, _⟩ => ⟨S256x256, .f32⟩
  | .hbm, ⟨10, _⟩ => ⟨S256, .f32⟩
  | .hbm, ⟨11, _⟩ => ⟨S1x256, .f32⟩
  | .hbm, ⟨12, _⟩ => ⟨S512, .f32⟩
  | .hbm, ⟨13, _⟩ => ⟨S1x512, .f32⟩
  | .hbm, ⟨14, _⟩ => ⟨S65536x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x256, .f32⟩
  | .local _ .vmem, ⟨5, _⟩ => ⟨S2048x256, .f32⟩
  | .local _ .vmem, ⟨6, _⟩ => ⟨S256x256, .f32⟩
  | .local _ .vmem, ⟨7, _⟩ => ⟨S1x256, .f32⟩
  | .local _ .vmem, ⟨8, _⟩ => ⟨S2048x512, .f32⟩
  | .local _ .vmem, ⟨9, _⟩ => ⟨S2048x512, .f32⟩
  | .local _ .vmem, ⟨10, _⟩ => ⟨S2048x512, .bf16⟩
  | .local _ .vmem, ⟨11, _⟩ => ⟨S2048x512, .bf16⟩
  | .local _ .vmem, ⟨12, _⟩ => ⟨S1x512, .f32⟩
  | .local _ .vmem, ⟨13, _⟩ => ⟨S2048x512, .f32⟩
  | .local _ .vmem, ⟨14, _⟩ => ⟨S2048x512, .f32⟩
  | .local _ .vmem, ⟨15, _⟩ => ⟨S512x256, .f32⟩
  | .local _ .vmem, ⟨16, _⟩ => ⟨S2048x256, .f32⟩
  | .local _ .vmem, ⟨17, _⟩ => ⟨S2048x512, .f32⟩
  | _, _ => ⟨S65536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.subi c0_i32 arg1
  let v2 : BitVec 32 := Scalar.addi v0 v1
  let c4_i32 : BitVec 32 := 4#32
  let c0_i32_0 : BitVec 32 := 0#32
  ![v2.toNat, c4_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.subi c0_i32 arg1
  let v2 : BitVec 32 := Scalar.addi v0 v1
  let c5_i32 : BitVec 32 := 5#32
  let c0_i32_0 : BitVec 32 := 0#32
  ![v2.toNat, c5_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.subi c0_i32 arg1
  let v2 : BitVec 32 := Scalar.addi v0 v1
  let c1_i32_0 : BitVec 32 := 1#32
  let c0_i32_1 : BitVec 32 := 0#32
  ![v2.toNat, c1_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.subi c0_i32 arg1
  let v2 : BitVec 32 := Scalar.addi v0 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.subi c0_i32 arg1
  let v2 : BitVec 32 := Scalar.addi v0 v1
  let c6_i32 : BitVec 32 := 6#32
  let c0_i32_0 : BitVec 32 := 0#32
  ![v2.toNat, c6_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.subi c0_i32 arg1
  let v2 : BitVec 32 := Scalar.addi v0 v1
  let c0_i32_0 : BitVec 32 := 0#32
  let c0_i32_1 : BitVec 32 := 0#32
  ![v2.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GlaBwdRefIdeal.lean ====
abbrev S65536x5120 : Shape := ⟨2, ![65536, 5120]⟩
abbrev S65536x512 : Shape := ⟨2, ![65536, 512]⟩
abbrev S1x16x256 : Shape := ⟨3, ![1, 16, 256]⟩
abbrev S1x256 : Shape := ⟨2, ![1, 256]⟩
abbrev S1x512 : Shape := ⟨2, ![1, 512]⟩
abbrev S65536x256 : Shape := ⟨2, ![65536, 256]⟩
abbrev S32x2048x4x64 : Shape := ⟨4, ![32, 2048, 4, 64]⟩
abbrev S_ : Shape := ⟨0, ![]⟩
abbrev S32x2048x4x128 : Shape := ⟨4, ![32, 2048, 4, 128]⟩
abbrev S65536x16 : Shape := ⟨2, ![65536, 16]⟩
abbrev S32x2048x16 : Shape := ⟨3, ![32, 2048, 16]⟩
abbrev S16x256 : Shape := ⟨2, ![16, 256]⟩
abbrev S32x2048x256 : Shape := ⟨3, ![32, 2048, 256]⟩
abbrev S256 : Shape := ⟨1, ![256]⟩
abbrev S1x1x256 : Shape := ⟨3, ![1, 1, 256]⟩
abbrev S32x32x64x4x64 : Shape := ⟨5, ![32, 32, 64, 4, 64]⟩
abbrev S32x32x64x4x128 : Shape := ⟨5, ![32, 32, 64, 4, 128]⟩
abbrev S32x32x1x4x64 : Shape := ⟨5, ![32, 32, 1, 4, 64]⟩
abbrev S32x32x4x64x64 : Shape := ⟨5, ![32, 32, 4, 64, 64]⟩
abbrev S64x64 : Shape := ⟨2, ![64, 64]⟩
abbrev S32x32x4x128x64 : Shape := ⟨5, ![32, 32, 4, 128, 64]⟩
abbrev S32x32x4x64x128 : Shape := ⟨5, ![32, 32, 4, 64, 128]⟩
abbrev S32x32x4x64 : Shape := ⟨4, ![32, 32, 4, 64]⟩
abbrev S32x4x64x128 : Shape := ⟨4, ![32, 4, 64, 128]⟩
abbrev S1x32x4x64 : Shape := ⟨4, ![1, 32, 4, 64]⟩
abbrev S32x4x64 : Shape := ⟨3, ![32, 4, 64]⟩
abbrev S1x32x4x64x128 : Shape := ⟨5, ![1, 32, 4, 64, 128]⟩
abbrev S1x32x64x4x64 : Shape := ⟨5, ![1, 32, 64, 4, 64]⟩
abbrev S32x64x4x64 : Shape := ⟨4, ![32, 64, 4, 64]⟩
abbrev S1x32x64x4x128 : Shape := ⟨5, ![1, 32, 64, 4, 128]⟩
abbrev S32x64x4x128 : Shape := ⟨4, ![32, 64, 4, 128]⟩
abbrev S32x4x64x1 : Shape := ⟨4, ![32, 4, 64, 1]⟩
abbrev S32x4x128x64 : Shape := ⟨4, ![32, 4, 128, 64]⟩
abbrev S32x2048x4 : Shape := ⟨3, ![32, 2048, 4]⟩
abbrev S32x2048x4x1 : Shape := ⟨4, ![32, 2048, 4, 1]⟩
abbrev S32x2048x512 : Shape := ⟨3, ![32, 2048, 512]⟩
abbrev S512 : Shape := ⟨1, ![512]⟩
abbrev S1x1x512 : Shape := ⟨3, ![1, 1, 512]⟩

abbrev nBuf : Space → Nat
  | .hbm => 186
  | .vmem => 0
  | .smem => 0
  | _ => 0

abbrev hbmTy0_0 (i : Nat) : BufTy := match i % 128 with
  | 0 => ⟨S65536x5120, .bf16⟩
  | 1 => ⟨S65536x512, .f32⟩
  | 2 => ⟨S1x16x256, .f32⟩
  | 3 => ⟨S1x256, .f32⟩
  | 4 => ⟨S65536x512, .f32⟩
  | 5 => ⟨S1x512, .f32⟩
  | 6 => ⟨S65536x5120, .f32⟩
  | 7 => ⟨S65536x256, .f32⟩
  | 8 => ⟨S32x2048x4x64, .f32⟩
  | 9 => ⟨S_, .f32⟩
  | 10 => ⟨S32x2048x4x64, .f32⟩
  | 11 => ⟨S32x2048x4x64, .f32⟩
  | 12 => ⟨S32x2048x4x64, .f32⟩
  | 13 => ⟨S65536x256, .f32⟩
  | 14 => ⟨S32x2048x4x64, .f32⟩
  | 15 => ⟨S32x2048x4x64, .f32⟩
  | 16 => ⟨S65536x512, .f32⟩
  | 17 => ⟨S32x2048x4x128, .f32⟩
  | 18 => ⟨S32x2048x4x128, .f32⟩
  | 19 => ⟨S65536x16, .f32⟩
  | 20 => ⟨S32x2048x16, .f32⟩
  | 21 => ⟨S16x256, .f32⟩
  | 22 => ⟨S32x2048x256, .f32⟩
  | 23 => ⟨S256, .f32⟩
  | 24 => ⟨S1x1x256, .f32⟩
  | 25 => ⟨S32x2048x256, .f32⟩
  | 26 => ⟨S32x2048x256, .f32⟩
  | 27 => ⟨S32x2048x256, .f32⟩
  | 28 => ⟨S_, .f32⟩
  | 29 => ⟨S32x2048x256, .f32⟩
  | 30 => ⟨S32x2048x256, .f32⟩
  | 31 => ⟨S32x2048x256, .f32⟩
  | 32 => ⟨S32x2048x256, .f32⟩
  | 33 => ⟨S32x2048x256, .i1⟩
  | 34 => ⟨S32x2048x256, .f32⟩
  | 35 => ⟨S32x2048x256, .f32⟩
  | 36 => ⟨S32x2048x256, .f32⟩
  | 37 => ⟨S32x2048x256, .f32⟩
  | 38 => ⟨S32x2048x256, .f32⟩
  | 39 => ⟨S32x2048x256, .f32⟩
  | 40 => ⟨S32x2048x256, .f32⟩
  | 41 => ⟨S32x2048x256, .f32⟩
  | 42 => ⟨S32x2048x256, .f32⟩
  | 43 => ⟨S_, .f32⟩
  | 44 => ⟨S32x2048x256, .f32⟩
  | 45 => ⟨S32x2048x256, .f32⟩
  | 46 => ⟨S32x2048x4x64, .f32⟩
  | 47 => ⟨S32x2048x4x64, .f32⟩
  | 48 => ⟨S32x32x64x4x64, .f32⟩
  | 49 => ⟨S32x32x64x4x64, .f32⟩
  | 50 => ⟨S32x32x64x4x128, .f32⟩
  | 51 => ⟨S32x32x64x4x64, .f32⟩
  | 52 => ⟨S_, .f32⟩
  | 53 => ⟨S_, .f32⟩
  | 54 => ⟨S32x32x64x4x64, .f32⟩
  | 55 => ⟨S32x32x1x4x64, .f32⟩
  | 56 => ⟨S32x32x64x4x64, .f32⟩
  | 57 => ⟨S32x32x64x4x64, .f32⟩
  | 58 => ⟨S32x32x64x4x64, .f32⟩
  | 59 => ⟨S32x32x64x4x64, .f32⟩
  | 60 => ⟨S32x32x64x4x64, .f32⟩
  | 61 => ⟨S32x32x64x4x64, .f32⟩
  | 62 => ⟨S32x32x64x4x64, .f32⟩
  | 63 => ⟨S32x32x64x4x64, .f32⟩
  | 64 => ⟨S32x32x4x64x64, .f32⟩
  | 65 => ⟨S_, .i1⟩
  | 66 => ⟨S64x64, .i1⟩
  | 67 => ⟨S64x64, .i32⟩
  | 68 => ⟨S_, .i32⟩
  | 69 => ⟨S64x64, .i32⟩
  | 70 => ⟨S64x64, .i32⟩
  | 71 => ⟨S64x64, .i32⟩
  | 72 => ⟨S64x64, .i1⟩
  | 73 => ⟨S_, .i1⟩
  | 74 => ⟨S64x64, .i1⟩
  | 75 => ⟨S64x64, .i1⟩
  | 76 => ⟨S_, .f32⟩
  | 77 => ⟨S_, .f32⟩
  | 78 => ⟨S32x32x4x64x64, .i1⟩
  | 79 => ⟨S32x32x4x64x64, .f32⟩
  | 80 => ⟨S32x32x4x64x64, .f32⟩
  | 81 => ⟨S32x32x4x128x64, .f32⟩
  | 82 => ⟨S32x32x64x4x128, .f32⟩
  | 83 => ⟨S32x32x1x4x64, .f32⟩
  | 84 => ⟨S32x32x64x4x64, .f32⟩
  | 85 => ⟨S32x32x64x4x64, .f32⟩
  | 86 => ⟨S32x32x64x4x64, .f32⟩
  | 87 => ⟨S32x32x64x4x64, .f32⟩
  | 88 => ⟨S32x32x4x64x128, .f32⟩
  | 89 => ⟨S32x32x4x64, .f32⟩
  | 90 => ⟨S32x32x4x64, .f32⟩
  | 91 => ⟨S32x32x64x4x64, .f32⟩
  | 92 => ⟨S32x32x64x4x64, .f32⟩
  | 93 => ⟨S_, .f32⟩
  | 94 => ⟨S32x4x64x128, .f32⟩
  | 95 => ⟨S32x32x4x64, .f32⟩
  | 96 => ⟨S32x32x4x64x128, .f32⟩
  | 97 => ⟨S32x32x64x4x64, .f32⟩
  | 98 => ⟨S32x32x64x4x128, .f32⟩
  | 99 => ⟨S_, .f32⟩
  | 100 => ⟨S32x32x64x4x128, .f32⟩
  | 101 => ⟨S_, .i32⟩
  | 102 => ⟨S32x32x4x64, .f32⟩
  | 103 => ⟨S32x32x4x64x128, .f32⟩
  | 104 => ⟨S32x32x64x4x64, .f32⟩
  | 105 => ⟨S32x32x64x4x128, .f32⟩
  | 106 => ⟨S_, .i32⟩
  | 107 => ⟨S32x4x64x128, .f32⟩
  | 108 => ⟨S32x32x64x4x128, .f32⟩
  | 109 => ⟨S_, .i32⟩
  | 110 => ⟨S_, .i1⟩
  | 111 => ⟨S_, .i32⟩
  | 112 => ⟨S_, .i32⟩
  | 113 => ⟨S_, .i32⟩
  | 114 => ⟨S1x32x4x64, .f32⟩
  | 115 => ⟨S32x4x64, .f32⟩
  | 116 => ⟨S_, .i32⟩
  | 117 => ⟨S_, .i32⟩
  | 118 => ⟨S_, .i32⟩
  | 119 => ⟨S_, .i32⟩
  | 120 => ⟨S1x32x4x64x128, .f32⟩
  | 121 => ⟨S32x4x64x128, .f32⟩
  | 122 => ⟨S_, .i32⟩
  | 123 => ⟨S_, .i32⟩
  | 124 => ⟨S_, .i32⟩
  | 125 => ⟨S_, .i32⟩
  | 126 => ⟨S1x32x64x4x64, .f32⟩
  | 127 => ⟨S32x64x4x64, .f32⟩
  | _ => ⟨S65536x5120, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S1x32x64x4x128, .f32⟩
  | 5 => ⟨S32x64x4x128, .f32⟩
  | 6 => ⟨S32x4x64x1, .f32⟩
  | 7 => ⟨S32x4x64x128, .f32⟩
  | 8 => ⟨S32x4x64x128, .f32⟩
  | 9 => ⟨S32x4x64x128, .f32⟩
  | 10 => ⟨S32x4x128x64, .f32⟩
  | 11 => ⟨S32x64x4x128, .f32⟩
  | 12 => ⟨S32x64x4x128, .f32⟩
  | 13 => ⟨S1x32x64x4x128, .f32⟩
  | 14 => ⟨S_, .i32⟩
  | 15 => ⟨S_, .i32⟩
  | 16 => ⟨S_, .i32⟩
  | 17 => ⟨S_, .i32⟩
  | 18 => ⟨S32x32x64x4x128, .f32⟩
  | 19 => ⟨S_, .i32⟩
  | 20 => ⟨S_, .i32⟩
  | 21 => ⟨S32x2048x4x128, .f32⟩
  | 22 => ⟨S32x32x64x4x128, .f32⟩
  | 23 => ⟨S32x2048x4x128, .f32⟩
  | 24 => ⟨S32x2048x4x128, .f32⟩
  | 25 => ⟨S32x2048x4x128, .f32⟩
  | 26 => ⟨S32x2048x4x128, .f32⟩
  | 27 => ⟨S_, .f32⟩
  | 28 => ⟨S32x2048x4, .f32⟩
  | 29 => ⟨S32x2048x4x1, .f32⟩
  | 30 => ⟨S_, .f32⟩
  | 31 => ⟨S32x2048x4x1, .f32⟩
  | 32 => ⟨S32x2048x4x1, .f32⟩
  | 33 => ⟨S_, .f32⟩
  | 34 => ⟨S32x2048x4x1, .f32⟩
  | 35 => ⟨S32x2048x4x1, .f32⟩
  | 36 => ⟨S32x2048x4x1, .f32⟩
  | 37 => ⟨S32x2048x4x128, .f32⟩
  | 38 => ⟨S32x2048x4x128, .f32⟩
  | 39 => ⟨S32x2048x512, .f32⟩
  | 40 => ⟨S512, .f32⟩
  | 41 => ⟨S1x1x512, .f32⟩
  | 42 => ⟨S32x2048x512, .f32⟩
  | 43 => ⟨S32x2048x512, .f32⟩
  | 44 => ⟨S65536x512, .bf16⟩
  | 45 => ⟨S65536x512, .f32⟩
  | 46 => ⟨S32x2048x512, .f32⟩
  | 47 => ⟨S32x2048x512, .f32⟩
  | 48 => ⟨S32x2048x512, .f32⟩
  | 49 => ⟨S_, .f32⟩
  | 50 => ⟨S32x2048x512, .f32⟩
  | 51 => ⟨S32x2048x512, .f32⟩
  | 52 => ⟨S_, .f32⟩
  | 53 => ⟨S32x2048x512, .f32⟩
  | 54 => ⟨S32x2048x512, .f32⟩
  | 55 => ⟨S32x2048x512, .f32⟩
  | 56 => ⟨S32x2048x512, .f32⟩
  | 57 => ⟨S65536x512, .f32⟩
  | _ => ⟨S65536x5120, .bf16⟩

abbrev hbmTy (i : Nat) : BufTy := match i / 128 with
  | 0 => hbmTy0_0 i
  | 1 => hbmTy0_1 i
  | _ => ⟨S65536x5120, .bf16⟩

abbrev bufTy : (tb : Table) → Fin (tcTables nBuf tb) → BufTy
  | .hbm, ⟨i, _⟩ => hbmTy i
  | _, _ => ⟨S65536x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_call4_call0_cst : Ref sig .tc := ⟨.hbm, 52, rfl⟩
abbrev main_call4_call0_v0 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_c : Ref sig .tc := ⟨.hbm, 65, rfl⟩
abbrev main_v54 : Ref sig .tc := ⟨.hbm, 66, rfl⟩
abbrev main_call5_v0 : Ref sig .tc := ⟨.hbm, 67, rfl⟩
abbrev main_call5_c : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_call5_c_0 : Ref sig .tc := ⟨.hbm, 73, rfl⟩
abbrev main_call5_v5 : Ref sig .tc := ⟨.hbm, 74, rfl⟩
abbrev main_v55 : Ref sig .tc := ⟨.hbm, 75, rfl⟩
abbrev main_cst_2 : Ref sig .tc := ⟨.hbm, 76, rfl⟩
abbrev main_call6_v0 : Ref sig .tc := ⟨.hbm, 77, rfl⟩
abbrev main_call6_v1 : Ref sig .tc := ⟨.hbm, 78, rfl⟩
abbrev main_call6_v2 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_3 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_4 : Ref sig .tc := ⟨.hbm, 99, rfl⟩
abbrev main_v74 : Ref sig .tc := ⟨.hbm, 100, rfl⟩
abbrev main_c_5 : Ref sig .tc := ⟨.hbm, 101, rfl⟩
abbrev main_v75_0 : Ref sig .tc := ⟨.hbm, 102, rfl⟩
abbrev main_v75_1 : Ref sig .tc := ⟨.hbm, 103, rfl⟩
abbrev main_v75_2 : Ref sig .tc := ⟨.hbm, 104, rfl⟩
abbrev main_v75_3 : Ref sig .tc := ⟨.hbm, 105, rfl⟩
abbrev main_v75_4 : Ref sig .tc := ⟨.hbm, 106, rfl⟩
abbrev main_v75_5 : Ref sig .tc := ⟨.hbm, 107, rfl⟩
abbrev main_v75_6 : Ref sig .tc := ⟨.hbm, 108, rfl⟩
abbrev main_while0c_c_17 : Ref sig .tc := ⟨.hbm, 109, rfl⟩
abbrev main_while0c_v108 : Ref sig .tc := ⟨.hbm, 110, rfl⟩
abbrev main_while0b_call7_c : Ref sig .tc := ⟨.hbm, 111, rfl⟩
abbrev main_while0b_call7_c_0 : Ref sig .tc := ⟨.hbm, 112, rfl⟩
abbrev main_while0b_call7_c_1 : Ref sig .tc := ⟨.hbm, 113, rfl⟩
abbrev main_while0b_call7_v0 : Ref sig .tc := ⟨.hbm, 114, rfl⟩
abbrev main_while0b_v108 : Ref sig .tc := ⟨.hbm, 115, rfl⟩
abbrev main_while0b_call8_c : Ref sig .tc := ⟨.hbm, 116, rfl⟩
abbrev main_while0b_call8_c_0 : Ref sig .tc := ⟨.hbm, 117, rfl⟩
abbrev main_while0b_call8_c_1 : Ref sig .tc := ⟨.hbm, 118, rfl⟩
abbrev main_while0b_call8_c_2 : Ref sig .tc := ⟨.hbm, 119, rfl⟩
abbrev main_while0b_call8_v0 : Ref sig .tc := ⟨.hbm, 120, rfl⟩
abbrev main_while0b_v109 : Ref sig .tc := ⟨.hbm, 121, rfl⟩
abbrev main_while0b_call9_c : Ref sig .tc := ⟨.hbm, 122, rfl⟩
abbrev main_while0b_call9_c_0 : Ref sig .tc := ⟨.hbm, 123, rfl⟩
abbrev main_while0b_call9_c_1 : Ref sig .tc := ⟨.hbm, 124, rfl⟩
abbrev main_while0b_call9_c_2 : Ref sig .tc := ⟨.hbm, 125, rfl⟩
abbrev main_while0b_call9_v0 : Ref sig .tc := ⟨.hbm, 126, rfl⟩
abbrev main_while0b_v110 : Ref sig .tc := ⟨.hbm, 127, rfl⟩
abbrev main_while0b_call10_c : Ref sig .tc := ⟨.hbm, 128, rfl⟩
abbrev main_while0b_call10_c_0 : Ref sig .tc := ⟨.hbm, 129, rfl⟩
abbrev main_while0b_call10_c_1 : Ref sig .tc := ⟨.hbm, 130, rfl⟩
abbrev main_while0b_call10_c_2 : Ref sig .tc := ⟨.hbm, 131, rfl⟩
abbrev main_while0b_call10_v0 : Ref sig .tc := ⟨.hbm, 132, rfl⟩
abbrev main_while0b_v111 : Ref sig .tc := ⟨.hbm, 133, rfl⟩
abbrev main_while0b_v112 : Ref sig .tc := ⟨.hbm, 134, rfl⟩
abbrev main_while0b_v113 : Ref sig .tc := ⟨.hbm, 135, rfl⟩
abbrev main_while0b_v114 : Ref sig .tc := ⟨.hbm, 136, rfl⟩
abbrev main_while0b_v115 : Ref sig .tc := ⟨.hbm, 137, rfl⟩
abbrev main_while0b_v116 : Ref sig .tc := ⟨.hbm, 138, rfl⟩
abbrev main_while0b_v117 : Ref sig .tc := ⟨.hbm, 139, rfl⟩
abbrev main_while0b_v118 : Ref sig .tc := ⟨.hbm, 140, rfl⟩
abbrev main_while0b_call11_v0 : Ref sig .tc := ⟨.hbm, 141, rfl⟩
abbrev main_while0b_call11_c : Ref sig .tc := ⟨.hbm, 142, rfl⟩
abbrev main_while0b_call11_c_0 : Ref sig .tc := ⟨.hbm, 143, rfl⟩
abbrev main_while0b_call11_c_1 : Ref sig .tc := ⟨.hbm, 144, rfl⟩
abbrev main_while0b_call11_c_2 : Ref sig .tc := ⟨.hbm, 145, rfl⟩
abbrev main_while0b_v119 : Ref sig .tc := ⟨.hbm, 146, rfl⟩
abbrev main_while0b_c_17 : Ref sig .tc := ⟨.hbm, 147, rfl⟩
abbrev main_while0b_v120 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_cst_6 : Ref sig .tc := ⟨.hbm, 155, rfl⟩
abbrev main_v82 : Ref sig .tc := ⟨.hbm, 156, rfl⟩
abbrev main_v83 : Ref sig .tc := ⟨.hbm, 157, rfl⟩
abbrev main_cst_7 : Ref sig .tc := ⟨.hbm, 158, rfl⟩
abbrev main_v84 : Ref sig .tc := ⟨.hbm, 159, rfl⟩
abbrev main_v85 : Ref sig .tc := ⟨.hbm, 160, rfl⟩
abbrev main_cst_8 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_cst_9 : Ref sig .tc := ⟨.hbm, 177, rfl⟩
abbrev main_v101 : Ref sig .tc := ⟨.hbm, 178, rfl⟩
abbrev main_v102 : Ref sig .tc := ⟨.hbm, 179, rfl⟩
abbrev main_cst_10 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩

abbrev nD : Nat := 1
abbrev τ : Topo := Topo.v7x

variable {F : FTy → Type} [FloatOps F]

abbrev main_while0_count : Scf.Loop 32 := ⟨0#32, 32#32, 1#32⟩
-- ==== Ffn.lean ====
abbrev S65536x1024 : Shape := ⟨2, ![65536, 1024]⟩
abbrev S1x1024 : Shape := ⟨2, ![1, 1024]⟩
abbrev S1x1024x5504 : Shape := ⟨3, ![1, 1024, 5504]⟩
abbrev S1x3x5504 : Shape := ⟨3, ![1, 3, 5504]⟩
abbrev S1x5504 : Shape := ⟨2, ![1, 5504]⟩
abbrev S1x2752x1024 : Shape := ⟨3, ![1, 2752, 1024]⟩
abbrev S1024 : Shape := ⟨1, ![1024]⟩
abbrev S1024x5504 : Shape := ⟨2, ![1024, 5504]⟩
abbrev S1024x2752 : Shape := ⟨2, ![1024, 2752]⟩
abbrev S_ : Shape := ⟨0, ![]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S3x5504 : Shape := ⟨2, ![3, 5504]⟩
abbrev S3x2752 : Shape := ⟨2, ![3, 2752]⟩
abbrev S3x2816 : Shape := ⟨2, ![3, 2816]⟩
abbrev S3x11x256 : Shape := ⟨3, ![3, 11, 256]⟩
abbrev S3x11x512 : Shape := ⟨3, ![3, 11, 512]⟩
abbrev S11x3x512 : Shape := ⟨3, ![11, 3, 512]⟩
abbrev S5504 : Shape := ⟨1, ![5504]⟩
abbrev S1x2752 : Shape := ⟨2, ![1, 2752]⟩
abbrev S1x2816 : Shape := ⟨2, ![1, 2816]⟩
abbrev S1x11x256 : Shape := ⟨3, ![1, 11, 256]⟩
abbrev S1x11x512 : Shape := ⟨3, ![1, 11, 512]⟩
abbrev S11x1x512 : Shape := ⟨3, ![11, 1, 512]⟩
abbrev S2752x1024 : Shape := ⟨2, ![2752, 1024]⟩
abbrev S2816x1024 : Shape := ⟨2, ![2816, 1024]⟩
abbrev S11x256x1024 : Shape := ⟨3, ![11, 256, 1024]⟩
abbrev S16x1024 : Shape := ⟨2, ![16, 1024]⟩
abbrev S512x1024 : Shape := ⟨2, ![512, 1024]⟩
abbrev S544x1024 : Shape := ⟨2, ![544, 1024]⟩
abbrev S2x544x512 : Shape := ⟨3, ![2, 544, 512]⟩
abbrev S16 : Shape := ⟨1, ![16]⟩
abbrev S16x1 : Shape := ⟨2, ![16, 1]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S544x512 : Shape := ⟨2, ![544, 512]⟩
abbrev S1x544x512 : Shape := ⟨3, ![1, 544, 512]⟩
abbrev S1x3x512 : Shape := ⟨3, ![1, 3, 512]⟩
abbrev S3x512 : Shape := ⟨2, ![3, 512]⟩
abbrev S1x512 : Shape := ⟨2, ![1, 512]⟩
abbrev S1x512x512 : Shape := ⟨3, ![1, 512, 512]⟩
abbrev S512x512 : Shape := ⟨2, ![512, 512]⟩
abbrev S1x1x512 : Shape := ⟨3, ![1, 1, 512]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 58
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024x5504, .f32⟩
  | .hbm, ⟨3, _⟩ => ⟨S1x3x5504, .f32⟩
  | .hbm, ⟨4, _⟩ => ⟨S1x5504, .f32⟩
  | .hbm, ⟨5, _⟩ => ⟨S1x2752x1024, .f32⟩
  | .hbm, ⟨6, _⟩ => ⟨S1024, .f32⟩
  | .hbm, ⟨7, _⟩ => ⟨S1024x5504, .f32⟩
  | .hbm, ⟨8, _⟩ => ⟨S1024x2752, .f32⟩
  | .hbm, ⟨9, _⟩ => ⟨S_, .i32⟩
  | .hbm, ⟨10, _⟩ => ⟨S_, .f32⟩
  | .hbm, ⟨11, _⟩ => ⟨S1024x2816, .f32⟩
  | .hbm, ⟨12, _⟩ => ⟨S1024x2752, .f32⟩
  | .hbm, ⟨13, _⟩ => ⟨S_, .i32⟩
  | .hbm, ⟨14, _⟩ => ⟨S_, .f32⟩
  | .hbm, ⟨15, _⟩ => ⟨S1024x2816, .f32⟩
  | .hbm, ⟨16, _⟩ => ⟨S1024x11x256, .f32⟩
  | .hbm, ⟨17, _⟩ => ⟨S1024x11x256, .f32⟩
  | .hbm, ⟨18, _⟩ => ⟨S1024x11x512, .f32⟩
  | .hbm, ⟨19, _⟩ => ⟨S11x1024x512, .f32⟩
  | .hbm, ⟨20, _⟩ => ⟨S11x1024x512, .bf16⟩
  | .hbm, ⟨21, _⟩ => ⟨S3x5504, .f32⟩
  | .hbm, ⟨22, _⟩ => ⟨S3x2752, .f32⟩
  | .hbm, ⟨23, _⟩ => ⟨S_, .i32⟩
  | .hbm, ⟨24, _⟩ => ⟨S_, .f32⟩
  | .hbm, ⟨25, _⟩ => ⟨S3x2816, .f32⟩
  | .hbm, ⟨26, _⟩ => ⟨S3x2752, .f32⟩
  | .hbm, ⟨27, _⟩ => ⟨S_, .i32⟩
  | .hbm, ⟨28, _⟩ => ⟨S_, .f32⟩
  | .hbm, ⟨29, _⟩ => ⟨S3x2816, .f32⟩
  | .hbm, ⟨30, _⟩ => ⟨S3x11x256, .f32⟩
  | .hbm, ⟨31, _⟩ => ⟨S3x11x256, .f32⟩
  | .hbm, ⟨32, _⟩ => ⟨S3x11x512, .f32⟩
  | .hbm, ⟨33, _⟩ => ⟨S11x3x512, .f32⟩
  | .hbm, ⟨34, _⟩ => ⟨S5504, .f32⟩
  | .hbm, ⟨35, _⟩ => ⟨S1x5504, .f32⟩
  | .hbm, ⟨36, _⟩ => ⟨S1x2752, .f32⟩
  | .hbm, ⟨37, _⟩ => ⟨S_, .i32⟩
  | .hbm, ⟨38, _⟩ => ⟨S_, .f32⟩
  | .hbm, ⟨39, _⟩ => ⟨S1x2816, .f32⟩
  | .hbm, ⟨40, _⟩ => ⟨S1x2752, .f32⟩
  | .hbm, ⟨41, _⟩ => ⟨S_, .i32⟩
  | .hbm, ⟨42, _⟩ => ⟨S_, .f32⟩
  | .hbm, ⟨43, _⟩ => ⟨S1x2816, .f32⟩
  | .hbm, ⟨44, _⟩ => ⟨S1x11x256, .f32⟩
  | .hbm, ⟨45, _⟩ => ⟨S1x11x256, .f32⟩
  | .hbm, ⟨46, _⟩ => ⟨S1x11x512, .f32⟩
  | .hbm, ⟨47, _⟩ => ⟨S11x1x512, .f32⟩
  | .hbm, ⟨48, _⟩ => ⟨S2752x1024, .f32⟩
  | .hbm, ⟨49, _⟩ => ⟨S_, .i32⟩
  | .hbm, ⟨50, _⟩ => ⟨S_, .f32⟩
  | .hbm, ⟨51, _⟩ => ⟨S2816x1024, .f32⟩
  | .hbm, ⟨52, _⟩ => ⟨S11x256x1024, .f32⟩
  | .hbm, ⟨53, _⟩ => ⟨S11x256x1024, .bf16⟩
  | .hbm, ⟨54, _⟩ => ⟨S1024, .f32⟩
  | .hbm, ⟨55, _⟩ => ⟨S1x1024, .f32⟩
  | .hbm, ⟨56, _⟩ => ⟨S1x1024, .f32⟩
  | .hbm, ⟨57, _⟩ => ⟨S65536x1024, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S11x1024x512, .bf16⟩
  | .local _ .vmem, ⟨8, _⟩ => ⟨S11x3x512, .f32⟩
  | .local _ .vmem, ⟨9, _⟩ => ⟨S11x1x512, .f32⟩
  | .local _ .vmem, ⟨10, _⟩ => ⟨S11x256x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S544x1024, .bf16⟩
  | .local _ .vmem, ⟨15, _⟩ => ⟨S2x544x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_call2_v0 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_call3_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_call4_v0 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_call5_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_call6_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S65536x1024 : Shape := ⟨2, ![65536, 1024]⟩
abbrev S1x1024 : Shape := ⟨2, ![1, 1024]⟩
abbrev S1x1024x5504 : Shape := ⟨3, ![1, 1024, 5504]⟩
abbrev S1x3x5504 : Shape := ⟨3, ![1, 3, 5504]⟩
abbrev S1x5504 : Shape := ⟨2, ![1, 5504]⟩
abbrev S1x2752x1024 : Shape := ⟨3, ![1, 2752, 1024]⟩
abbrev S1024 : Shape := ⟨1, ![1024]⟩
abbrev S32x2048x1024 : Shape := ⟨3, ![32, 2048, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x5504 : Shape := ⟨2, ![1024, 5504]⟩
abbrev S32x2048x5504 : Shape := ⟨3, ![32, 2048, 5504]⟩
abbrev S3x5504 : Shape := ⟨2, ![3, 5504]⟩
abbrev S5504 : Shape := ⟨1, ![5504]⟩
abbrev S32x2047x5504 : Shape := ⟨3, ![32, 2047, 5504]⟩
abbrev S1x1x5504 : Shape := ⟨3, ![1, 1, 5504]⟩
abbrev S32x2048x2752 : Shape := ⟨3, ![32, 2048, 2752]⟩
abbrev S2752x1024 : Shape := ⟨2, ![2752, 1024]⟩

abbrev nBuf : Space → Nat
  | .hbm => 89
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024x5504, .f32⟩
  | .hbm, ⟨3, _⟩ => ⟨S1x3x5504, .f32⟩
  | .hbm, ⟨4, _⟩ => ⟨S1x5504, .f32⟩
  | .hbm, ⟨5, _⟩ => ⟨S1x2752x1024, .f32⟩
  | .hbm, ⟨6, _⟩ => ⟨S1024, .f32⟩
  | .hbm, ⟨7, _⟩ => ⟨S32x2048x1024, .f32⟩
  | .hbm, ⟨8, _⟩ => ⟨S1024, .f32⟩
  | .hbm, ⟨9, _⟩ => ⟨S32x2048x1024, .f32⟩
  | .hbm, ⟨10, _⟩ => ⟨S_, .f32⟩
  | .hbm, ⟨11, _⟩ => ⟨S32x2048, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S_, .f32⟩
  | .hbm, ⟨17, _⟩ => ⟨S32x2048x1, .f32⟩
  | .hbm, ⟨18, _⟩ => ⟨S32x2048x1, .f32⟩
  | .hbm, ⟨19, _⟩ => ⟨S32x2048x1, .f32⟩
  | .hbm, ⟨20, _⟩ => ⟨S32x2048x1024, .f32⟩
  | .hbm, ⟨21, _⟩ => ⟨S32x2048x1024, .f32⟩
  | .hbm, ⟨22, _⟩ => ⟨S1x1x1024, .f32⟩
  | .hbm, ⟨23, _⟩ => ⟨S32x2048x1024, .f32⟩
  | .hbm, ⟨24, _⟩ => ⟨S32x2048x1024, .f32⟩
  | .hbm, ⟨25, _⟩ => ⟨S1024x5504, .f32⟩
  | .hbm, ⟨26, _⟩ => ⟨S32x2048x5504, .f32⟩
  | .hbm, ⟨27, _⟩ => ⟨S3x5504, .f32⟩
  | .hbm, ⟨28, _⟩ => ⟨S1x5504, .f32⟩
  | .hbm, ⟨29, _⟩ => ⟨S5504, .f32⟩
  | .hbm, ⟨30, _⟩ => ⟨S32x2047x5504, .f32⟩
  | .hbm, ⟨31, _⟩ => ⟨S_, .i32⟩
  | .hbm, ⟨32, _⟩ => ⟨S_, .f32⟩
  | .hbm, ⟨33, _⟩ => ⟨S32x2048x5504, .f32⟩
  | .hbm, ⟨34, _⟩ => ⟨S1x1x5504, .f32⟩
  | .hbm, ⟨35, _⟩ => ⟨S32x2048x5504, .f32⟩
  | .hbm, ⟨36, _⟩ => ⟨S32x2048x5504, .f32⟩
  | .hbm, ⟨37, _⟩ => ⟨S1x5504, .f32⟩
  | .hbm, ⟨38, _⟩ => ⟨S5504, .f32⟩
  | .hbm, ⟨39, _⟩ => ⟨S1x1x5504, .f32⟩
  | .hbm, ⟨40, _⟩ => ⟨S32x2048x5504, .f32⟩
  | .hbm, ⟨41, _⟩ => ⟨S32x2048x5504, .f32⟩
  | .hbm, ⟨42, _⟩ => ⟨S32x2048x5504, .f32⟩
  | .hbm, ⟨43, _⟩ => ⟨S1x5504, .f32⟩
  | .hbm, ⟨44, _⟩ => ⟨S5504, .f32⟩
  | .hbm, ⟨45, _⟩ => ⟨S32x2047x5504, .f32⟩
  | .hbm, ⟨46, _⟩ => ⟨S_, .i32⟩
  | .hbm, ⟨47, _⟩ => ⟨S_, .f32⟩
  | .hbm, ⟨48, _⟩ => ⟨S32x2048x5504, .f32⟩
  | .hbm, ⟨49, _⟩ => ⟨S1x1x5504, .f32⟩
  | .hbm, ⟨50, _⟩ => ⟨S32x2048x5504, .f32⟩
  | .hbm, ⟨51, _⟩ => ⟨S32x2048x5504, .f32⟩
  | .hbm, ⟨52, _⟩ => ⟨S32x2048x5504, .f32⟩
  | .hbm, ⟨53, _⟩ => ⟨S5504, .f32⟩
  | .hbm, ⟨54, _⟩ => ⟨S1x1x5504, .f32⟩
  | .hbm, ⟨55, _⟩ => ⟨S32x2048x5504, .f32⟩
  | .hbm, ⟨56, _⟩ => ⟨S32x2048x5504, .f32⟩
  | .hbm, ⟨57, _⟩ => ⟨S32x2048x2752, .f32⟩
  | .hbm, ⟨58, _⟩ => ⟨S32x2048x2752, .f32⟩
  | .hbm, ⟨59, _⟩ => ⟨S32x2048x2752, .f32⟩
  | .hbm, ⟨60, _⟩ => ⟨S32x2048x2752, .f32⟩
  | .hbm, ⟨61, _⟩ => ⟨S_, .f32⟩
  | .hbm, ⟨62, _⟩ => ⟨S32x2048x2752, .f32⟩
  | .hbm, ⟨63, _⟩ => ⟨S32x2048x2752, .f32⟩
  | .hbm, ⟨64, _⟩ => ⟨S_, .f32⟩
  | .hbm, ⟨65, _⟩ => ⟨S32x2048x2752, .f32⟩
  | .hbm, ⟨66, _⟩ => ⟨S32x2048x2752, .f32⟩
  | .hbm, ⟨67, _⟩ => ⟨S32x2048x2752, .f32⟩
  | .hbm, ⟨68, _⟩ => ⟨S32x2048x2752, .f32⟩
  | .hbm, ⟨69, _⟩ => ⟨S2752x1024, .f32⟩
  | .hbm, ⟨70, _⟩ => ⟨S32x2048x1024, .f32⟩
  | .hbm, ⟨71, _⟩ => ⟨S32x2048x1024, .f32⟩
  | .hbm, ⟨72, _⟩ => ⟨S32x2048x1024, .f32⟩
  | .hbm, ⟨73, _⟩ => ⟨S_, .f32⟩
  | .hbm, ⟨74, _⟩ => ⟨S32x2048, .f32⟩
  | .hbm, ⟨75, _⟩ => ⟨S32x2048x1, .f32⟩
  | .hbm, ⟨76, _⟩ => ⟨S_, .f32⟩
  | .hbm, ⟨77, _⟩ => ⟨S32x2048x1, .f32⟩
  | .hbm, ⟨78, _⟩ => ⟨S32x2048x1, .f32⟩
  | .hbm, ⟨79, _⟩ => ⟨S_, .f32⟩
  | .hbm, ⟨80, _⟩ => ⟨S32x2048x1, .f32⟩
  | .hbm, ⟨81, _⟩ => ⟨S32x2048x1, .f32⟩
  | .hbm, ⟨82, _⟩ => ⟨S32x2048x1, .f32⟩
  | .hbm, ⟨83, _⟩ => ⟨S32x2048x1024, .f32⟩
  | .hbm, ⟨84, _⟩ => ⟨S32x2048x1024, .f32⟩
  | .hbm, ⟨85, _⟩ => ⟨S1x1x1024, .f32⟩
  | .hbm, ⟨86, _⟩ => ⟨S32x2048x1024, .f32⟩
  | .hbm, ⟨87, _⟩ => ⟨S32x2048x1024, .f32⟩
  | .hbm, ⟨88, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_2 : Ref sig .tc := ⟨.hbm, 46, rfl⟩
abbrev main_call1_v0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_5 : Ref sig .tc := ⟨.hbm, 73, rfl⟩
abbrev main_v57 : Ref sig .tc := ⟨.hbm, 74, rfl⟩
abbrev main_v58 : Ref sig .tc := ⟨.hbm, 75, rfl⟩
abbrev main_cst_6 : Ref sig .tc := ⟨.hbm, 76, rfl⟩
abbrev main_v59 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Inproj.lean ====
abbrev S32x2048x1024 : Shape := ⟨3, ![32, 2048, 1024]⟩
abbrev S1x1024 : Shape := ⟨2, ![1, 1024]⟩
abbrev S1x1024x5408 : Shape := ⟨3, ![1, 1024, 5408]⟩
abbrev S1x1792 : Shape := ⟨2, ![1, 1792]⟩
abbrev S65536x1024 : Shape := ⟨2, ![65536, 1024]⟩
abbrev S1024x5408 : Shape := ⟨2, ![1024, 5408]⟩
abbrev S_ : Shape := ⟨0, ![]⟩
abbrev S1024x224 : Shape := ⟨2, ![1024, 224]⟩
abbrev S1024x2048 : Shape := ⟨2, ![1024, 2048]⟩
abbrev S1024x1536 : Shape := ⟨2, ![1024, 1536]⟩
abbrev S1024x1792 : Shape := ⟨2, ![1024, 1792]⟩
abbrev S1024x32 : Shape := ⟨2, ![1024, 32]⟩
abbrev S1024x5632 : Shape := ⟨2, ![1024, 5632]⟩
abbrev S1024 : Shape := ⟨1, ![1024]⟩
abbrev S1792 : Shape := ⟨1, ![1792]⟩
abbrev S3584 : Shape := ⟨1, ![3584]⟩
abbrev S256 : Shape := ⟨1, ![256]⟩
abbrev S5632 : Shape := ⟨1, ![5632]⟩
abbrev S1x5632 : Shape := ⟨2, ![1, 5632]⟩
abbrev S1024x11x512 : Shape := ⟨3, ![1024, 11, 512]⟩
abbrev S11x1024x512 : Shape := ⟨3, ![11, 1024, 512]⟩
abbrev S1x11x512 : Shape := ⟨3, ![1, 11, 512]⟩
abbrev S11x1x512 : Shape := ⟨3, ![11, 1, 512]⟩
abbrev S65536x5120 : Shape := ⟨2, ![65536, 5120]⟩
abbrev S65536x512 : Shape := ⟨2, ![65536, 512]⟩
abbrev S16x1024 : Shape := ⟨2, ![16, 1024]⟩
abbrev S512x1024 : Shape := ⟨2, ![512, 1024]⟩
abbrev S512x5120 : Shape := ⟨2, ![512, 5120]⟩
abbrev S512x512 : Shape := ⟨2, ![512, 512]⟩
abbrev S544x1024 : Shape := ⟨2, ![544, 1024]⟩
abbrev S2x288x512 : Shape := ⟨3, ![2, 288, 512]⟩
abbrev S16 : Shape := ⟨1, ![16]⟩
abbrev S16x1 : Shape := ⟨2, ![16, 1]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S288x1024 : Shape := ⟨2, ![288, 1024]⟩
abbrev S288x512 : Shape := ⟨2, ![288, 512]⟩
abbrev S1x288x512 : Shape := ⟨3, ![1, 288, 512]⟩
abbrev S1x256x512 : Shape := ⟨3, ![1, 256, 512]⟩
abbrev S256x512 : Shape := ⟨2, ![256, 512]⟩
abbrev S1x1x512 : Shape := ⟨3, ![1, 1, 512]⟩
abbrev S1x512 : Shape := ⟨2, ![1, 512]⟩

abbrev nBuf : Space → Nat
  | .hbm => 39
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x5408, .f32⟩
  | .hbm, ⟨3, _⟩ => ⟨S1x1792, .f32⟩
  | .hbm, ⟨4, _⟩ => ⟨S1x1792, .f32⟩
  | .hbm, ⟨5, _⟩ => ⟨S65536x1024, .f32⟩
  | .hbm, ⟨6, _⟩ => ⟨S1024x5408, .f32⟩
  | .hbm, ⟨7, _⟩ => ⟨S_, .f32⟩
  | .hbm, ⟨8, _⟩ => ⟨S1024x224, .f32⟩
  | .hbm, ⟨9, _⟩ => ⟨S1024x2048, .f32⟩
  | .hbm, ⟨10, _⟩ => ⟨S1024x1536, .f32⟩
  | .hbm, ⟨11, _⟩ => ⟨S1024x1792, .f32⟩
  | .hbm, ⟨12, _⟩ => ⟨S1024x32, .f32⟩
  | .hbm, ⟨13, _⟩ => ⟨S1024x5632, .f32⟩
  | .hbm, ⟨14, _⟩ => ⟨S1024x5632, .bf16⟩
  | .hbm, ⟨15, _⟩ => ⟨S1024, .f32⟩
  | .hbm, ⟨16, _⟩ => ⟨S1x1024, .f32⟩
  | .hbm, ⟨17, _⟩ => ⟨S1792, .f32⟩
  | .hbm, ⟨18, _⟩ => ⟨S_, .f32⟩
  | .hbm, ⟨19, _⟩ => ⟨S3584, .f32⟩
  | .hbm, ⟨20, _⟩ => ⟨S_, .f32⟩
  | .hbm, ⟨21, _⟩ => ⟨S256, .f32⟩
  | .hbm, ⟨22, _⟩ => ⟨S5632, .f32⟩
  | .hbm, ⟨23, _⟩ => ⟨S1x5632, .f32⟩
  | .hbm, ⟨24, _⟩ => ⟨S1792, .f32⟩
  | .hbm, ⟨25, _⟩ => ⟨S_, .f32⟩
  | .hbm, ⟨26, _⟩ => ⟨S3584, .f32⟩
  | .hbm, ⟨27, _⟩ => ⟨S_, .f32⟩
  | .hbm, ⟨28, _⟩ => ⟨S256, .f32⟩
  | .hbm, ⟨29, _⟩ => ⟨S5632, .f32⟩
  | .hbm, ⟨30, _⟩ => ⟨S1x5632, .f32⟩
  | .hbm, ⟨31, _⟩ => ⟨S1024x11x512, .bf16⟩
  | .hbm, ⟨32, _⟩ => ⟨S11x1024x512, .bf16⟩
  | .hbm, ⟨33, _⟩ => ⟨S1x11x512, .f32⟩
  | .hbm, ⟨34, _⟩ => ⟨S11x1x512, .f32⟩
  | .hbm, ⟨35, _⟩ => ⟨S1x11x512, .f32⟩
  | .hbm, ⟨36, _⟩ => ⟨S11x1x512, .f32⟩
  | .hbm, ⟨37, _⟩ => ⟨S65536x5120, .bf16⟩
  | .hbm, ⟨38, _⟩ => ⟨S65536x512, .f32⟩
  | .local _ .vmem, ⟨0, _⟩ => ⟨S16x1024, .f32⟩
  | .local _ .vmem, ⟨1, _⟩ => ⟨S16x1024, .f32⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S11x1024x512, .bf16⟩
  | .local _ .vmem, ⟨8, _⟩ => ⟨S11x1x512, .f32⟩
  | .local _ .vmem, ⟨9, _⟩ => ⟨S11x1x512, .f32⟩
  | .local _ .vmem, ⟨10, _⟩ => ⟨S512x5120, .bf16⟩
  | .local _ .vmem, ⟨11, _⟩ => ⟨S512x5120, .bf16⟩
  | .local _ .vmem, ⟨12, _⟩ => ⟨S512x512, .f32⟩
  | .local _ .vmem, ⟨13, _⟩ => ⟨S512x512, .f32⟩
  | .local _ .vmem, ⟨14, _⟩ => ⟨S544x1024, .bf16⟩
  | .local _ .vmem, ⟨15, _⟩ => ⟨S2x288x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x5120 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InprojRefIdeal.lean ====
abbrev S32x2048x1024 : Shape := ⟨3, ![32, 2048, 1024]⟩
abbrev S1x1024 : Shape := ⟨2, ![1, 1024]⟩
abbrev S1x1024x5408 : Shape := ⟨3, ![1, 1024, 5408]⟩
abbrev S1x1792 : Shape := ⟨2, ![1, 1792]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x5408 : Shape := ⟨2, ![1024, 5408]⟩
abbrev S32x2048x5408 : Shape := ⟨3, ![32, 2048, 5408]⟩
abbrev S32x2048x1568 : Shape := ⟨3, ![32, 2048, 1568]⟩
abbrev S32x2048x1792 : Shape := ⟨3, ![32, 2048, 1792]⟩
abbrev S32x2048x2048 : Shape := ⟨3, ![32, 2048, 2048]⟩
abbrev S1792 : Shape := ⟨1, ![1792]⟩
abbrev S32x2047x1792 : Shape := ⟨3, ![32, 2047, 1792]⟩
abbrev S1x1x1792 : Shape := ⟨3, ![1, 1, 1792]⟩
abbrev S32x2048x1536 : Shape := ⟨3, ![32, 2048, 1536]⟩
abbrev S32x2048x5120 : Shape := ⟨3, ![32, 2048, 5120]⟩
abbrev S32x2048x256 : Shape := ⟨3, ![32, 2048, 256]⟩
abbrev S32x2048x32 : Shape := ⟨3, ![32, 2048, 32]⟩
abbrev S32x2048x224 : Shape := ⟨3, ![32, 2048, 224]⟩
abbrev S32x2048x512 : Shape := ⟨3, ![32, 2048, 512]⟩
abbrev S65536x5120 : Shape := ⟨2, ![65536, 5120]⟩
abbrev S65536x512 : Shape := ⟨2, ![65536, 512]⟩

abbrev nBuf : Space → Nat
  | .hbm => 58
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x5408, .f32⟩
  | .hbm, ⟨3, _⟩ => ⟨S1x1792, .f32⟩
  | .hbm, ⟨4, _⟩ => ⟨S1x1792, .f32⟩
  | .hbm, ⟨5, _⟩ => ⟨S1024, .f32⟩
  | .hbm, ⟨6, _⟩ => ⟨S32x2048x1024, .f32⟩
  | .hbm, ⟨7, _⟩ => ⟨S_, .f32⟩
  | .hbm, ⟨8, _⟩ => ⟨S32x2048, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S32x2048x1, .f32⟩
  | .hbm, ⟨17, _⟩ => ⟨S32x2048x1024, .f32⟩
  | .hbm, ⟨18, _⟩ => ⟨S32x2048x1024, .f32⟩
  | .hbm, ⟨19, _⟩ => ⟨S1x1x1024, .f32⟩
  | .hbm, ⟨20, _⟩ => ⟨S32x2048x1024, .f32⟩
  | .hbm, ⟨21, _⟩ => ⟨S32x2048x1024, .f32⟩
  | .hbm, ⟨22, _⟩ => ⟨S1024x5408, .f32⟩
  | .hbm, ⟨23, _⟩ => ⟨S32x2048x5408, .f32⟩
  | .hbm, ⟨24, _⟩ => ⟨S32x2048x1568, .f32⟩
  | .hbm, ⟨25, _⟩ => ⟨S32x2048x1792, .f32⟩
  | .hbm, ⟨26, _⟩ => ⟨S32x2048x2048, .f32⟩
  | .hbm, ⟨27, _⟩ => ⟨S1792, .f32⟩
  | .hbm, ⟨28, _⟩ => ⟨S32x2047x1792, .f32⟩
  | .hbm, ⟨29, _⟩ => ⟨S_, .i32⟩
  | .hbm, ⟨30, _⟩ => ⟨S_, .f32⟩
  | .hbm, ⟨31, _⟩ => ⟨S32x2048x1792, .f32⟩
  | .hbm, ⟨32, _⟩ => ⟨S32x2048x1792, .f32⟩
  | .hbm, ⟨33, _⟩ => ⟨S1x1x1792, .f32⟩
  | .hbm, ⟨34, _⟩ => ⟨S32x2048x1792, .f32⟩
  | .hbm, ⟨35, _⟩ => ⟨S32x2048x1792, .f32⟩
  | .hbm, ⟨36, _⟩ => ⟨S32x2048x1792, .f32⟩
  | .hbm, ⟨37, _⟩ => ⟨S1792, .f32⟩
  | .hbm, ⟨38, _⟩ => ⟨S32x2047x1792, .f32⟩
  | .hbm, ⟨39, _⟩ => ⟨S_, .i32⟩
  | .hbm, ⟨40, _⟩ => ⟨S_, .f32⟩
  | .hbm, ⟨41, _⟩ => ⟨S32x2048x1792, .f32⟩
  | .hbm, ⟨42, _⟩ => ⟨S32x2048x1792, .f32⟩
  | .hbm, ⟨43, _⟩ => ⟨S1x1x1792, .f32⟩
  | .hbm, ⟨44, _⟩ => ⟨S32x2048x1792, .f32⟩
  | .hbm, ⟨45, _⟩ => ⟨S32x2048x1792, .f32⟩
  | .hbm, ⟨46, _⟩ => ⟨S32x2048x1792, .f32⟩
  | .hbm, ⟨47, _⟩ => ⟨S32x2048x1536, .f32⟩
  | .hbm, ⟨48, _⟩ => ⟨S32x2048x1536, .f32⟩
  | .hbm, ⟨49, _⟩ => ⟨S32x2048x5120, .f32⟩
  | .hbm, ⟨50, _⟩ => ⟨S32x2048x256, .f32⟩
  | .hbm, ⟨51, _⟩ => ⟨S32x2048x32, .f32⟩
  | .hbm, ⟨52, _⟩ => ⟨S_, .f32⟩
  | .hbm, ⟨53, _⟩ => ⟨S32x2048x224, .f32⟩
  | .hbm, ⟨54, _⟩ => ⟨S32x2048x512, .f32⟩
  | .hbm, ⟨55, _⟩ => ⟨S65536x5120, .f32⟩
  | .hbm, ⟨56, _⟩ => ⟨S65536x5120, .bf16⟩
  | .hbm, ⟨57, _⟩ => ⟨S65536x512, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_2 : Ref sig .tc := ⟨.hbm, 39, rfl⟩
abbrev main_call1_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Merge.lean ====
abbrev S65536x1024 : Shape := ⟨2, ![65536, 1024]⟩
abbrev S65536x512 : Shape := ⟨2, ![65536, 512]⟩
abbrev S65536x5120 : Shape := ⟨2, ![65536, 5120]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩
abbrev S1024x512 : Shape := ⟨2, ![1024, 512]⟩

abbrev nBuf : Space → Nat
  | .hbm => 14
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S65536x5120, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S512x1024, .f32⟩
  | .hbm, ⟨8, _⟩ => ⟨S512x1024, .bf16⟩
  | .hbm, ⟨9, _⟩ => ⟨S512x1024, .f32⟩
  | .hbm, ⟨10, _⟩ => ⟨S512x1024, .bf16⟩
  | .hbm, ⟨11, _⟩ => ⟨S1024x1024, .f32⟩
  | .hbm, ⟨12, _⟩ => ⟨S1024x1024, .bf16⟩
  | .hbm, ⟨13, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S65536x1024 : Shape := ⟨2, ![65536, 1024]⟩
abbrev S65536x512 : Shape := ⟨2, ![65536, 512]⟩
abbrev S65536x5120 : Shape := ⟨2, ![65536, 5120]⟩
abbrev S1x512x1024 : Shape := ⟨3, ![1, 512, 1024]⟩
abbrev S1x1024x1024 : Shape := ⟨3, ![1, 1024, 1024]⟩
abbrev S512x1024 : Shape := ⟨2, ![512, 1024]⟩
abbrev S_ : Shape := ⟨0, ![]⟩
abbrev S1024x1024 : Shape := ⟨2, ![1024, 1024]⟩

abbrev nBuf : Space → Nat
  | .hbm => 37
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S65536x5120, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S65536x1024, .bf16⟩
  | .hbm, ⟨8, _⟩ => ⟨S65536x1024, .f32⟩
  | .hbm, ⟨9, _⟩ => ⟨S65536x1024, .bf16⟩
  | .hbm, ⟨10, _⟩ => ⟨S65536x1024, .f32⟩
  | .hbm, ⟨11, _⟩ => ⟨S512x1024, .f32⟩
  | .hbm, ⟨12, _⟩ => ⟨S65536x1024, .f32⟩
  | .hbm, ⟨13, _⟩ => ⟨S512x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S_, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S1024x1024, .f32⟩
  | .hbm, ⟨35, _⟩ => ⟨S65536x1024, .f32⟩
  | .hbm, ⟨36, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Proof.GlaBody.lean ====
/-
What the forward call of the gated linear attention writes: its one output block is stored in 32 pieces, one for
each chunk of 64 rows, and every piece is the same function of the chunk's rows and of the state carried to it.
-/
module

public import proofs.«01_k».proof.Proof.Gen.GlaIdeal.Value
public import Idealize.ShloMosaic.Lib.Pipeline.ValueKit
public import Idealize.ShloMosaic.Lib.Pipeline.ReadBack
public import Idealize.ShloMosaic.Lib.Claim

@[expose] public section

set_option maxRecDepth 65536

noncomputable section

open Idealize.ShloMosaic Idealize.ShloMosaic.TcCoe Idealize.SL.Sem
open Idealize.ShloMosaic.Pipeline (Dat)

namespace Cert.GlaIdeal.RefValue

open Cert.GlaIdeal Cert.GlaIdeal.Gen

/-- The `n` rows from `o` on and the `w` columns from `c` on of a matrix. -/
def cut {R C n w : ℕ} {e : EltTy} (o c : ℕ) (ho : o + n ≤ R) (hc : c + w ≤ C) (x : Vec Ideal ⟨2, ![R, C]⟩ e) : Vec Ideal ⟨2, ![n, w]⟩ e :=
  fun j => x (ix2 ⟨o + (j 0).val, by have : (j 0).val < n := (j 0).isLt; omega⟩ ⟨c + (j 1).val, by have : (j 1).val < w := (j 1).isLt; omega⟩)

theorem fits0 {R C n w o c : ℕ} (h : ∀ a, (![o, c] : Fin 2 → ℕ) a + (![n, w] : Fin 2 → ℕ) a ≤ (![R, C] : Fin 2 → ℕ) a) : o + n ≤ R := h 0

theorem fits1 {R C n w o c : ℕ} (h : ∀ a, (![o, c] : Fin 2 → ℕ) a + (![n, w] : Fin 2 → ℕ) a ≤ (![R, C] : Fin 2 → ℕ) a) : c + w ≤ C := h 1

/-- A load through a window of a matrix is that cut of it. -/
theorem ld_cut {R C n w o c : ℕ} {e : EltTy} (h : ∀ a, (![o, c] : Fin 2 → ℕ) a + (![n, w] : Fin 2 → ℕ) a ≤ (![R, C] : Fin 2 → ℕ) a)
    (x : Vec Ideal ⟨2, ![R, C]⟩ e) :
    View.ld (Val := Elt Ideal) (e' := e) x (Rect.unit (s := ⟨2, ![R, C]⟩) ![o, c] ![n, w] h) = cut o c (fits0 h) (fits1 h) x := by
  funext j
  exact congrArg x (Shape.idx_ext₂ (by show o + 1 * _ = o + _; rw [Nat.one_mul]) (by show c + 1 * _ = c + _; rw [Nat.one_mul]))

/-- A load through a window of a matrix stored whole is that cut of what was stored. -/
theorem stored_cut {sig : RefSig} {κ : Kind} {sp : Space} {R C n w o c : ℕ} {t : EltTy} (v : View sig κ sp ⟨2, ![R, C]⟩ t)
    (h0 : ∀ a, (![0, 0] : Fin 2 → ℕ) a + (![R, C] : Fin 2 → ℕ) a ≤ (![R, C] : Fin 2 → ℕ) a)
    (h : ∀ a, (![o, c] : Fin 2 → ℕ) a + (![n, w] : Fin 2 → ℕ) a ≤ (![R, C] : Fin 2 → ℕ) a) (x : Vec Ideal ⟨2, ![R, C]⟩ t) :
    v.readCov (Val := Elt Ideal) [⟨Rect.unit ![0, 0] ![R, C] h0, x⟩] (Rect.unit ![o, c] ![n, w] h).toLoadRect
      = cut o c (fits0 h) (fits1 h) x := by
  rw [View.readCov_eq_canon']
  funext j
  have e : (Rect.unit ![o, c] ![n, w] h).toLoadRect.idx j
      = Rect.emb (s := ⟨2, ![R, C]⟩) (Rect.unit ![0, 0] ![R, C] h0)
          (ix2 ⟨o + (j 0).val, by have : (j 0).val < n := (j 0).isLt; have := fits0 h; omega⟩
            ⟨c + (j 1).val, by have : (j 1).val < w := (j 1).isLt; have := fits1 h; omega⟩ : (⟨2, ![R, C]⟩ : Shape).Idx) :=
    Shape.idx_ext₂ (by show o + 1 * _ = 0 + 1 * (o + _); omega) (by show c + 1 * _ = 0 + 1 * (c + _); omega)
  rw [e]
  exact View.canon_cons_emb (Val := Elt Ideal) (e := t) (Rect.unit (s := ⟨2, ![R, C]⟩) ![0, 0] ![R, C] h0) x [] _

/-- The running sums of the log decays, chunk by chunk, of a whole sequence. -/
def bAll (x2 : Vec Ideal S2048x256 .f32) (x3 : Vec Ideal S256x256 .f32) (x4 : Vec Ideal S1x256 .f32) : Vec Ideal S2048x256 .f32 :=
  let io0 := iota Kind.tc S256x256 32 [0] iota_S256x256_d0_w32
  let io1 := iota Kind.tc S256x256 32 [1] iota_S256x256_d1_w32
  let l := k0_pay7 x2 x3 x4
  k0_pay19 l (k0_pay10 io0 io1 k0_pay8 k0_pay9) (k0_pay11 l io0 io1 k0_pay8 k0_pay9) (k0_pay12 l io0 io1 k0_pay8 k0_pay9)
    (k0_pay13 l io0 io1 k0_pay8 k0_pay9) (k0_pay14 l io0 io1 k0_pay8 k0_pay9) (k0_pay16 l) (k0_pay17 l) (k0_pay18 io0 io1 k0_pay8 k0_pay9)
    (constant S256x256 FTy.f32 0#32)

theorem bAll_def (x2 : Vec Ideal S2048x256 .f32) (x3 : Vec Ideal S256x256 .f32) (x4 : Vec Ideal S1x256 .f32) :
    k0_pay19 (k0_pay7 x2 x3 x4)
      (k0_pay10 (iota Kind.tc S256x256 32 [0] iota_S256x256_d0_w32) (iota Kind.tc S256x256 32 [1] iota_S256x256_d1_w32) k0_pay8 k0_pay9)
      (k0_pay11 (k0_pay7 x2 x3 x4) (iota Kind.tc S256x256 32 [0] iota_S256x256_d0_w32) (iota Kind.tc S256x256 32 [1] iota_S256x256_d1_w32) k0_pay8 k0_pay9)
      (k0_pay12 (k0_pay7 x2 x3 x4) (iota Kind.tc S256x256 32 [0] iota_S256x256_d0_w32) (iota Kind.tc S256x256 32 [1] iota_S256x256_d1_w32) k0_pay8 k0_pay9)
      (k0_pay13 (k0_pay7 x2 x3 x4) (iota Kind.tc S256x256 32 [0] iota_S256x256_d0_w32) (iota Kind.tc S256x256 32 [1] iota_S256x256_d1_w32) k0_pay8 k0_pay9)
      (k0_pay14 (k0_pay7 x2 x3 x4) (iota Kind.tc S256x256 32 [0] iota_S256x256_d0_w32) (iota Kind.tc S256x256 32 [1] iota_S256x256_d1_w32) k0_pay8 k0_pay9)
      (k0_pay16 (k0_pay7 x2 x3 x4)) (k0_pay17 (k0_pay7 x2 x3 x4))
      (k0_pay18 (iota Kind.tc S256x256 32 [0] iota_S256x256_d0_w32) (iota Kind.tc S256x256 32 [1] iota_S256x256_d1_w32) k0_pay8 k0_pay9)
      (constant S256x256 FTy.f32 0#32) = bAll x2 x3 x4 := rfl

section chunks

variable (x0 x1 : Vec Ideal S2048x512 .bf16) (b : Vec Ideal S2048x256 .f32)

/-- The running sums, the queries, the keys and the values of the 64 rows from `o` on. -/
def bRows (o : ℕ) (h : o + 64 ≤ 2048) : Vec Ideal S64x256 .f32 := cut o 0 h (by decide) b

def qRows (o : ℕ) (h : o + 64 ≤ 2048) : Vec Ideal S64x256 .bf16 := cut o 0 h (by decide) x0

def kRows (o : ℕ) (h : o + 64 ≤ 2048) : Vec Ideal S64x256 .bf16 := cut o 256 h (by decide) x0

def vRows (o : ℕ) (h : o + 64 ≤ 2048) : Vec Ideal S64x512 .bf16 := cut o 0 h (by decide) x1

/-- What a chunk adds to the decayed state. -/
def addC (o : ℕ) (h : o + 64 ≤ 2048) : Vec Ideal S512x256 .f32 :=
  k0_pay519 k0_pay32 (k0_pay40 (k0_pay39 (bRows b o h) (kRows x0 o h))) (k0_pay42 (k0_pay37 (vRows x1 o h)))

/-- The state after a chunk. -/
def stepC (o : ℕ) (h : o + 64 ≤ 2048) (s : Vec Ideal S512x256 .f32) : Vec Ideal S512x256 .f32 :=
  k0_pay558 (k0_pay45 (k0_pay34 (bRows b o h))) (addC x0 x1 b o h) s

/-- A chunk's attention matrices, one head beside the other. -/
def attC (o : ℕ) (h : o + 64 ≤ 2048) : Vec Ideal S64x256 .bf16 :=
  k0_pay453 k0_pay31 (k0_pay38 (bRows b o h) (qRows x0 o h))
    (k0_pay43 k0_pay22 k0_pay23 (k0_pay25 k0_pay20 k0_pay24) (k0_pay26 k0_pay20) (bRows b o h) (k0_pay33 (bRows b o h))
      (k0_pay36 (kRows x0 o h)))

/-- A chunk's values, one head below the other. -/
def valC (o : ℕ) (h : o + 64 ≤ 2048) : Vec Ideal S256x512 .bf16 :=
  k0_pay44 (k0_pay27 k0_pay21) (k0_pay28 k0_pay21) (k0_pay29 k0_pay21) (k0_pay30 k0_pay21) (k0_pay37 (vRows x1 o h))

/-- What is written of a chunk. -/
def outC (o : ℕ) (h : o + 64 ≤ 2048) (s : Vec Ideal S512x256 .f32) : Vec Ideal S64x512 .f32 :=
  k0_pay557 (k0_pay41 (bRows b o h) (k0_pay35 (qRows x0 o h))) (k0_pay485 (valC x1 o h) (attC x0 b o h)) s

/-- The state before chunk `n`. -/
def stC : (n : ℕ) → n ≤ 32 → Vec Ideal S512x256 .f32
  | 0, _ => k0_pay6 (F := Ideal)
  | n + 1, h => stepC x0 x1 b (64 * n) (by omega) (stC n (by omega))

/-- The pieces written of the first `n` chunks, the last first. -/
def pieces : (n : ℕ) → n ≤ 32 → List (View.Piece (Elt Ideal) S2048x512 .f32)
  | 0, _ => []
  | n + 1, h => ⟨Rect.unit (s := S2048x512) ![64 * n, 0] S64x512.size (fun a => match a with
      | ⟨0, _⟩ => (by omega : 64 * n + 64 ≤ 2048)
      | ⟨1, _⟩ => (by decide : 0 + 512 ≤ 512)), outC x0 x1 b (64 * n) (by omega) (stC x0 x1 b n (by omega))⟩ :: pieces n (by omega)

end chunks

set_option maxHeartbeats 4000000 in
/-- The kernel's block is written in those 32 pieces. -/
theorem written (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S2048x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2048x512 .f32) (harg7 : arg7.IsWhole) (arg8 : Memref sig .tc .vmem S512x256 .f32) (harg8 : arg8.IsWhole) (arg9 : Memref sig .tc .vmem S2048x256 .f32) (harg9 : arg9.IsWhole) (hc0 : cond0_0 i)
    (x0 : Vec Ideal S2048x512 .bf16) (x1 : Vec Ideal S2048x512 .bf16) (x2 : Vec Ideal S2048x256 .f32) (x3 : Vec Ideal S256x256 .f32) (x4 : Vec Ideal S1x256 .f32) :
   ((kernelRun0_A (F := Ideal) c i arg2 harg2 arg3 harg3 arg4 harg4 arg5 harg5 arg6 harg6 arg7 harg7 arg8 harg8 arg9 harg9 hc0 x0 x1 x2 x3 x4).1) = pieces x0 x1 (bAll x2 x3 x4) 32 (by decide) := by
  frame_open
  simp (disch := decide) only [ld_cut, stored_cut, View.readCov_cons_unit_lit', View.readCov_unit_lit', View.ld_unit_lit', View.readAt_eq_ld, Memref.IsWhole.read_unread]
  rfl

end Cert.GlaIdeal.RefValue

end
-- ==== Proof.GlaChunk.lean ====
/-
One chunk of the gated linear attention, head by head. The kernel keeps the four heads side by side in one matrix, with
zeros wherever two different heads meet; taken apart, every head is the plain chunked recurrence.
-/
module

public import proofs.«01_k».proof.Proof.GlaBody

@[expose] public section

set_option maxRecDepth 16384

noncomputable section

open Idealize.ShloMosaic Idealize.ShloMosaic.TcCoe Idealize.SL.Sem
open Idealize.ShloMosaic.Pipeline (Dat)

namespace Cert.GlaIdeal.RefValue

open Cert.GlaIdeal Cert.GlaIdeal.Gen

/-! ## One head of one chunk -/

/-- The causal attention weight of row `s` for row `r`, from queries `q`, keys `k` and running sums `b` of the log decays. -/
def attn (q k b : Fin 64 → Fin 64 → EReal) (r s : Fin 64) : EReal :=
  if s ≤ r then ∑ i, q r i * Ideal.exp (b r i - b 32 i) * (k s i * Ideal.exp (b 32 i - b s i)) else 0

/-- What the chunk adds to the decayed state. -/
def upd (k b : Fin 64 → Fin 64 → EReal) (v : Fin 64 → Fin 128 → EReal) (i : Fin 64) (w : Fin 128) : EReal :=
  ∑ r, v r w * (k r i * Ideal.exp (b 63 i - b r i))

/-- The state after the chunk. -/
def nextS (k b : Fin 64 → Fin 64 → EReal) (v S : Fin 64 → Fin 128 → EReal) (i : Fin 64) (w : Fin 128) : EReal :=
  S i w * Ideal.exp (b 63 i) + upd k b v i w

/-- What the chunk gives: its own attention and what it reads from the state before it. -/
def outS (q k b : Fin 64 → Fin 64 → EReal) (v S : Fin 64 → Fin 128 → EReal) (r : Fin 64) (w : Fin 128) : EReal :=
  ∑ s, attn q k b r s * v s w + ∑ i, q r i * Ideal.exp (b r i) * S i w

/-- The state before chunk `n`. -/
def stS (k b : Fin 32 → Fin 64 → Fin 64 → EReal) (v : Fin 32 → Fin 64 → Fin 128 → EReal) : (n : ℕ) → n ≤ 32 → Fin 64 → Fin 128 → EReal
  | 0, _ => fun _ _ => 0
  | n + 1, h => nextS (k ⟨n, h⟩) (b ⟨n, h⟩) (v ⟨n, h⟩) (stS k b v n (Nat.le_of_lt h))

/-! ## Where a head's columns lie -/

def lk (h : Fin 4) (i : Fin 64) : Fin 256 := ⟨h.val * 64 + i.val, by omega⟩

def lv (h : Fin 4) (w : Fin 128) : Fin 512 := ⟨h.val * 128 + w.val, by omega⟩

theorem sum_lk (f : Fin 256 → EReal) : ∑ x, f x = ∑ h, ∑ i, f (lk h i) := Fin.sum_univ_tiles 4 64 rfl f

/-- A sum over heads of which all but one give 0. -/
theorem sum_head (h : Fin 4) (f : Fin 4 → EReal) (hf : ∀ g, g ≠ h → f g = 0) : ∑ g, f g = f h :=
  Finset.sum_eq_single h (fun g _ hg => hf g hg) fun hh => absurd (Finset.mem_univ h) hh

/-! ## The masks -/

theorem shr7 : ∀ w : Fin 512, IntOp.shrui ArithUnit.vector (BitVec.ofNat 32 w.val) 7#32 = BitVec.ofNat 32 (w.val / 128) := by decide +kernel

theorem shr6 : ∀ k : Fin 256, IntOp.shrui ArithUnit.vector (BitVec.ofNat 32 k.val) 6#32 = BitVec.ofNat 32 (k.val / 64) := by decide +kernel

theorem and63 : ∀ k : Fin 256, IntOp.andi (BitVec.ofNat 32 k.val) 63#32 = BitVec.ofNat 32 (k.val % 64) := by decide +kernel

theorem eq4 : ∀ a b : Fin 4, IntOp.cmpi CmpIPredicate.eq (BitVec.ofNat 32 a.val) (BitVec.ofNat 32 b.val) = if a = b then 1 else 0 := by
  decide +kernel

theorem le_word (a b : ℕ) (ha : a < 2 ^ 31) (hb : b < 2 ^ 31) :
    IntOp.cmpi CmpIPredicate.sle (BitVec.ofNat 32 a) (BitVec.ofNat 32 b) = if a ≤ b then 1 else 0 := by
  rw [Idealize.ShloMosaic.WordCmp.cmpi_sle_ofNat ha hb]
  by_cases h : a ≤ b
  · rw [if_pos h]; simp [h]
  · rw [if_neg h]; simp [h]

theorem sel {α : Type} (p : Prop) [Decidable p] (a b : α) : Scalar.select (if p then (1 : BitVec 1) else 0) a b = if p then a else b := by
  split <;> rfl

theorem lk_div (h : Fin 4) (i : Fin 64) : (lk h i).val / 64 = h.val := by show (h.val * 64 + i.val) / 64 = _; omega

theorem lk_mod (h : Fin 4) (i : Fin 64) : (lk h i).val % 64 = i.val := by show (h.val * 64 + i.val) % 64 = _; omega

theorem lv_div (h : Fin 4) (w : Fin 128) : (lv h w).val / 128 = h.val := by show (h.val * 128 + w.val) / 128 = _; omega

/-- The state's mask keeps where the head of the value column is the head of the key column. -/
theorem mask_state (g h : Fin 4) (w : Fin 128) (i : Fin 64) : k0_pay32 (ix2 (lv g w) (lk h i)) = if g = h then 1 else 0 := by
  pointwise [k0_pay32]
  rw [shr7, shr6, lv_div, lk_div]
  exact eq4 g h

/-- The causal mask. -/
theorem mask_causal (r : Fin 64) (h : Fin 4) (s : Fin 64) : k0_pay31 (ix2 r (lk h s)) = if s ≤ r then 1 else 0 := by
  pointwise [k0_pay31]
  rw [and63, lk_mod]
  exact le_word s.val r.val (by omega) (by omega)

/-- The masks that keep one head's key columns. -/
theorem mask_k (h : Fin 4) (s : Fin 64) (i : Fin 64) (g : Fin 4) :
    IntOp.cmpi CmpIPredicate.eq (k0_pay20 (ix2 s (lk h i))) (BitVec.ofNat 32 g.val) = if h = g then 1 else 0 := by
  pointwise [k0_pay20]
  rw [shr6, lk_div]
  exact eq4 h g

/-- The masks that keep one head's value columns. -/
theorem mask_v (h : Fin 4) (s : Fin 64) (w : Fin 128) (g : Fin 4) :
    IntOp.cmpi CmpIPredicate.eq (k0_pay21 (ix2 s (lv h w))) (BitVec.ofNat 32 g.val) = if h = g then 1 else 0 := by
  pointwise [k0_pay21]
  rw [shr7, lv_div]
  exact eq4 h g

/-! ## A chunk of the kernel, head by head -/

/-- Heads below one another: row `64 g + s` is row `s` of head `g`. -/
theorem stacked {α : Type} (g : Fin 4) (s : Fin 64) (k : Fin 256) (hk : k.val = g.val * 64 + s.val) (f0 f1 f2 f3 : Fin 64 → α)
    (F : Fin 4 → Fin 64 → α) (h0 : ∀ s, f0 s = F 0 s) (h1 : ∀ s, f1 s = F 1 s) (h2 : ∀ s, f2 s = F 2 s) (h3 : ∀ s, f3 s = F 3 s) :
    (if h : k.val < 64 then f0 ⟨k.val, h⟩
      else if h : k.val - 64 < 64 then f1 ⟨k.val - 64, h⟩
      else if h : k.val - 64 - 64 < 64 then f2 ⟨k.val - 64 - 64, h⟩
      else f3 ⟨k.val - 64 - 64 - 64, by have := k.isLt; omega⟩) = F g s := by
  have hs := s.isLt
  match g, hk with
  | ⟨0, _⟩, hk =>
    have e : k.val = 0 * 64 + s.val := hk
    rw [dif_pos (by omega), h0]
    exact congrArg (F 0) (Fin.ext (by show k.val = s.val; omega))
  | ⟨1, _⟩, hk =>
    have e : k.val = 1 * 64 + s.val := hk
    rw [dif_neg (by omega), dif_pos (by omega), h1]
    exact congrArg (F 1) (Fin.ext (by show k.val - 64 = s.val; omega))
  | ⟨2, _⟩, hk =>
    have e : k.val = 2 * 64 + s.val := hk
    rw [dif_neg (by omega), dif_neg (by omega), dif_pos (by omega), h2]
    exact congrArg (F 2) (Fin.ext (by show k.val - 64 - 64 = s.val; omega))
  | ⟨3, _⟩, hk =>
    have e : k.val = 3 * 64 + s.val := hk
    rw [dif_neg (by omega), dif_neg (by omega), dif_neg (by omega), h3]
    exact congrArg (F 3) (Fin.ext (by show k.val - 64 - 64 - 64 = s.val; omega))

/-- A select by a mask known to be 1 on one head. -/
theorem sel_head {c : BitVec 1} {h g : Fin 4} (e : c = if h = g then 1 else 0) (x : EReal) :
    Scalar.select c x 0 = if h = g then x else 0 := by
  rw [e, sel]

/-- The keys, one head below the other. -/
theorem keys_at (g h : Fin 4) (s i : Fin 64) (B : Vec Ideal S64x256 .f32) (m : FVec Ideal S1x256 .f32) (K : FVec Ideal S64x256 .f32) :
    k0_pay43 (F := Ideal) k0_pay22 k0_pay23 (k0_pay25 k0_pay20 k0_pay24) (k0_pay26 k0_pay20) B m K (ix2 (lk g s) (lk h i))
      = if h = g then K (ix2 s (lk h i)) * Ideal.exp (m (ix2 0 (lk h i)) - B (ix2 s (lk h i))) else 0 := by
  pointwise [k0_pay43]
  let x : Fin 64 → EReal := fun s => K (ix2 s (lk h i)) * Ideal.exp (m (ix2 0 (lk h i)) - B (ix2 s (lk h i)))
  exact stacked g s (lk g s) rfl (fun s => Scalar.select (k0_pay22 (ix2 s (lk h i))) (x s) 0)
    (fun s => Scalar.select (k0_pay23 (ix2 s (lk h i))) (x s) 0) (fun s => Scalar.select (k0_pay25 k0_pay20 k0_pay24 (ix2 s (lk h i))) (x s) 0)
    (fun s => Scalar.select (k0_pay26 k0_pay20 (ix2 s (lk h i))) (x s) 0) (fun g' s' => if h = g' then x s' else 0)
    (fun s => sel_head (mask_k h s i 0) _) (fun s => sel_head (mask_k h s i 1) _) (fun s => sel_head (mask_k h s i 2) _)
    (fun s => sel_head (mask_k h s i 3) _)

/-- The values, one head below the other. -/
theorem vals_at (g h : Fin 4) (s : Fin 64) (w : Fin 128) (V : FVec Ideal S64x512 .f32) :
    k0_pay44 (F := Ideal) (k0_pay27 k0_pay21) (k0_pay28 k0_pay21) (k0_pay29 k0_pay21) (k0_pay30 k0_pay21) V (ix2 (lk g s) (lv h w))
      = if h = g then V (ix2 s (lv h w)) else 0 := by
  pointwise [k0_pay44]
  let x : Fin 64 → EReal := fun s => V (ix2 s (lv h w))
  exact stacked g s (lk g s) rfl (fun s => Scalar.select (k0_pay27 k0_pay21 (ix2 s (lv h w))) (x s) 0)
    (fun s => Scalar.select (k0_pay28 k0_pay21 (ix2 s (lv h w))) (x s) 0) (fun s => Scalar.select (k0_pay29 k0_pay21 (ix2 s (lv h w))) (x s) 0)
    (fun s => Scalar.select (k0_pay30 k0_pay21 (ix2 s (lv h w))) (x s) 0) (fun g' s' => if h = g' then x s' else 0)
    (fun s => sel_head (mask_v h s w 0) _) (fun s => sel_head (mask_v h s w 1) _) (fun s => sel_head (mask_v h s w 2) _)
    (fun s => sel_head (mask_v h s w 3) _)

section chunk

variable (x0 x1 : Vec Ideal S2048x512 .bf16) (b : Vec Ideal S2048x256 .f32)

/-- Row `r` of chunk `n`. -/
def row (n : Fin 32) (r : Fin 64) : Fin 2048 := ⟨64 * n.val + r.val, by omega⟩

/-- One head's scaled queries, keys, running sums and values. -/
def hq (h : Fin 4) (n : Fin 32) (r i : Fin 64) : EReal :=
  x0 (ix2 (row n r) ⟨h.val * 64 + i.val, by omega⟩) * Ideal.ofBits FTy.f32 0x3E000000#32

def hk (h : Fin 4) (n : Fin 32) (r i : Fin 64) : EReal := x0 (ix2 (row n r) ⟨256 + (h.val * 64 + i.val), by omega⟩)

def hb (h : Fin 4) (n : Fin 32) (r i : Fin 64) : EReal := b (ix2 (row n r) (lk h i))

def hv (h : Fin 4) (n : Fin 32) (r : Fin 64) (w : Fin 128) : EReal := x1 (ix2 (row n r) (lv h w))

theorem fit (n : Fin 32) : 64 * n.val + 64 ≤ 2048 := by omega

theorem b_at (h : Fin 4) (n : Fin 32) (r i : Fin 64) : bRows b (64 * n.val) (fit n) (ix2 r (lk h i)) = hb b h n r i :=
  congrArg b (Shape.idx_ext₂ rfl (Nat.zero_add _))

theorem q_at (h : Fin 4) (n : Fin 32) (r i : Fin 64) :
    qRows x0 (64 * n.val) (fit n) (ix2 r (lk h i)) * Ideal.ofBits FTy.f32 0x3E000000#32 = hq x0 h n r i :=
  congrArg (fun z : EReal => z * Ideal.ofBits FTy.f32 0x3E000000#32) (congrArg x0 (Shape.idx_ext₂ rfl (Nat.zero_add _)))

theorem k_at (h : Fin 4) (n : Fin 32) (r i : Fin 64) : kRows x0 (64 * n.val) (fit n) (ix2 r (lk h i)) = hk x0 h n r i := rfl

theorem v_at (h : Fin 4) (n : Fin 32) (r : Fin 64) (w : Fin 128) : vRows x1 (64 * n.val) (fit n) (ix2 r (lv h w)) = hv x1 h n r w :=
  congrArg x1 (Shape.idx_ext₂ rfl (Nat.zero_add _))

/-- What is added to the state: each head's own, and 0 where two heads meet. -/
theorem add_at (n : Fin 32) (g h : Fin 4) (w : Fin 128) (i : Fin 64) :
    addC x0 x1 b (64 * n.val) (fit n) (ix2 (lv g w) (lk h i)) = if g = h then upd (hk x0 h n) (hb b h n) (hv x1 h n) i w else 0 := by
  unfold addC
  pointwise [k0_pay519, k0_pay40, k0_pay39, k0_pay34, k0_pay36, k0_pay42, k0_pay37]
  rw [mask_state, sel]
  by_cases e : g = h
  · subst e
    rw [if_pos rfl, if_pos rfl]
    exact Finset.sum_congr rfl fun r _ => by rw [b_at, b_at, k_at, v_at]
  · rw [if_neg e, if_neg e]

theorem step_at (n : Fin 32) (g h : Fin 4) (w : Fin 128) (i : Fin 64) (S : Vec Ideal S512x256 .f32) :
    stepC x0 x1 b (64 * n.val) (fit n) S (ix2 (lv g w) (lk h i))
      = S (ix2 (lv g w) (lk h i)) * Ideal.exp (hb b h n 63 i) + if g = h then upd (hk x0 h n) (hb b h n) (hv x1 h n) i w else 0 := by
  unfold stepC
  pointwise [k0_pay558, k0_pay45, k0_pay34]
  rw [b_at, add_at]

/-- The state before chunk `n`: each head's own, and 0 where two heads meet. -/
theorem state_at (g h : Fin 4) (w : Fin 128) (i : Fin 64) : ∀ (n : ℕ) (hn : n ≤ 32),
    stC x0 x1 b n hn (ix2 (lv g w) (lk h i)) = if g = h then stS (hk x0 h) (hb b h) (hv x1 h) n hn i w else 0
  | 0, _ => by
    unfold stC stS
    pointwise [k0_pay6]
    rw [ite_self]
  | n + 1, hn => by
    refine (step_at x0 x1 b ⟨n, hn⟩ g h w i _).trans ?_
    rw [state_at g h w i n (Nat.le_of_lt hn)]
    by_cases e : g = h
    · rw [if_pos e, if_pos e, if_pos e]
      rfl
    · rw [if_neg e, if_neg e, if_neg e, zero_mul, zero_add]

theorem att_at (n : Fin 32) (r : Fin 64) (g : Fin 4) (s : Fin 64) :
    attC x0 b (64 * n.val) (fit n) (ix2 r (lk g s)) = attn (hq x0 g n) (hk x0 g n) (hb b g n) r s := by
  unfold attC attn
  pointwise [k0_pay453, k0_pay38, k0_pay35, k0_pay33]
  rw [mask_causal, sel]
  by_cases e : s ≤ r
  · rw [if_pos e, if_pos e, sum_lk]
    refine (sum_head g _ fun h hh => Finset.sum_eq_zero fun i _ => ?_).trans (Finset.sum_congr rfl fun i _ => ?_)
    · rw [keys_at, if_neg hh, mul_zero]
    · rw [keys_at, if_pos rfl, b_at, b_at, b_at, q_at]
      refine congrArg₂ (· * ·) rfl (congrArg₂ (· * ·) ?_ ?_)
      · exact k_at x0 g n s i
      · refine congrArg Ideal.exp (congrArg₂ (· - ·) ?_ rfl)
        pointwise []
        exact b_at b g n 32 i
  · rw [if_neg e, if_neg e]

theorem val_at (n : Fin 32) (g h : Fin 4) (s : Fin 64) (w : Fin 128) :
    valC x1 (64 * n.val) (fit n) (ix2 (lk g s) (lv h w)) = if h = g then hv x1 h n s w else 0 := by
  unfold valC
  rw [vals_at]
  exact ite_congr rfl (fun _ => v_at x1 h n s w) fun _ => rfl

/-- What the kernel writes of a chunk is each head's own. -/
theorem out_at (n : Fin 32) (r : Fin 64) (h : Fin 4) (w : Fin 128) :
    outC x0 x1 b (64 * n.val) (fit n) (stC x0 x1 b n.val n.isLt.le) (ix2 r (lv h w))
      = outS (hq x0 h n) (hk x0 h n) (hb b h n) (hv x1 h n) (stS (hk x0 h) (hb b h) (hv x1 h) n.val n.isLt.le) r w := by
  unfold outC outS
  pointwise [k0_pay557, k0_pay485, k0_pay41, k0_pay35]
  refine congrArg₂ (· + ·) ?_ ?_
  · rw [sum_lk]
    refine (sum_head h _ fun g hg => Finset.sum_eq_zero fun s _ => ?_).trans (Finset.sum_congr rfl fun s _ => ?_)
    · rw [val_at, if_neg (Ne.symm hg), mul_zero]
    · rw [val_at, if_pos rfl, att_at]
  · rw [sum_lk]
    refine (sum_head h _ fun g hg => Finset.sum_eq_zero fun i _ => ?_).trans (Finset.sum_congr rfl fun i _ => ?_)
    · rw [state_at, if_neg (Ne.symm hg), mul_zero]
    · rw [state_at, if_pos rfl, q_at, b_at]

end chunk

end Cert.GlaIdeal.RefValue

end
-- ==== Proof.GlaGate.lean ====
/-
The log decay of a gate, as the kernel and as the plain formula compute it. The two agree on every extended real, and
the value is never plus infinity.
-/
module

public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlaGate

open Idealize.ShloMosaic

/-- `(min z 0 - log (1 + exp (0 - |z|))) / 16`. -/
def gate (z : EReal) : EReal :=
  (min z 0 - Ideal.log (1 + Ideal.exp (0 - max z (-z)))) * Ideal.ofBits FTy.f32 0x3D800000#32

theorem sixteenth : Ideal.ofBits FTy.f32 0x3D800000#32 = (((1 : ℝ) / 16 : ℝ) : EReal) := by
  simp [Ideal.ofBits, Ideal.ieee, -EReal.coe_mul]; norm_num

theorem sixteen : Ideal.ofBits FTy.f32 0x41800000#32 = ((16 : ℝ) : EReal) := by
  simp [Ideal.ofBits, Ideal.ieee, -EReal.coe_mul]; norm_num

/-- The logarithm both compute is 0 at plus or minus infinity. -/
theorem log_one : Ideal.log (1 + Ideal.exp ⊥) = 0 := by
  rw [Ideal.exp_bot, add_zero, show (1 : EReal) = ((1 : ℝ) : EReal) from rfl, Ideal.log_coe, if_neg (by norm_num), Real.log_one]
  rfl

/-- At a real it is a real. -/
theorem log_real (y : ℝ) : ∃ l : ℝ, Ideal.log (1 + Ideal.exp (y : EReal)) = (l : EReal) := by
  have h : (1 : EReal) + Ideal.exp (y : EReal) = ((1 + Real.exp y : ℝ) : EReal) := by
    rw [Ideal.exp_coe, EReal.coe_add]; rfl
  refine ⟨Real.log (1 + Real.exp y), ?_⟩
  rw [h, Ideal.log_coe, if_neg (by have := Real.exp_pos y; linarith)]

theorem abs_real (x : ℝ) : max (x : EReal) (-(x : EReal)) = ((max x (-x) : ℝ) : EReal) := by
  rw [← EReal.coe_neg]; exact (EReal.coe_strictMono.monotone.map_max).symm

theorem gate_bot : gate ⊥ = ⊥ := by
  have h : (0 : EReal) - max ⊥ (-⊥) = ⊥ := by rw [EReal.neg_bot, max_eq_right le_top]; rfl
  unfold gate
  rw [h, log_one, min_eq_left bot_le, sub_zero, sixteenth]
  exact EReal.bot_mul_coe_of_pos (by norm_num)

theorem gate_top : gate ⊤ = 0 := by
  have h : (0 : EReal) - max ⊤ (-⊤) = ⊥ := by rw [max_eq_left le_top]; rfl
  unfold gate
  rw [h, log_one, min_eq_right le_top, sub_zero, zero_mul]

theorem gate_real (x : ℝ) : ∃ y : ℝ, gate (x : EReal) = (y : EReal) := by
  have h : (0 : EReal) - max (x : EReal) (-(x : EReal)) = ((-(max x (-x)) : ℝ) : EReal) := by
    rw [abs_real, zero_sub, EReal.coe_neg]
  have m : min (x : EReal) 0 = ((min x 0 : ℝ) : EReal) := (EReal.coe_strictMono.monotone.map_min (a := x) (b := 0)).symm
  obtain ⟨l, e⟩ := log_real (-(max x (-x)))
  unfold gate
  rw [h, e, m, sixteenth, ← EReal.coe_sub, ← EReal.coe_mul]
  exact ⟨_, rfl⟩

theorem gate_ne_top (z : EReal) : gate z ≠ ⊤ := by
  induction z with
  | bot => rw [gate_bot]; exact bot_ne_top
  | top => rw [gate_top]; exact EReal.zero_ne_top
  | coe x => obtain ⟨y, e⟩ := gate_real x; rw [e]; exact EReal.coe_ne_top y

/-- The softplus form: `-(max (-z) 0 + log1p (exp (-|-z - 0|))) / 16`. -/
def softplus (z : EReal) : EReal :=
  Ideal.div (-(max (-z) 0 + Ideal.log1p (Ideal.exp (-(max (-z - 0) (-(-z - 0))))))) (Ideal.ofBits FTy.f32 0x41800000#32)

theorem softplus_eq (z : EReal) : softplus z = gate z := by
  unfold softplus gate Ideal.log1p
  rw [sixteen, Ideal.div_coe (by norm_num), sixteenth, sub_zero, neg_neg, max_comm (-z) z, zero_sub]
  refine congrArg (· * _) ?_
  have m : -(max (-z) 0) = min z 0 := by
    rcases le_total z 0 with h | h
    · rw [min_eq_left h, max_eq_left (by rw [← neg_zero]; exact EReal.neg_le_neg_iff.mpr h), neg_neg]
    · rw [min_eq_right h, max_eq_right (by rw [← neg_zero]; exact EReal.neg_le_neg_iff.mpr h), neg_zero]
  have f : ∃ l : ℝ, Ideal.log (1 + Ideal.exp (-max z (-z))) = (l : EReal) := by
    induction z with
    | bot => exact ⟨0, by rw [EReal.neg_bot, max_eq_right le_top, EReal.neg_top, log_one]; rfl⟩
    | top => exact ⟨0, by rw [max_eq_left le_top, EReal.neg_top, log_one]; rfl⟩
    | coe x => rw [abs_real, ← EReal.coe_neg]; exact log_real _
  obtain ⟨l, e⟩ := f
  rw [e, EReal.neg_add (Or.inr (EReal.coe_ne_top l)) (Or.inr (EReal.coe_ne_bot l)), m]

/-! ## Sums of values none of which is plus infinity -/

theorem sum_bot {n : ℕ} (f : Fin n → EReal) (i : Fin n) (h : f i = ⊥) : ∑ j, f j = ⊥ := by
  rw [← Finset.add_sum_erase Finset.univ f (Finset.mem_univ i), h, EReal.bot_add]

/-- Adding the sum of the differences `f i - f i` changes nothing: they are 0, or the sum is minus infinity already. -/
theorem sum_rest {n : ℕ} (f : Fin n → EReal) (h : ∀ i, f i ≠ ⊤) (p : Fin n → Prop) [DecidablePred p] :
    (∑ i, if p i then f i else 0) + (∑ i, if p i then f i - f i else 0) = ∑ i, if p i then f i else 0 := by
  by_cases c : ∃ i, p i ∧ f i = ⊥
  · obtain ⟨i, hp, hi⟩ := c
    rw [sum_bot _ i (by rw [if_pos hp, hi]), EReal.bot_add]
  · rw [Finset.sum_eq_zero (f := fun i => if p i then f i - f i else 0), add_zero]
    intro i _
    by_cases hp : p i
    · rw [if_pos hp]; exact EReal.sub_self (h i) fun e => c ⟨i, hp, e⟩
    · rw [if_neg hp]

end Cert.GlaGate

end
-- ==== Proof.GlaDecay.lean ====
/-
The running sums of the log decays. The kernel gets them from products with a triangular matrix of zeros and ones,
256 rows at a time; taken apart, the value at a row is the sum over the rows of its chunk down to it.
-/
module

public import proofs.«01_k».proof.Proof.GlaChunk
public import proofs.«01_k».proof.Proof.GlaGate

@[expose] public section

set_option maxRecDepth 16384

noncomputable section

open Idealize.ShloMosaic Idealize.ShloMosaic.TcCoe Idealize.SL.Sem
open Idealize.ShloMosaic.Pipeline (Dat)

namespace Cert.GlaIdeal.RefValue

open Cert.GlaIdeal Cert.GlaIdeal.Gen Cert.GlaGate

/-- The triangular matrix: ones where the column is in the row's chunk and not past the row. -/
def tri : Vec Ideal S256x256 .f32 := k0_pay10 (F := Ideal) (iota Kind.tc S256x256 32 [0] iota_S256x256_d0_w32) (iota Kind.tc S256x256 32 [1] iota_S256x256_d1_w32) k0_pay8 k0_pay9

theorem tri_at (a g : Fin 4) (r i : Fin 64) : tri (ix2 (lk a r) (lk g i)) = if a = g ∧ i ≤ r then (1 : EReal) else 0 := by
  unfold tri
  pointwise [k0_pay10, k0_pay8, k0_pay9]
  rw [shr6, shr6, lk_div, lk_div, eq4, le_word _ _ (by have := (lk g i).isLt; omega) (by have := (lk a r).isLt; omega)]
  by_cases e : a = g
  · subst e
    have hle : (lk a i).val ≤ (lk a r).val ↔ i ≤ r := by
      show a.val * 64 + i.val ≤ a.val * 64 + r.val ↔ i.val ≤ r.val
      omega
    by_cases l : i ≤ r
    · rw [if_pos rfl, if_pos (hle.mpr l), if_pos ⟨rfl, l⟩]; rfl
    · rw [if_pos rfl, if_neg (fun h => l (hle.mp h)), if_neg (show ¬ (a = a ∧ i ≤ r) from fun h => l h.2)]; rfl
  · rw [if_neg e, if_neg (show ¬ (a = g ∧ i ≤ r) from fun h => e h.1)]
    split <;> rfl

/-- One product with the triangular matrix: row `r` of chunk `n` of a matrix `l`. -/
theorem tri_sum (n : Fin 32) (r : Fin 64) (f : Fin 2048 → EReal) :
    ∑ x : Fin 256, tri (ix2 (lk ⟨n.val % 4, by omega⟩ r) x) * f ⟨256 * (n.val / 4) + x.val, by omega⟩
      = ∑ i : Fin 64, if i ≤ r then f (row n i) else 0 := by
  rw [Fin.sum_univ_tiles 4 64 rfl]
  refine (Finset.sum_eq_single (⟨n.val % 4, by omega⟩ : Fin 4) ?_ ?_).trans ?_
  · intro g _ hg
    refine Finset.sum_eq_zero fun i _ => ?_
    rw [show tri (ix2 (lk ⟨n.val % 4, by omega⟩ r) ⟨g.val * 64 + i.val, by omega⟩) = (0 : EReal) from
      (tri_at _ g r i).trans (if_neg fun h => hg h.1.symm), zero_mul]
  · intro h; exact absurd (Finset.mem_univ _) h
  · refine Finset.sum_congr rfl fun i _ => ?_
    rw [show tri (ix2 (lk ⟨n.val % 4, by omega⟩ r) ⟨n.val % 4 * 64 + i.val, by omega⟩) = if i ≤ r then (1 : EReal) else 0 from
      (tri_at _ ⟨n.val % 4, by omega⟩ r i).trans (by simp)]
    by_cases l : i ≤ r
    · rw [if_pos l, if_pos l, one_mul]
      exact congrArg f (Fin.ext (by show 256 * (n.val / 4) + (n.val % 4 * 64 + i.val) = 64 * n.val + i.val; omega))
    · rw [if_neg l, if_neg l, zero_mul]

/-- Both products of one block of 256 rows. -/
def both (l : Vec Ideal S2048x256 .f32) (J : Fin 8) (s : Fin 256) (k : Fin 256) : EReal :=
  (∑ x : Fin 256, tri (ix2 s x) * l (ix2 ⟨256 * J.val + x.val, by omega⟩ k))
    + ∑ x : Fin 256, tri (ix2 s x) * (l (ix2 ⟨256 * J.val + x.val, by omega⟩ k) - l (ix2 ⟨256 * J.val + x.val, by omega⟩ k))

/-- Eight blocks of 256 rows below one another: row `256 J + s` is row `s` of block `J`. -/
theorem stacked8 (F : Fin 8 → Fin 256 → EReal) (R : Fin 2048) (J : Fin 8) (s : Fin 256) (hR : R.val = 256 * J.val + s.val)
    (f0 f1 f2 f3 f4 f5 f6 f7 : Fin 256 → EReal) (h0 : f0 = F 0) (h1 : f1 = F 1) (h2 : f2 = F 2) (h3 : f3 = F 3) (h4 : f4 = F 4)
    (h5 : f5 = F 5) (h6 : f6 = F 6) (h7 : f7 = F 7) :
    (if h : R.val < 256 then f0 ⟨R.val, h⟩
      else if h : R.val - 256 < 256 then f1 ⟨R.val - 256, h⟩
      else if h : R.val - 256 - 256 < 256 then f2 ⟨R.val - 256 - 256, h⟩
      else if h : R.val - 256 - 256 - 256 < 256 then f3 ⟨R.val - 256 - 256 - 256, h⟩
      else if h : R.val - 256 - 256 - 256 - 256 < 256 then f4 ⟨R.val - 256 - 256 - 256 - 256, h⟩
      else if h : R.val - 256 - 256 - 256 - 256 - 256 < 256 then f5 ⟨R.val - 256 - 256 - 256 - 256 - 256, h⟩
      else if h : R.val - 256 - 256 - 256 - 256 - 256 - 256 < 256 then f6 ⟨R.val - 256 - 256 - 256 - 256 - 256 - 256, h⟩
      else f7 ⟨R.val - 256 - 256 - 256 - 256 - 256 - 256 - 256, by have := R.isLt; omega⟩) = F J s := by
  subst h0 h1 h2 h3 h4 h5 h6 h7
  have hJ := J.isLt
  have hs := s.isLt
  have key : ∀ (j : Fin 8) (x : ℕ) (hx : x < 256), 256 * j.val + x = R.val → F j ⟨x, hx⟩ = F J s := by
    intro j x hx e
    obtain rfl : j = J := Fin.ext (by omega)
    exact congrArg (F j) (Fin.ext (by show x = s.val; omega))
  split_ifs with c0 c1 c2 c3 c4 c5 c6
  · exact key 0 _ _ (by show 256 * 0 + _ = _; omega)
  · exact key 1 _ _ (by show 256 * 1 + _ = _; omega)
  · exact key 2 _ _ (by show 256 * 2 + _ = _; omega)
  · exact key 3 _ _ (by show 256 * 3 + _ = _; omega)
  · exact key 4 _ _ (by show 256 * 4 + _ = _; omega)
  · exact key 5 _ _ (by show 256 * 5 + _ = _; omega)
  · exact key 6 _ _ (by show 256 * 6 + _ = _; omega)
  · exact key 7 _ _ (by show 256 * 7 + _ = _; omega)

theorem both_eq (l : Vec Ideal S2048x256 .f32) (n : Fin 32) (r : Fin 64) (k : Fin 256) (hl : ∀ i : Fin 64, l (ix2 (row n i) k) ≠ (⊤ : EReal)) :
    both l ⟨n.val / 4, by omega⟩ (lk ⟨n.val % 4, by omega⟩ r) k = ∑ i : Fin 64, if i ≤ r then l (ix2 (row n i) k) else (0 : EReal) := by
  unfold both
  refine (congrArg₂ (· + ·) (tri_sum n r fun R => l (ix2 R k)) (tri_sum n r fun R => l (ix2 R k) - l (ix2 R k))).trans ?_
  exact sum_rest (fun i => l (ix2 (row n i) k)) hl (fun i => i ≤ r)

/-- The running sums, block by block. -/
theorem b_both (x2 : Vec Ideal S2048x256 .f32) (x3 : Vec Ideal S256x256 .f32) (x4 : Vec Ideal S1x256 .f32) (R : Fin 2048) (k : Fin 256)
    (J : Fin 8) (s : Fin 256) (hR : R.val = 256 * J.val + s.val) : bAll x2 x3 x4 (ix2 R k) = both (k0_pay7 x2 x3 x4) J s k := by
  unfold bAll
  generalize k0_pay7 x2 x3 x4 = l
  pointwise [k0_pay19, k0_pay11, k0_pay12, k0_pay13, k0_pay14, k0_pay15, k0_pay16, k0_pay17, k0_pay18]
  refine stacked8 (fun J s => both l J s k) R J s hR
    (fun s => (∑ x : Fin 256, tri (ix2 s x) * l (ix2 ⟨x.val, by omega⟩ k))
      + ∑ x : Fin 256, tri (ix2 s x) * (l (ix2 ⟨x.val, by omega⟩ k) - l (ix2 ⟨x.val, by omega⟩ k)))
    (both l 1 · k) (both l 2 · k) (both l 3 · k) (both l 4 · k) (both l 5 · k) (both l 6 · k) (both l 7 · k) ?_ rfl rfl rfl rfl rfl rfl rfl
  funext s
  have e : ∀ x : Fin 256, (⟨x.val, by omega⟩ : Fin 2048) = ⟨256 * (0 : Fin 8).val + x.val, by omega⟩ := fun x => Fin.ext (Nat.zero_add _).symm
  simp only [e]
  rfl

end Cert.GlaIdeal.RefValue

end
-- ==== Proof.GlaSpec.lean ====
/-
The forward pass of the gated linear attention as one function of the argument arrays: chunk by chunk, head by head.
-/
module

public import proofs.«01_k».proof.Proof.GlaDecay

@[expose] public section

set_option maxRecDepth 16384

noncomputable section

open Idealize.ShloMosaic Idealize.ShloMosaic.TcCoe Idealize.SL.Sem
open Idealize.ShloMosaic.Pipeline (Dat)

namespace Cert.GlaIdeal.RefValue

open Cert.GlaIdeal Cert.GlaIdeal.Gen Cert.GlaGate

section spec

variable (A0 : Vec Ideal S65536x5120 .bf16) (A1 : Vec Ideal S65536x512 .f32) (A2 : Vec Ideal S1x16x256 .f32) (A3 : Vec Ideal S1x256 .f32)

/-- Row `r` of chunk `n` of sequence `c`. -/
def pos (c n : Fin 32) (r : Fin 64) : Fin 65536 := ⟨2048 * c.val + (64 * n.val + r.val), by omega⟩

/-- One head's scaled queries, keys and values. -/
def sq (c : Fin 32) (h : Fin 4) (n : Fin 32) (r i : Fin 64) : EReal :=
  A0 (ix2 (pos c n r) ⟨2048 + (h.val * 64 + i.val), by omega⟩) * Ideal.ofBits FTy.f32 0x3E000000#32

def sk (c : Fin 32) (h : Fin 4) (n : Fin 32) (r i : Fin 64) : EReal := A0 (ix2 (pos c n r) ⟨2304 + (h.val * 64 + i.val), by omega⟩)

def sv (c : Fin 32) (h : Fin 4) (n : Fin 32) (r : Fin 64) (w : Fin 128) : EReal := A0 (ix2 (pos c n r) ⟨2560 + (h.val * 128 + w.val), by omega⟩)

/-- The gate's argument: the low-rank product and its bias. -/
def arg (R : Fin 65536) (k : Fin 256) : EReal :=
  (∑ i : Fin 16, A1 (ix2 R ⟨256 + i.val, by omega⟩) * A2 (ix3 0 i k)) + A3 (ix2 0 k)

/-- One head's running sums of the log decays. -/
def sb (c : Fin 32) (h : Fin 4) (n : Fin 32) (r i : Fin 64) : EReal :=
  ∑ s : Fin 64, if s ≤ r then gate (arg A1 A2 A3 (pos c n s) (lk h i)) else 0

/-- The state before a chunk. -/
def state (c : Fin 32) (h : Fin 4) (n : ℕ) (hn : n ≤ 32) : Fin 64 → Fin 128 → EReal := stS (sk A0 c h) (sb A1 A2 A3 c h) (sv A0 c h) n hn

/-- The result. -/
def spec (c : Fin 32) (h : Fin 4) (n : Fin 32) (r : Fin 64) (w : Fin 128) : EReal :=
  outS (sq A0 c h n) (sk A0 c h n) (sb A1 A2 A3 c h n) (sv A0 c h n) (state A0 A1 A2 A3 c h n.val n.isLt.le) r w

end spec

end Cert.GlaIdeal.RefValue

end
-- ==== Proof.GlaWin.lean ====
/-
What the kernel leaves in a sequence's rows is the gated linear attention of the argument arrays, the gate's inputs and weight being finite.
-/
module

public import proofs.«01_k».proof.Proof.GlaSpec

@[expose] public section

set_option maxRecDepth 16384

noncomputable section

open Idealize.ShloMosaic Idealize.ShloMosaic.TcCoe Idealize.SL.Sem
open Idealize.ShloMosaic.Pipeline (Dat)

namespace Cert.GlaIdeal.RefValue

open Cert.GlaIdeal Cert.GlaIdeal.Gen Cert.GlaGate

/-! ## The gate's argument in the kernel -/

/-- The kernel's three products of the split factors, and the bias. -/
def split3 (x2 : Vec Ideal S2048x256 .f32) (x3 : Vec Ideal S256x256 .f32) (x4 : Vec Ideal S1x256 .f32) (w : Fin 2048) (k : Fin 256) : EReal :=
  (∑ x : Fin 256, x2 (ix2 w x) * x3 (ix2 x k)) + (∑ x : Fin 256, (x2 (ix2 w x) - x2 (ix2 w x)) * x3 (ix2 x k))
    + (∑ x : Fin 256, x2 (ix2 w x) * (x3 (ix2 x k) - x3 (ix2 x k))) + x4 (ix2 0 k)

theorem pay7_at (x2 : Vec Ideal S2048x256 .f32) (x3 : Vec Ideal S256x256 .f32) (x4 : Vec Ideal S1x256 .f32) (w : Fin 2048) (k : Fin 256) :
    k0_pay7 x2 x3 x4 (ix2 w k) = gate (split3 x2 x3 x4 w k) := by
  pointwise [k0_pay7]
  rfl

/-- Where the factors are finite, and the weight 0 from row 16 on, only the product itself is left. -/
theorem split3_eq (x2 : Vec Ideal S2048x256 .f32) (x3 : Vec Ideal S256x256 .f32) (x4 : Vec Ideal S1x256 .f32) (w : Fin 2048) (k : Fin 256)
    (h2 : ∀ i : Fin 16, (x2 (ix2 w ⟨i.val, by omega⟩) : EReal) ≠ ⊥ ∧ (x2 (ix2 w ⟨i.val, by omega⟩) : EReal) ≠ ⊤)
    (h3 : ∀ i : Fin 16, (x3 (ix2 ⟨i.val, by omega⟩ k) : EReal) ≠ ⊥ ∧ (x3 (ix2 ⟨i.val, by omega⟩ k) : EReal) ≠ ⊤)
    (h0 : ∀ x : Fin 256, 16 ≤ x.val → (x3 (ix2 x k) : EReal) = 0) :
    split3 x2 x3 x4 w k = (∑ i : Fin 16, x2 (ix2 w ⟨i.val, by omega⟩) * x3 (ix2 ⟨i.val, by omega⟩ k)) + x4 (ix2 0 k) := by
  have a : ∀ f : Fin 256 → EReal, (∀ x : Fin 256, 16 ≤ x.val → f x = 0) → ∑ x, f x = ∑ i : Fin 16, f ⟨i.val, by omega⟩ := by
    intro f hf
    rw [Fin.sum_univ_two_halves 16 240 rfl f, Finset.sum_eq_zero (s := Finset.univ) (f := fun i : Fin 240 => f ⟨16 + i.val, by omega⟩)
      (fun i _ => hf _ (Nat.le_add_right _ _)), add_zero]
  unfold split3
  have e1 : (∑ x : Fin 256, ((x2 (ix2 w x) : EReal) - x2 (ix2 w x)) * x3 (ix2 x k)) = 0 := Finset.sum_eq_zero fun x _ => by
    by_cases h : 16 ≤ x.val
    · rw [h0 x h, mul_zero]
    · have := h2 ⟨x.val, by omega⟩
      rw [EReal.sub_self this.2 this.1, zero_mul]
  have e2 : (∑ x : Fin 256, (x2 (ix2 w x) : EReal) * (x3 (ix2 x k) - x3 (ix2 x k))) = 0 := Finset.sum_eq_zero fun x _ => by
    by_cases h : 16 ≤ x.val
    · rw [h0 x h, sub_zero, mul_zero]
    · have := h3 ⟨x.val, by omega⟩
      rw [EReal.sub_self this.2 this.1, mul_zero]
  rw [e1, e2, add_zero, add_zero]
  exact congrArg (· + _) (a (fun x => x2 (ix2 w x) * x3 (ix2 x k)) fun x hx => by rw [h0 x hx, mul_zero])

/-! ## The windows -/

variable (m : (ℓ : Loc nD τ sig) → Buf (Elt Ideal) ℓ)

theorem idx : ∀ t : Fin cfg0.N, win0_0.index t = ![t.val, 4] ∧ win0_1.index t = ![t.val, 5] ∧ win0_2.index t = ![t.val, 1]
    ∧ win0_3.index t = ![0, 0] ∧ win0_4.index t = ![0, 0] ∧ win0_5.index t = ![t.val, 0] :=
  (by decide +kernel : ∀ t : Fin grid0.N, _)

theorem t_lt (t : Fin cfg0.N) : t.val < 32 := lt_of_lt_of_eq t.isLt (by decide +kernel)

/-- The grid point's sequence. -/
def sn (t : Fin cfg0.N) : Fin 32 := ⟨t.val, t_lt t⟩

/-- The weight with rows of 0 below it. -/
def padA (x : FVec Ideal S1x16x256 .f32) : FVec Ideal S256x256 .f32 :=
  pad S256x256 ![0, 0] ![240, 0] ![0, 0] (shapeCast S16x256 x shapeCasts_S1x16x256_S16x256) (sitofp (F := Ideal) .f32 (constantI S_ 32 0#32))
    pads_S16x256_S256x256_02400_000 h_S_

theorem V_a (c : Dev nD) : V m c main_v1 = padA (m ((c : Thread nD τ).loc main_arg2)) := by
  rfl

theorem V_b (c : Dev nD) : V m c main_v3 = shapeCast S1x256 (shapeCast S256 (m ((c : Thread nD τ).loc main_arg3) : FVec Ideal S1x256 .f32)
    shapeCasts_S1x256_S256) shapeCasts_S256_S1x256 := by
  unfold V hostOps0
  entry_read
  rfl

theorem padA_at (x : FVec Ideal S1x16x256 .f32) (j k : Fin 256) :
    padA x (ix2 j k) = if h : j.val < 16 then x (ix3 0 ⟨j.val, h⟩ k) else 0 := by
  have z : (FloatOps.sitofp (F := Ideal) FTy.f32 0#32 : EReal) = 0 := by
    show ((((0#32).toInt : ℝ)) : EReal) = 0
    simp
  pointwise [padA, z]

theorem q_read (c : Dev nD) (t : Fin cfg0.N) (r : Fin 2048) (q : Fin 512) :
    iblk m c 0 t (ix2 r q) = m ((c : Thread nD τ).loc main_arg0) (ix2 ⟨2048 * t.val + r.val, by have := t_lt t; omega⟩ ⟨2048 + q.val, by omega⟩) := by
  have ht := t_lt t
  have e : ∀ A : S65536x5120.Idx → EReal, A ((win0_0.blk t).view.emb (ix2 r q)) = A (ix2 ⟨2048 * t.val + r.val, by omega⟩ ⟨2048 + q.val, by omega⟩) :=
    fun A => by blk_ext [idx t]
  blk_simp [iblk, V]
  exact e _

theorem v_read (c : Dev nD) (t : Fin cfg0.N) (r : Fin 2048) (q : Fin 512) :
    iblk m c 1 t (ix2 r q) = m ((c : Thread nD τ).loc main_arg0) (ix2 ⟨2048 * t.val + r.val, by have := t_lt t; omega⟩ ⟨2560 + q.val, by omega⟩) := by
  have ht := t_lt t
  have e : ∀ A : S65536x5120.Idx → EReal, A ((win0_1.blk t).view.emb (ix2 r q)) = A (ix2 ⟨2048 * t.val + r.val, by omega⟩ ⟨2560 + q.val, by omega⟩) :=
    fun A => by blk_ext [idx t]
  blk_simp [iblk, V]
  exact e _

theorem s_read (c : Dev nD) (t : Fin cfg0.N) (r : Fin 2048) (q : Fin 256) :
    iblk m c 2 t (ix2 r q) = m ((c : Thread nD τ).loc main_arg1) (ix2 ⟨2048 * t.val + r.val, by have := t_lt t; omega⟩ ⟨256 + q.val, by omega⟩) := by
  have ht := t_lt t
  have e : ∀ A : S65536x512.Idx → EReal, A ((win0_2.blk t).view.emb (ix2 r q)) = A (ix2 ⟨2048 * t.val + r.val, by omega⟩ ⟨256 + q.val, by omega⟩) :=
    fun A => by blk_ext [idx t]
  blk_simp [iblk, V]
  exact e _

theorem a_read (c : Dev nD) (t : Fin cfg0.N) (j k : Fin 256) :
    iblk m c 3 t (ix2 j k) = padA (m ((c : Thread nD τ).loc main_arg2)) (ix2 j k) := by
  have e : ∀ A : S256x256.Idx → EReal, A ((win0_3.blk t).view.emb (ix2 j k)) = A (ix2 j k) := fun A => by blk_ext [idx t]
  blk_simp [iblk]
  rw [V_a]
  exact e _

theorem b_read (c : Dev nD) (t : Fin cfg0.N) (k : Fin 256) :
    iblk m c 4 t (ix2 0 k) = m ((c : Thread nD τ).loc main_arg3) (ix2 0 k) := by
  have e : ∀ A : S1x256.Idx → EReal, A ((win0_4.blk t).view.emb (ix2 0 k)) = A (ix2 0 k) := fun A => by blk_ext [idx t]
  blk_simp [iblk]
  rw [V_b]
  refine (e _).trans ?_
  pointwise []

/-! ## The block's queries, keys, values and running sums -/

theorem hq_read (c : Dev nD) (t : Fin cfg0.N) (h : Fin 4) : hq (iblk m c 0 t) h = sq (m ((c : Thread nD τ).loc main_arg0)) (sn t) h := by
  funext n r i
  exact congrArg (fun z : EReal => z * Ideal.ofBits FTy.f32 0x3E000000#32) (q_read m c t (row n r) ⟨h.val * 64 + i.val, by omega⟩)

theorem hk_read (c : Dev nD) (t : Fin cfg0.N) (h : Fin 4) : hk (iblk m c 0 t) h = sk (m ((c : Thread nD τ).loc main_arg0)) (sn t) h := by
  funext n r i
  refine (q_read m c t (row n r) ⟨256 + (h.val * 64 + i.val), by omega⟩).trans ?_
  exact congrArg (m ((c : Thread nD τ).loc main_arg0)) (Shape.idx_ext₂ rfl (by show 2048 + (256 + _) = 2304 + _; omega))

theorem hv_read (c : Dev nD) (t : Fin cfg0.N) (h : Fin 4) : hv (iblk m c 1 t) h = sv (m ((c : Thread nD τ).loc main_arg0)) (sn t) h := by
  funext n r w
  exact v_read m c t (row n r) (lv h w)

/-- The gate's inputs and weight are finite. -/
def Finite (A1 : Vec Ideal S65536x512 .f32) (A2 : Vec Ideal S1x16x256 .f32) : Prop :=
  (∀ (R : Fin 65536) (i : Fin 16), (A1 (ix2 R ⟨256 + i.val, by omega⟩) : EReal) ≠ ⊥ ∧ (A1 (ix2 R ⟨256 + i.val, by omega⟩) : EReal) ≠ ⊤)
    ∧ ∀ (i : Fin 16) (k : Fin 256), (A2 (ix3 0 i k) : EReal) ≠ ⊥ ∧ (A2 (ix3 0 i k) : EReal) ≠ ⊤

theorem pay7_read (c : Dev nD) (t : Fin cfg0.N) (fin : Finite (m ((c : Thread nD τ).loc main_arg1)) (m ((c : Thread nD τ).loc main_arg2)))
    (n : Fin 32) (s : Fin 64) (k : Fin 256) :
    k0_pay7 (iblk m c 2 t) (iblk m c 3 t) (iblk m c 4 t) (ix2 (row n s) k)
      = gate (arg (m ((c : Thread nD τ).loc main_arg1)) (m ((c : Thread nD τ).loc main_arg2)) (m ((c : Thread nD τ).loc main_arg3)) (pos (sn t) n s) k) := by
  have hx : ∀ i : Fin 16, iblk m c 2 t (ix2 (row n s) ⟨i.val, by omega⟩) = m ((c : Thread nD τ).loc main_arg1) (ix2 (pos (sn t) n s) ⟨256 + i.val, by omega⟩) :=
    fun i => s_read m c t (row n s) ⟨i.val, by omega⟩
  have ha : ∀ i : Fin 16, iblk m c 3 t (ix2 ⟨i.val, by omega⟩ k) = m ((c : Thread nD τ).loc main_arg2) (ix3 0 i k) :=
    fun i => (a_read m c t ⟨i.val, by omega⟩ k).trans ((padA_at _ _ k).trans (dif_pos i.isLt))
  refine (pay7_at _ _ _ _ k).trans (congrArg gate ?_)
  refine (split3_eq _ _ _ _ k (fun i => by rw [hx i]; exact fin.1 _ i) (fun i => by rw [ha i]; exact fin.2 i k)
    (fun x h => (a_read m c t x k).trans ((padA_at _ _ k).trans (dif_neg (by omega))))).trans ?_
  unfold arg
  exact congrArg₂ (· + ·) (Finset.sum_congr rfl fun i _ => congrArg₂ (· * ·) (hx i) (ha i)) (b_read m c t k)

theorem hb_read (c : Dev nD) (t : Fin cfg0.N) (fin : Finite (m ((c : Thread nD τ).loc main_arg1)) (m ((c : Thread nD τ).loc main_arg2))) (h : Fin 4) :
    hb (bAll (iblk m c 2 t) (iblk m c 3 t) (iblk m c 4 t)) h
      = sb (m ((c : Thread nD τ).loc main_arg1)) (m ((c : Thread nD τ).loc main_arg2)) (m ((c : Thread nD τ).loc main_arg3)) (sn t) h := by
  funext n r i
  have e := pay7_read m c t fin n
  refine (b_both _ _ _ (row n r) (lk h i) ⟨n.val / 4, by omega⟩ (lk ⟨n.val % 4, by omega⟩ r)
    (by show 64 * n.val + r.val = 256 * (n.val / 4) + (n.val % 4 * 64 + r.val); omega)).trans ?_
  refine (both_eq _ n r (lk h i) fun s => by rw [e s]; exact gate_ne_top _).trans ?_
  exact Finset.sum_congr rfl fun s _ => if_congr Iff.rfl (e s _) rfl

/-! ## The block written -/

section pieces

variable (x0 x1 : Vec Ideal S2048x512 .bf16) (b : Vec Ideal S2048x256 .f32)

theorem pieces_at (n : Fin 32) (r : Fin 64) (y : Fin 512) : (N : ℕ) → (hN : N ≤ 32) → n.val < N →
    View.canon (Val := Elt Ideal) (pieces x0 x1 b N hN) (ix2 (row n r) y)
      = outC x0 x1 b (64 * n.val) (fit n) (stC x0 x1 b n.val n.isLt.le) (ix2 r y)
  | N + 1, hN, h => by
    rcases Nat.lt_succ_iff_lt_or_eq.mp h with l | l
    · refine (View.canon_cons_of_not_mem _ _ ?_).trans (pieces_at n r y N (Nat.le_of_lt hN) l)
      intro hm
      obtain ⟨i, hi, he⟩ := (LoadRect.mem_set _).mp hm (0 : Fin 2)
      have he' : 64 * n.val + r.val = 64 * N + 1 * i := he
      omega
    · obtain ⟨n, hn⟩ := n
      obtain rfl : n = N := l
      have e : (ix2 (row ⟨n, hn⟩ r) y : S2048x512.Idx) = Rect.emb (s := S2048x512) (Rect.unit (s := S2048x512) ![64 * n, 0] S64x512.size (fun a => match a with
          | ⟨0, _⟩ => (by omega : 64 * n + 64 ≤ 2048)
          | ⟨1, _⟩ => (by decide : 0 + 512 ≤ 512))) (ix2 r y : S64x512.Idx) :=
        Shape.idx_ext₂ (by show 64 * n + r.val = 64 * n + 1 * r.val; omega) (by show y.val = 0 + 1 * y.val; omega)
      rw [e]
      exact View.canon_cons_emb (Val := Elt Ideal) (e := .f32) (Rect.unit (s := S2048x512) ![64 * n, 0] S64x512.size _) _ _ _

end pieces

/-- What the kernel's block holds after a grid point. -/
theorem after_at (c : Dev nD) (t : Fin cfg0.N) (fin : Finite (m ((c : Thread nD τ).loc main_arg1)) (m ((c : Thread nD τ).loc main_arg2)))
    (n : Fin 32) (r : Fin 64) (h : Fin 4) (w : Fin 128) :
    (dats m 0 c).after 5 t (ix2 (row n r) (lv h w))
      = spec (m ((c : Thread nD τ).loc main_arg0)) (m ((c : Thread nD τ).loc main_arg1)) (m ((c : Thread nD τ).loc main_arg2))
          (m ((c : Thread nD τ).loc main_arg3)) (sn t) h n r w := by
  rw [after0_5]
  unfold outsAt0 out0_A_5
  rw [written, View.read_writes_junk_eq_canon]
  refine (pieces_at _ _ _ n r (lv h w) 32 _ n.isLt).trans ((out_at _ _ _ n r h w).trans ?_)
  unfold spec state
  rw [hq_read, hk_read, hv_read, hb_read m c t fin]

end Cert.GlaIdeal.RefValue

end
-- ==== Proof.GlaCumsum.lean ====
/-
A cumulative sum along the chunk's rows is the sum over the rows down to each.
-/
module

public import proofs.«01_k».proof.Proof.Gen.GlaRefIdeal.Step
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlaRefIdeal.Rows

open Cert.GlaRefIdeal

theorem foldl_add {α : Type} (g : α → EReal) (l : List α) (v : EReal) : l.foldl (fun r k => r + g k) v = v + (l.map g).sum := by
  induction l generalizing v with
  | nil => simp
  | cons a l ih => rw [List.foldl_cons, ih, List.map_cons, List.sum_cons, add_assoc]

theorem foldl_finRange {n : ℕ} (g : Fin n → EReal) (v : EReal) : (List.finRange n).foldl (fun r k => r + g k) v = v + ∑ k, g k := by
  rw [foldl_add, Fin.sum_univ_def]

/-- The rows a window ending at row `r` reaches. -/
theorem window_sum (f : Fin 64 → EReal) (r : Fin 64) (g : Fin 64 → EReal)
    (h1 : ∀ t s : Fin 64, s.val + 63 = r.val + t.val → g t = f s) (h0 : ∀ t : Fin 64, r.val + t.val < 63 → g t = 0) :
    ∑ t, g t = ∑ s, if s ≤ r then f s else 0 := by
  rw [← Equiv.sum_comp (Equiv.addLeft (r + 1)) fun s => if s ≤ r then f s else 0]
  refine Finset.sum_congr rfl fun t _ => ?_
  have hv : (Equiv.addLeft (r + 1) t).val = (r.val + 1 + t.val) % 64 := by
    show (r + 1 + t).val = _
    rw [Fin.val_add, Fin.val_add]
    show ((r.val + 1) % 64 + t.val) % 64 = _
    omega
  by_cases c : r.val + t.val < 63
  · rw [h0 t c, if_neg]
    intro l
    have : (Equiv.addLeft (r + 1) t).val ≤ r.val := l
    omega
  · rw [if_pos (show Equiv.addLeft (r + 1) t ≤ r from Fin.le_def.mpr (by omega))]
    exact h1 t _ (by omega)

/-- The cumulative sum at a row. -/
theorem cumsum_at (x : FVec Ideal S32x32x64x4x64 .f32) (init : FVec Ideal S_ .f32)
    (hw : S32x32x64x4x64.ReduceWindows ![1, 1, 64, 1, 1] ![1, 1, 1, 1, 1] ![0, 0, 63, 0, 0] ![0, 0, 0, 0, 0] S32x32x64x4x64) (hu : 0 < S_.numel)
    (hi : init (Shape.Idx.first hu) = 0) (c n : Fin 32) (r : Fin 64) (h : Fin 4) (i : Fin 64) :
    Host.reduceWindowAdd ![1, 1, 64, 1, 1] ![1, 1, 1, 1, 1] ![0, 0, 63, 0, 0] ![0, 0, 0, 0, 0] x init hw hu (ix5 c n r h i)
      = ∑ s : Fin 64, if s ≤ r then x (ix5 c n s h i) else 0 := by
  show (List.finRange _).foldl _ (init (Shape.Idx.first hu)) = _
  rw [hi]
  refine (foldl_finRange _ 0).trans ((zero_add _).trans ?_)
  rw [← Equiv.sum_comp (⟨5, ![1, 1, 64, 1, 1]⟩ : Shape).rowMajor]
  rw [sum_idx5]
  simp only [Finset.univ_unique, Finset.sum_singleton]
  refine window_sum (fun s => x (ix5 c n s h i)) r _ (fun t s e => ?_) fun t e => ?_
  · simp only [Equiv.symm_apply_apply]
    rw [dif_pos]
    · refine congrArg x ?_
      funext a
      refine Fin.ext ?_
      fin_cases a
      · exact Nat.mul_one _
      · exact Nat.mul_one _
      · show r.val * 1 + t.val - 63 = s.val
        omega
      · exact Nat.mul_one _
      · exact Nat.mul_one _
    · intro a
      fin_cases a
      · exact ⟨Nat.zero_le _, (Nat.mul_one _).trans_lt c.isLt⟩
      · exact ⟨Nat.zero_le _, (Nat.mul_one _).trans_lt n.isLt⟩
      · show 63 ≤ r.val * 1 + t.val ∧ r.val * 1 + t.val - 63 < 64
        omega
      · exact ⟨Nat.zero_le _, (Nat.mul_one _).trans_lt h.isLt⟩
      · exact ⟨Nat.zero_le _, (Nat.mul_one _).trans_lt i.isLt⟩
  · simp only [Equiv.symm_apply_apply]
    rw [dif_neg]
    intro l
    have l2 : 63 ≤ r.val * 1 + t.val := (l 2).1
    omega

end Cert.GlaRefIdeal.Rows

end
-- ==== Proof.GlaRef.lean ====
/-
What the reference computes before its loop over the chunks, at an index.
-/
module

public import proofs.«01_k».proof.Proof.GlaSpec
public import proofs.«01_k».proof.Proof.GlaCumsum

@[expose] public section

set_option maxRecDepth 16384

noncomputable section

open Idealize.ShloMosaic Idealize.ShloMosaic.TcCoe Idealize.SL.Sem
open Idealize.ShloMosaic.Pipeline (Dat)

namespace Cert.GlaRefIdeal.Rows

open Cert.GlaRefIdeal Cert.GlaRefIdeal.Step
variable (A0 : FVec Ideal S65536x5120 .bf16) (A1 : FVec Ideal S65536x512 .f32) (A2 : FVec Ideal S1x16x256 .f32) (A3 : FVec Ideal S1x256 .f32)

theorem arg_at (c : Fin 32) (t : Fin 2048) (k : Fin 256) : A_main_v16 (F := Ideal) A0 A1 A2 A3 (ix3 c t k) = Cert.GlaIdeal.RefValue.arg A1 A2 A3 ⟨2048 * c.val + t.val, by omega⟩ k := by
  unfold Cert.GlaIdeal.RefValue.arg
  simp only [Nat.mul_comm 2048]
  pointwise [A_main_v16, A_main_v12, A_main_v10, A_main_v9, A_main_v11, A_main_v15, A_main_v14, A_main_v13]

theorem gate_at (c : Fin 32) (t : Fin 2048) (k : Fin 256) : A_main_v33 (F := Ideal) A0 A1 A2 A3 (ix3 c t k) = Cert.GlaGate.gate (Cert.GlaIdeal.RefValue.arg A1 A2 A3 ⟨2048 * c.val + t.val, by omega⟩ k) := by
  rw [← Cert.GlaGate.softplus_eq, ← arg_at A0]
  unfold Cert.GlaGate.softplus
  pointwise [A_main_v33, K_main_v32, K_main_cst_1, A_main_v31, A_main_v30, A_main_v22, A_main_v24, A_main_v29, A_main_v19, A_main_v28, A_main_v27, A_main_v26, A_main_v25, A_main_v21, A_main_v17, K_main_v18, K_main_v20, K_main_v23, K_main_cst_0]
  rw [if_neg (fun h => h rfl)]
  rfl

theorem decay_at (c n : Fin 32) (r : Fin 64) (h : Fin 4) (i : Fin 64) :
    A_main_v38 (F := Ideal) A0 A1 A2 A3 (ix5 c n r h i) = Cert.GlaGate.gate (Cert.GlaIdeal.RefValue.arg A1 A2 A3 (Cert.GlaIdeal.RefValue.pos c n r) (Cert.GlaIdeal.RefValue.lk h i)) := by
  refine Eq.trans ?_ (gate_at A0 A1 A2 A3 c ⟨64 * n.val + r.val, by omega⟩ (Cert.GlaIdeal.RefValue.lk h i))
  unfold Cert.GlaIdeal.RefValue.lk
  simp only [Nat.mul_comm 64]
  pointwise [A_main_v38, A_main_v34]

theorem q_at (c n : Fin 32) (r : Fin 64) (h : Fin 4) (i : Fin 64) : A_main_v35 (F := Ideal) A0 A1 A2 A3 (ix5 c n r h i) = Cert.GlaIdeal.RefValue.sq A0 c h n r i := by
  unfold Cert.GlaIdeal.RefValue.sq Cert.GlaIdeal.RefValue.pos
  simp only [Nat.mul_comm 2048, Nat.mul_comm 64]
  pointwise [A_main_v35, A_main_v4, K_main_v3, K_main_cst, A_main_v2, A_main_v1, A_main_v0]

theorem k_at (c n : Fin 32) (r : Fin 64) (h : Fin 4) (i : Fin 64) : A_main_v36 (F := Ideal) A0 A1 A2 A3 (ix5 c n r h i) = Cert.GlaIdeal.RefValue.sk A0 c h n r i := by
  unfold Cert.GlaIdeal.RefValue.sk Cert.GlaIdeal.RefValue.pos
  simp only [Nat.mul_comm 2048, Nat.mul_comm 64]
  pointwise [A_main_v36, A_main_v6, A_main_v5, A_main_v0]

theorem v_at (c n : Fin 32) (r : Fin 64) (h : Fin 4) (w : Fin 128) : A_main_v37 (F := Ideal) A0 A1 A2 A3 (ix5 c n r h w) = Cert.GlaIdeal.RefValue.sv A0 c h n r w := by
  unfold Cert.GlaIdeal.RefValue.sv Cert.GlaIdeal.RefValue.pos
  simp only [Nat.mul_comm 2048, Nat.mul_comm 64]
  pointwise [A_main_v37, A_main_v8, A_main_v7, A_main_v0]

theorem b_at (c n : Fin 32) (r : Fin 64) (h : Fin 4) (i : Fin 64) : A_main_v39 (F := Ideal) A0 A1 A2 A3 (ix5 c n r h i) = Cert.GlaIdeal.RefValue.sb A1 A2 A3 c h n r i := by
  refine (cumsum_at (A_main_v38 (F := Ideal) A0 A1 A2 A3) (K_main_call0_call0_v0 (F := Ideal)) _ _ ?_ c n r h i).trans ?_
  · pointwise [K_main_call0_call0_v0, K_main_call0_call0_cst]
  · unfold Cert.GlaIdeal.RefValue.sb
    simp only [decay_at]

/-- The lower triangle's mask chooses by the order of the row and the column. -/
theorem mask_at (r s : Fin 64) (x y : EReal) :
    Scalar.select (Scalar.select (IntOp.cmpi CmpIPredicate.sge (IntOp.addi (BitVec.ofNat 32 r.val) 0#32) (BitVec.ofNat 32 s.val)) 1#1 0#1) x y = if s ≤ r then x else y := by
  have e : IntOp.addi (BitVec.ofNat 32 r.val) 0#32 = BitVec.ofNat 32 r.val := BitVec.add_zero _
  rw [e, WordCmp.cmpi_sge_ofNat (by omega) (by omega)]
  by_cases h : s ≤ r
  · rw [if_pos h]
    simp [h, Scalar.select]
  · rw [if_neg h]
    simp [h, Scalar.select]

/-- The attention scores below the diagonal. -/
theorem attn_at (c n : Fin 32) (h : Fin 4) (r s : Fin 64) :
    A_main_v52 (F := Ideal) A0 A1 A2 A3 (ix5 c n h r s)
      = Cert.GlaIdeal.RefValue.attn (Cert.GlaIdeal.RefValue.sq A0 c h n) (Cert.GlaIdeal.RefValue.sk A0 c h n) (Cert.GlaIdeal.RefValue.sb A1 A2 A3 c h n) r s := by
  unfold Cert.GlaIdeal.RefValue.attn
  pointwise [A_main_v52, A_main_v49, A_main_v48, A_main_v47, A_main_v46, A_main_v45, A_main_v44, A_main_v43, A_main_v42, A_main_v41, A_main_v40, b_at, q_at, k_at,
    K_main_call2_v1, K_main_v51, K_main_call1_v4, K_main_call1_v3, K_main_call1_v2, K_main_call1_v1, K_main_call1_c, K_main_call1_v0, K_main_v50, K_main_c, K_main_call1_v5, K_main_call1_c_0, K_main_call2_v2, K_main_call2_v0, K_main_cst_2]
  exact (mask_at r s _ _).trans (congrArg (ite (s ≤ r) _) (Ideal.ofBits_zero_f32))

/-- Each chunk's decay over its whole length. -/
theorem whole_at (n c : Fin 32) (h : Fin 4) (i : Fin 64) :
    A_main_v66 (F := Ideal) A0 A1 A2 A3 (ix4 n c h i) = Ideal.exp (Cert.GlaIdeal.RefValue.sb A1 A2 A3 c h n 63 i) := by
  pointwise [A_main_v66, A_main_v62, A_main_v61, A_main_v55, b_at]

/-- What each chunk adds to the state. -/
theorem upd_at (n c : Fin 32) (h : Fin 4) (i : Fin 64) (w : Fin 128) :
    A_main_v67 (F := Ideal) A0 A1 A2 A3 (ix5 n c h i w)
      = Cert.GlaIdeal.RefValue.upd (Cert.GlaIdeal.RefValue.sk A0 c h n) (Cert.GlaIdeal.RefValue.sb A1 A2 A3 c h n) (Cert.GlaIdeal.RefValue.sv A0 c h n) i w := by
  unfold Cert.GlaIdeal.RefValue.upd
  pointwise [A_main_v67, A_main_v60, A_main_v59, A_main_v58, A_main_v57, A_main_v56, A_main_v55, b_at, k_at, v_at]
  exact Finset.sum_congr rfl fun x _ => mul_comm _ _

/-- The queries with their decay since the chunk's start. -/
theorem since_at (n c : Fin 32) (r : Fin 64) (h : Fin 4) (i : Fin 64) :
    A_main_v68 (F := Ideal) A0 A1 A2 A3 (ix5 n c r h i)
      = Cert.GlaIdeal.RefValue.sq A0 c h n r i * Ideal.exp (Cert.GlaIdeal.RefValue.sb A1 A2 A3 c h n r i) := by
  pointwise [A_main_v68, A_main_v64, A_main_v63, b_at, q_at]

/-- What each chunk's own rows give. -/
theorem intra_at (n c : Fin 32) (r : Fin 64) (h : Fin 4) (w : Fin 128) :
    A_main_v69 (F := Ideal) A0 A1 A2 A3 (ix5 n c r h w)
      = ∑ s, Cert.GlaIdeal.RefValue.attn (Cert.GlaIdeal.RefValue.sq A0 c h n) (Cert.GlaIdeal.RefValue.sk A0 c h n) (Cert.GlaIdeal.RefValue.sb A1 A2 A3 c h n) r s
          * Cert.GlaIdeal.RefValue.sv A0 c h n s w := by
  pointwise [A_main_v69, A_main_v54, A_main_v53, v_at, attn_at]
  exact Finset.sum_congr rfl fun x _ => mul_comm _ _

end Cert.GlaRefIdeal.Rows

end
-- ==== Proof.GlaStates.lean ====
/-
The reference's result is the last of the states its loop steps through.
-/
module

public import proofs.«01_k».proof.Proof.Gen.GlaRefIdeal.Run
public import proofs.«01_k».proof.Proof.Gen.GlaRefIdeal.Step
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlaRefIdeal.States

open Cert.GlaRefIdeal Cert.GlaRefIdeal.Gen Cert.GlaRefIdeal.Value Cert.GlaRefIdeal.Step Idealize.ShloMosaic.StableHlo

/-- The state the buffers hold. -/
def held (V : Valuation τ sig (Elt Ideal)) : State Ideal where
  main_v71_5 := V (Proc.devRef .tc main_v71_5)
  main_v71_6 := V (Proc.devRef .tc main_v71_6)
  main_v71_0 := V (Proc.devRef .tc main_v71_0)
  main_v71_1 := V (Proc.devRef .tc main_v71_1)
  main_v71_2 := V (Proc.devRef .tc main_v71_2)
  main_v71_3 := V (Proc.devRef .tc main_v71_3)

/-- The state before trip `n`. -/
def at_ (A0 : FVec Ideal S65536x5120 .bf16) (A1 : FVec Ideal S65536x512 .f32) (A2 : FVec Ideal S1x16x256 .f32) (A3 : FVec Ideal S1x256 .f32) : ℕ → State Ideal
  | 0 => init A0 A1 A2 A3
  | n + 1 => step n (at_ A0 A1 A2 A3 n)

/-- The buffers hold this state, and the counter this number. -/
def Keeps (V : Valuation τ sig (Elt Ideal)) (n : ℕ) (s : State Ideal) : Prop :=
  held V = s ∧ V (Proc.devRef .tc main_v71_4) = constantI S_ 32 (BitVec.ofNat 32 n)

theorem carried (V : Valuation τ sig (Elt Ideal)) (n : ℕ) (hn : V (Proc.devRef .tc main_v71_4) = constantI S_ 32 (BitVec.ofNat 32 n)) :
    step_main_v71_5 V = b26 n (held V) := by
  unfold b26 b25 b24 b23 b10 b9 b8 b7 b6 b5 b4 b3 b2 b1 b0
  rw [← hn]
  rfl

theorem written (V : Valuation τ sig (Elt Ideal)) (n : ℕ) (hn : V (Proc.devRef .tc main_v71_4) = constantI S_ 32 (BitVec.ofNat 32 n)) :
    step_main_v71_6 V = b35 n (held V) := by
  unfold b35 b34 b33 b32 b31 b30 b29 b28 b27 b22 b21 b20 b19 b18 b17 b16 b15 b14 b13 b12 b11
  rw [← hn]
  rfl

theorem keeps_step (V : Valuation τ sig (Elt Ideal)) (n : ℕ) (s : State Ideal) (h : Keeps V n s) : Keeps (STEP V) (n + 1) (step n s) := by
  obtain ⟨h, hn⟩ := h
  subst h
  refine ⟨?_, ?_⟩
  · unfold step
    rw [← carried V n hn, ← written V n hn, ← STEP_main_v71_5, ← STEP_main_v71_6]
    unfold held
    rw [STEP_main_v71_0, STEP_main_v71_1, STEP_main_v71_2, STEP_main_v71_3]
  · rw [STEP_main_v71_4]
    unfold step_main_v71_4
    rw [hn]
    funext i
    exact (BitVec.ofNat_add n 1).symm

variable (m : (ℓ : Loc nD τ sig) → Buf (Elt Ideal) ℓ) (c : Dev nD)

set_option maxRecDepth 65536 in
set_option maxHeartbeats 1000000 in
theorem keeps_entry : Keeps (entryContents preI m c) 0
    (init (m ((c.tc : Thread nD τ).loc main_arg0)) (m ((c.tc : Thread nD τ).loc main_arg1)) (m ((c.tc : Thread nD τ).loc main_arg2)) (m ((c.tc : Thread nD τ).loc main_arg3))) := by
  refine ⟨?_, ?_⟩
  · unfold held init
    congr 1 <;> (simp only [entryContents, afterL_cons, afterL_nil]; after_reads_simp) <;> rfl
  · simp only [entryContents, afterL_cons, afterL_nil]; after_reads_simp; rfl

theorem keeps_at (n : ℕ) : Keeps (STEP^[n] (entryContents preI m c)) n
    (at_ (m ((c.tc : Thread nD τ).loc main_arg0)) (m ((c.tc : Thread nD τ).loc main_arg1)) (m ((c.tc : Thread nD τ).loc main_arg2)) (m ((c.tc : Thread nD τ).loc main_arg3)) n) := by
  induction n with
  | zero => exact keeps_entry m c
  | succ n ih => rw [Function.iterate_succ_apply']; exact keeps_step _ n _ ih

theorem result_at : out_main_v73 (STEP^[32] (entryContents preI m c)) = R_main_v73 (at_ (m ((c.tc : Thread nD τ).loc main_arg0)) (m ((c.tc : Thread nD τ).loc main_arg1)) (m ((c.tc : Thread nD τ).loc main_arg2)) (m ((c.tc : Thread nD τ).loc main_arg3)) 32) := by
  have e := congrArg State.main_v71_6 (keeps_at m c 32).1
  revert e
  generalize STEP^[32] (entryContents preI m c) = V
  generalize at_ _ _ _ _ 32 = s
  intro e
  have e6 : V (Proc.devRef .tc main_v71_6) = s.main_v71_6 := e
  unfold out_main_v73 R_main_v73
  rw [← e6]
  rfl

/-- The result array as a function of the arguments. -/
@[irreducible] def result (A0 : FVec Ideal S65536x5120 .bf16) (A1 : FVec Ideal S65536x512 .f32) (A2 : FVec Ideal S1x16x256 .f32) (A3 : FVec Ideal S1x256 .f32) : FVec Ideal S65536x512 .f32 :=
  R_main_v73 (at_ A0 A1 A2 A3 32)

theorem run_result (g : Dev nD → PrngReg) : θ_run (defs (F := Ideal)) (onTc (τ := τ) (main (F := Ideal))) ⟨m, fun _ => 0, g⟩ fun r => ∀ c : Dev nD,
    r.2.mem ((c.tc : Thread nD τ).loc main_v73)
        = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((result_at m c).trans (by unfold result; rfl)), (h c).2⟩) (Value.run m g)

end Cert.GlaRefIdeal.States

end
-- ==== Proof.GlaLoop.lean ====
/-
The reference's loop, chunk by chunk: its state, and the rows it has written.
-/
module

public import proofs.«01_k».proof.Proof.GlaRef
public import proofs.«01_k».proof.Proof.GlaStates

@[expose] public section

set_option maxRecDepth 16384

noncomputable section

open Idealize.ShloMosaic Idealize.ShloMosaic.TcCoe Idealize.SL.Sem
open Idealize.ShloMosaic.Pipeline (Dat)

namespace Cert.GlaRefIdeal.Rows

open Cert.GlaRefIdeal Cert.GlaRefIdeal.Step Cert.GlaRefIdeal.States

/-- The starts of a trip's window on four axes. -/
theorem starts4 {d1 d2 d3 : ℕ} (ht) (n : Fin 32) (h0 : 0 < S_.numel) (a : Fin 4) :
    Host.clampedStart (⟨4, ![32, d1, d2, d3]⟩ : Shape) (⟨4, ![1, d1, d2, d3]⟩ : Shape) ht (fun k => ((![constantI S_ 32 (BitVec.ofNat 32 n.val), constantI S_ 32 0#32, constantI S_ 32 0#32, constantI S_ 32 0#32] :
      Fin 4 → Vec Ideal S_ .i32) k (Shape.Idx.first h0)).toInt) a = if a = 0 then n.val else 0 := by
  fin_cases a
  · refine Host.clampedStart_of_le _ _ 0 n.val (WordCmp.toInt_ofNat_of_lt (by omega)) ?_
    show n.val + 1 ≤ 32
    omega
  · exact Host.clampedStart_of_le _ _ 1 0 rfl (Nat.zero_add _).le
  · exact Host.clampedStart_of_le _ _ 2 0 rfl (Nat.zero_add _).le
  · exact Host.clampedStart_of_le _ _ 3 0 rfl (Nat.zero_add _).le

/-- A slice of one entry of the first axis, at a trip's number. -/
theorem slice4 {d1 d2 d3 : ℕ} {α : Type} (x : (⟨4, ![32, d1, d2, d3]⟩ : Shape).Idx → α) (n : Fin 32) (hs) (h0 : 0 < S_.numel) (z : Fin 1) (c : Fin d1) (e : Fin d2) (i : Fin d3) :
    Host.dynamicSlice (⟨4, ![1, d1, d2, d3]⟩ : Shape) x (fun k => ((![constantI S_ 32 (BitVec.ofNat 32 n.val), constantI S_ 32 0#32, constantI S_ 32 0#32, constantI S_ 32 0#32] :
      Fin 4 → Vec Ideal S_ .i32) k (Shape.Idx.first h0)).toInt) hs (ix4 z c e i) = x (ix4 n c e i) := by
  rw [Host.dynamicSlice_apply]
  refine congrArg x (funext fun a => Fin.ext ?_)
  have hz : z.val = 0 := by omega
  refine (congrArg (· + _) (starts4 _ n h0 a)).trans ?_
  fin_cases a
  · show n.val + z.val = n.val
    omega
  · exact Nat.zero_add _
  · exact Nat.zero_add _
  · exact Nat.zero_add _

/-- The starts of a trip's window on five axes. -/
theorem starts5 {d1 d2 d3 d4 : ℕ} (ht) (n : Fin 32) (h0 : 0 < S_.numel) (a : Fin 5) :
    Host.clampedStart (⟨5, ![32, d1, d2, d3, d4]⟩ : Shape) (⟨5, ![1, d1, d2, d3, d4]⟩ : Shape) ht (fun k => ((![constantI S_ 32 (BitVec.ofNat 32 n.val), constantI S_ 32 0#32, constantI S_ 32 0#32, constantI S_ 32 0#32, constantI S_ 32 0#32] :
      Fin 5 → Vec Ideal S_ .i32) k (Shape.Idx.first h0)).toInt) a = if a = 0 then n.val else 0 := by
  fin_cases a
  · refine Host.clampedStart_of_le _ _ 0 n.val (WordCmp.toInt_ofNat_of_lt (by omega)) ?_
    show n.val + 1 ≤ 32
    omega
  · exact Host.clampedStart_of_le _ _ 1 0 rfl (Nat.zero_add _).le
  · exact Host.clampedStart_of_le _ _ 2 0 rfl (Nat.zero_add _).le
  · exact Host.clampedStart_of_le _ _ 3 0 rfl (Nat.zero_add _).le
  · exact Host.clampedStart_of_le _ _ 4 0 rfl (Nat.zero_add _).le

theorem slice5 {d1 d2 d3 d4 : ℕ} {α : Type} (x : (⟨5, ![32, d1, d2, d3, d4]⟩ : Shape).Idx → α) (n : Fin 32) (hs) (h0 : 0 < S_.numel) (z : Fin 1) (c : Fin d1) (e : Fin d2) (i : Fin d3) (w : Fin d4) :
    Host.dynamicSlice (⟨5, ![1, d1, d2, d3, d4]⟩ : Shape) x (fun k => ((![constantI S_ 32 (BitVec.ofNat 32 n.val), constantI S_ 32 0#32, constantI S_ 32 0#32, constantI S_ 32 0#32, constantI S_ 32 0#32] :
      Fin 5 → Vec Ideal S_ .i32) k (Shape.Idx.first h0)).toInt) hs (ix5 z c e i w) = x (ix5 n c e i w) := by
  rw [Host.dynamicSlice_apply]
  refine congrArg x (funext fun a => Fin.ext ?_)
  have hz : z.val = 0 := by omega
  refine (congrArg (· + _) (starts5 _ n h0 a)).trans ?_
  fin_cases a
  · show n.val + z.val = n.val
    omega
  · exact Nat.zero_add _
  · exact Nat.zero_add _
  · exact Nat.zero_add _
  · exact Nat.zero_add _

/-- An array with one entry of its first axis replaced. -/
theorem update5 {d1 d2 d3 d4 : ℕ} {α : Type} (x : (⟨5, ![32, d1, d2, d3, d4]⟩ : Shape).Idx → α) (y : (⟨5, ![1, d1, d2, d3, d4]⟩ : Shape).Idx → α) (n c' : Fin 32) (hs) (h0 : 0 < S_.numel) (c : Fin d1) (e : Fin d2) (i : Fin d3) (w : Fin d4) :
    Host.dynamicUpdateSlice x y (fun k => ((![constantI S_ 32 (BitVec.ofNat 32 n.val), constantI S_ 32 0#32, constantI S_ 32 0#32, constantI S_ 32 0#32, constantI S_ 32 0#32] :
      Fin 5 → Vec Ideal S_ .i32) k (Shape.Idx.first h0)).toInt) hs (ix5 c' c e i w) = if c' = n then y (ix5 0 c e i w) else x (ix5 c' c e i w) := by
  rw [Host.dynamicUpdateSlice_apply]
  by_cases q : c' = n
  · subst q
    rw [if_pos rfl, dif_pos]
    · refine congrArg y (funext fun a => Fin.ext ?_)
      refine (congrArg (_ - ·) (starts5 _ c' h0 a)).trans ?_
      fin_cases a
      · exact Nat.sub_self _
      · exact Nat.sub_zero _
      · exact Nat.sub_zero _
      · exact Nat.sub_zero _
      · exact Nat.sub_zero _
    · intro a
      rw [starts5 _ c' h0 a]
      fin_cases a
      · exact ⟨le_refl _, Nat.lt_succ_self _⟩
      · exact ⟨Nat.zero_le _, c.isLt.trans_eq (Nat.zero_add _).symm⟩
      · exact ⟨Nat.zero_le _, e.isLt.trans_eq (Nat.zero_add _).symm⟩
      · exact ⟨Nat.zero_le _, i.isLt.trans_eq (Nat.zero_add _).symm⟩
      · exact ⟨Nat.zero_le _, w.isLt.trans_eq (Nat.zero_add _).symm⟩
  · rw [if_neg q, dif_neg]
    intro l
    have l0 := l 0
    rw [starts5 _ n h0 0] at l0
    have l1 : n.val ≤ c'.val ∧ c'.val < n.val + 1 := l0
    exact q (Fin.ext (by omega))

theorem whole_slice (s : State Ideal) (n : Fin 32) (z : Fin 1) (c : Fin 32) (h : Fin 4) (i : Fin 64) : b3 n.val s (ix4 z c h i) = s.main_v71_0 (ix4 n c h i) := slice4 _ n _ _ z c h i

theorem upd_slice (s : State Ideal) (n : Fin 32) (z : Fin 1) (c : Fin 32) (h : Fin 4) (i : Fin 64) (w : Fin 128) : b9 n.val s (ix5 z c h i w) = s.main_v71_1 (ix5 n c h i w) := slice5 _ n _ _ z c h i w

theorem since_slice (s : State Ideal) (n : Fin 32) (z : Fin 1) (c : Fin 32) (r : Fin 64) (h : Fin 4) (i : Fin 64) : b15 n.val s (ix5 z c r h i) = s.main_v71_2 (ix5 n c r h i) := slice5 _ n _ _ z c r h i

theorem intra_slice (s : State Ideal) (n : Fin 32) (z : Fin 1) (c : Fin 32) (r : Fin 64) (h : Fin 4) (w : Fin 128) : b21 n.val s (ix5 z c r h w) = s.main_v71_3 (ix5 n c r h w) := slice5 _ n _ _ z c r h w

variable (A0 : FVec Ideal S65536x5120 .bf16) (A1 : FVec Ideal S65536x512 .f32) (A2 : FVec Ideal S1x16x256 .f32) (A3 : FVec Ideal S1x256 .f32)

/-- One trip's new state at an index. -/
theorem carry_at (s : State Ideal) (n c : Fin 32) (h : Fin 4) (i : Fin 64) (w : Fin 128) :
    b26 n.val s (ix4 c h i w) = s.main_v71_5 (ix4 c h i w) * s.main_v71_0 (ix4 n c h i) + s.main_v71_1 (ix5 n c h i w) := by
  pointwise [b26, b25, b24, b23, b10, b4, upd_slice, whole_slice]

/-- One trip's rows at an index. -/
theorem write_at (s : State Ideal) (n c' c : Fin 32) (r : Fin 64) (h : Fin 4) (w : Fin 128) :
    b35 n.val s (ix5 c' c r h w) = if c' = n then s.main_v71_3 (ix5 n c r h w) + ∑ i : Fin 64, s.main_v71_5 (ix4 c h i w) * s.main_v71_2 (ix5 n c r h i) else s.main_v71_6 (ix5 c' c r h w) := by
  refine (update5 s.main_v71_6 (b30 n.val s) n c' _ _ c r h w).trans ?_
  refine congrArg (fun e => if c' = n then e else _) ?_
  pointwise [b30, b29, b28, b27, b22, b16, intra_slice, since_slice]

/-- What no trip changes. -/
theorem kept (n : ℕ) : (at_ A0 A1 A2 A3 n).main_v71_0 = A_main_v66 (F := Ideal) A0 A1 A2 A3 ∧ (at_ A0 A1 A2 A3 n).main_v71_1 = A_main_v67 (F := Ideal) A0 A1 A2 A3
    ∧ (at_ A0 A1 A2 A3 n).main_v71_2 = A_main_v68 (F := Ideal) A0 A1 A2 A3 ∧ (at_ A0 A1 A2 A3 n).main_v71_3 = A_main_v69 (F := Ideal) A0 A1 A2 A3 := by
  induction n with
  | zero => exact ⟨rfl, rfl, rfl, rfl⟩
  | succ n ih => exact ih

/-- The loop's state before a trip. -/
theorem state_at (n : ℕ) (hn : n ≤ 32) (c : Fin 32) (h : Fin 4) (i : Fin 64) (w : Fin 128) :
    (at_ A0 A1 A2 A3 n).main_v71_5 (ix4 c h i w) = Cert.GlaIdeal.RefValue.state A0 A1 A2 A3 c h n hn i w := by
  induction n generalizing i w with
  | zero =>
    show (K_main_v65 (F := Ideal)) (ix4 c h i w) = 0
    pointwise [K_main_v65, K_main_cst_3]
  | succ n ih =>
    have k := kept A0 A1 A2 A3 n
    refine (carry_at (at_ A0 A1 A2 A3 n) ⟨n, hn⟩ c h i w).trans ?_
    rw [k.1, k.2.1, ih (Nat.le_of_lt hn), whole_at, upd_at]
    rfl

/-- The rows written before a trip are the result's. -/
theorem rows_at (n : ℕ) (hn : n ≤ 32) (c' c : Fin 32) (r : Fin 64) (h : Fin 4) (w : Fin 128) (hc : c'.val < n) :
    (at_ A0 A1 A2 A3 n).main_v71_6 (ix5 c' c r h w) = Cert.GlaIdeal.RefValue.spec A0 A1 A2 A3 c h c' r w := by
  induction n with
  | zero => omega
  | succ n ih =>
    have k := kept A0 A1 A2 A3 n
    refine (write_at (at_ A0 A1 A2 A3 n) ⟨n, hn⟩ c' c r h w).trans ?_
    by_cases q : c' = ⟨n, hn⟩
    · subst q
      rw [if_pos rfl, k.2.2.1, k.2.2.2, intra_at]
      unfold Cert.GlaIdeal.RefValue.spec Cert.GlaIdeal.RefValue.outS
      refine congrArg (_ + ·) (Finset.sum_congr rfl fun i _ => ?_)
      rw [since_at, state_at A0 A1 A2 A3 n (Nat.le_of_lt hn)]
      exact mul_comm _ _
    · rw [if_neg q]
      exact ih (Nat.le_of_lt hn) (by have : c'.val ≠ n := fun e => q (Fin.ext e); omega)

/-- The reference's result at an index. -/
theorem result_rows (R : Fin 65536) (y : Fin 512) :
    result A0 A1 A2 A3 (ix2 R y)
      = Cert.GlaIdeal.RefValue.spec A0 A1 A2 A3 ⟨R.val / 2048, by omega⟩ ⟨y.val / 128, by omega⟩ ⟨R.val / 64 % 32, by omega⟩ ⟨R.val % 64, by omega⟩ ⟨y.val % 128, by omega⟩ := by
  refine Eq.trans ?_ (rows_at A0 A1 A2 A3 32 (le_refl _) ⟨R.val / 64 % 32, by omega⟩ ⟨R.val / 2048, by omega⟩ ⟨R.val % 64, by omega⟩ ⟨y.val / 128, by omega⟩ ⟨y.val % 128, by omega⟩ (show R.val / 64 % 32 < 32 by omega))
  unfold result
  pointwise [R_main_v73]

end Cert.GlaRefIdeal.Rows

end
-- ==== Proof.GlaValue.lean ====
/-
The kernel's result is the reference's, the gate's inputs and weight being finite.
-/
module

public import proofs.«01_k».proof.Proof.GlaWin
public import proofs.«01_k».proof.Proof.GlaLoop
public import proofs.«01_k».proof.Proof.Gen.GlaIdeal.Value
public import proofs.«01_k».proof.Defs

@[expose] public section

set_option maxRecDepth 16384

noncomputable section

open Idealize.ShloMosaic Idealize.ShloMosaic.TcCoe Idealize.SL.Sem
open Idealize.ShloMosaic.Pipeline (Dat)

namespace Cert.GlaIdeal.RefValue

open Cert.GlaIdeal Cert.GlaIdeal.Gen Cert.GlaGate

variable (m : (ℓ : Loc nD τ sig) → Buf (Elt Ideal) ℓ)

/-- An absolute value below infinity is a finite number's. -/
theorem finite_of (x : EReal) (h : max x (-x) < ⊤) : x ≠ ⊥ ∧ x ≠ ⊤ := by
  refine ⟨fun e => ?_, fun e => ?_⟩
  · rw [e, EReal.neg_bot, max_eq_right bot_le] at h
    exact lt_irrefl _ h
  · rw [e, max_eq_left le_top] at h
    exact lt_irrefl _ h

theorem below_infinity (x : EReal) (h : FloatOps.cmpf (F := Ideal) (φ := .f32) CmpFPredicate.olt (max x (-x)) (Ideal.ofBits FTy.f32 0x7F800000#32) = 1#1) : x ≠ ⊥ ∧ x ≠ ⊤ := by
  have e : Ideal.ofBits FTy.f32 0x7F800000#32 = ⊤ := by simp [Ideal.ofBits, Ideal.ieee]
  rw [e] at h
  refine finite_of x ?_
  by_contra q
  revert h
  show ¬ BitVec.ofBool (decide (max x (-x) < ⊤)) = 1#1
  rw [decide_eq_false q]
  decide

/-- What the precondition says of the gate's inputs and weight. -/
theorem finite_gates [Cert.Pre_finite_gates.Facts] (c : Dev nD) (h : Cert.Pre_GlaIdeal_finite_gates m) :
    Finite (m ((c : Thread nD τ).loc main_arg1)) (m ((c : Thread nD τ).loc main_arg2)) := by
  obtain ⟨h1, h2⟩ := h c
  refine ⟨fun R i => below_infinity _ ?_, fun i k => below_infinity _ ?_⟩
  · refine Eq.trans ?_ (congrFun h1 (ix2 R i))
    unfold Cert.Pre_finite_gates.fn
    dsimp only
    pointwise []
    rfl
  · refine Eq.trans ?_ (congrFun h2 (ix3 0 i k))
    unfold Cert.Pre_finite_gates.fn
    dsimp only
    pointwise []
    rfl

/-- The result array. -/
def want (c : Dev nD) : FVec Ideal S65536x512 .f32 :=
  Cert.GlaRefIdeal.States.result (m ((c : Thread nD τ).loc main_arg0)) (m ((c : Thread nD τ).loc main_arg1))
    (m ((c : Thread nD τ).loc main_arg2)) (m ((c : Thread nD τ).loc main_arg3))

theorem want_at (c : Dev nD) (R : Fin 65536) (y : Fin 512) : want m c (ix2 R y)
    = spec (m ((c : Thread nD τ).loc main_arg0)) (m ((c : Thread nD τ).loc main_arg1)) (m ((c : Thread nD τ).loc main_arg2)) (m ((c : Thread nD τ).loc main_arg3))
        ⟨R.val / 2048, by omega⟩ ⟨y.val / 128, by omega⟩ ⟨R.val / 64 % 32, by omega⟩ ⟨R.val % 64, by omega⟩ ⟨y.val % 128, by omega⟩ :=
  Cert.GlaRefIdeal.Rows.result_rows _ _ _ _ R y

/-- What the kernel leaves in its result array. -/
theorem final (c : Dev nD) (fin : Finite (m ((c : Thread nD τ).loc main_arg1)) (m ((c : Thread nD τ).loc main_arg2))) :
    (dats m 0 c).arrAt 5 (cfgs 0).N = want m c := by
  refine (dats m 0 c).arrAt_eq_of_covers 5 _ (by decide +kernel) fun t _ y => ?_
  blk_simp
  idx_vars y
  have ht := t_lt t
  have e0 : y0 = row ⟨y0.val / 64, by omega⟩ ⟨y0.val % 64, by omega⟩ := Fin.ext (by simp only [row]; omega)
  have e1 : y1 = lv ⟨y1.val / 128, by omega⟩ ⟨y1.val % 128, by omega⟩ := Fin.ext (by simp only [lv]; omega)
  have key : (dats m 0 c).after 5 t (ix2 y0 y1) = want m c (ix2 ⟨2048 * t.val + y0.val, by omega⟩ y1) := by
    have a := after_at m c t fin ⟨y0.val / 64, by omega⟩ ⟨y0.val % 64, by omega⟩ ⟨y1.val / 128, by omega⟩ ⟨y1.val % 128, by omega⟩
    rw [← e0, ← e1] at a
    rw [a, want_at]
    have c0 : (⟨(2048 * t.val + y0.val) / 2048, by omega⟩ : Fin 32) = sn t := Fin.ext (by simp only [sn]; omega)
    have c1 : (⟨(2048 * t.val + y0.val) / 64 % 32, by omega⟩ : Fin 32) = ⟨y0.val / 64, by omega⟩ := Fin.ext (by simp only; omega)
    have c2 : (⟨(2048 * t.val + y0.val) % 64, by omega⟩ : Fin 64) = ⟨y0.val % 64, by omega⟩ := Fin.ext (by simp only; omega)
    rw [c0, c1, c2]
  refine key.trans ?_
  blk_ext [idx t]

/-- Both programs leave the same array. -/
theorem algebraic [Cert.Pre_finite_gates.Facts] : Cert.algebraic_GlaIdeal_GlaRefIdeal_pre_finite_gates := by
  pair_intro
  · run_from Cert.GlaIdeal.Gen.run_main m g
    all_goals rfl
  · run_from Cert.GlaRefIdeal.States.run_result m' g'
    exact (final m c (finite_gates m c hpre)).symm

/-- The reference ends with its arguments as they were. -/
theorem frameRef : Cert.quiescent_GlaRefIdeal :=
  fun m g _ => (θ_run Cert.GlaRefIdeal.defs _ _).mono
    (fun r h => ⟨fun c => (h c).2, Idealize.ShloMosaic.sem_eq_zero_of_no_sems (by decide) r.2⟩)
    (Cert.GlaRefIdeal.Value.run (F := Ideal) m g)

end Cert.GlaIdeal.RefValue

end
-- ==== Proof.GlaBwdBody.lean ====
/-
What the backward call of the gated linear attention writes: the chunks of 64 rows are taken from the last to the
first, what each gives is added to the forward call's rows, and the sum is normed and gated head by head.
-/
module

public import proofs.«01_k».proof.Proof.GlaDecay
public import proofs.«01_k».proof.Proof.Gen.GlaBwdIdeal.Value

@[expose] public section

set_option maxRecDepth 65536

noncomputable section

open Idealize.ShloMosaic Idealize.ShloMosaic.TcCoe Idealize.SL.Sem
open Idealize.ShloMosaic.Pipeline (Dat)

namespace Cert.GlaBwdIdeal.RefValue

open Cert.GlaBwdIdeal Cert.GlaBwdIdeal.Gen Cert.GlaGate
open Cert.GlaIdeal.RefValue (cut fits0 fits1 ld_cut stored_cut attn upd nextS outS stS lk lv sum_lk sum_head shr7 shr6 and63 eq4 le_word sel lk_div lk_mod lv_div stacked sel_head stacked8)

/-- The running sums of the log decays, chunk by chunk, of a whole sequence. -/
def bAll (x2 : Vec Ideal S2048x256 .f32) (x3 : Vec Ideal S256x256 .f32) (x4 : Vec Ideal S1x256 .f32) : Vec Ideal S2048x256 .f32 :=
  let io0 := iota Kind.tc S256x256 32 [0] iota_S256x256_d0_w32
  let io1 := iota Kind.tc S256x256 32 [1] iota_S256x256_d1_w32
  let l := k0_pay3 x2 x3 x4
  k0_pay15 l (k0_pay6 io0 io1 k0_pay4 k0_pay5) (k0_pay7 l io0 io1 k0_pay4 k0_pay5) (k0_pay8 l io0 io1 k0_pay4 k0_pay5)
    (k0_pay9 l io0 io1 k0_pay4 k0_pay5) (k0_pay10 l io0 io1 k0_pay4 k0_pay5) (k0_pay12 l) (k0_pay13 l) (k0_pay14 io0 io1 k0_pay4 k0_pay5)
    (constant S256x256 FTy.f32 0#32)

theorem bAll_def (x2 : Vec Ideal S2048x256 .f32) (x3 : Vec Ideal S256x256 .f32) (x4 : Vec Ideal S1x256 .f32) :
    k0_pay15 (k0_pay3 x2 x3 x4)
      (k0_pay6 (iota Kind.tc S256x256 32 [0] iota_S256x256_d0_w32) (iota Kind.tc S256x256 32 [1] iota_S256x256_d1_w32) k0_pay4 k0_pay5)
      (k0_pay7 (k0_pay3 x2 x3 x4) (iota Kind.tc S256x256 32 [0] iota_S256x256_d0_w32) (iota Kind.tc S256x256 32 [1] iota_S256x256_d1_w32) k0_pay4 k0_pay5)
      (k0_pay8 (k0_pay3 x2 x3 x4) (iota Kind.tc S256x256 32 [0] iota_S256x256_d0_w32) (iota Kind.tc S256x256 32 [1] iota_S256x256_d1_w32) k0_pay4 k0_pay5)
      (k0_pay9 (k0_pay3 x2 x3 x4) (iota Kind.tc S256x256 32 [0] iota_S256x256_d0_w32) (iota Kind.tc S256x256 32 [1] iota_S256x256_d1_w32) k0_pay4 k0_pay5)
      (k0_pay10 (k0_pay3 x2 x3 x4) (iota Kind.tc S256x256 32 [0] iota_S256x256_d0_w32) (iota Kind.tc S256x256 32 [1] iota_S256x256_d1_w32) k0_pay4 k0_pay5)
      (k0_pay12 (k0_pay3 x2 x3 x4)) (k0_pay13 (k0_pay3 x2 x3 x4))
      (k0_pay14 (iota Kind.tc S256x256 32 [0] iota_S256x256_d0_w32) (iota Kind.tc S256x256 32 [1] iota_S256x256_d1_w32) k0_pay4 k0_pay5)
      (constant S256x256 FTy.f32 0#32) = bAll x2 x3 x4 := rfl

section chunks

variable (x0 x1 : Vec Ideal S2048x512 .bf16) (b : Vec Ideal S2048x256 .f32) (x5 : Vec Ideal S2048x512 .f32)

/-- The running sums, the queries, the keys and the values of the 64 rows from `o` on. -/
def bRows (o : ℕ) (h : o + 64 ≤ 2048) : Vec Ideal S64x256 .f32 := cut o 0 h (by decide) b

def qRows (o : ℕ) (h : o + 64 ≤ 2048) : Vec Ideal S64x256 .bf16 := cut o 0 h (by decide) x0

def kRows (o : ℕ) (h : o + 64 ≤ 2048) : Vec Ideal S64x256 .bf16 := cut o 256 h (by decide) x0

def vRows (o : ℕ) (h : o + 64 ≤ 2048) : Vec Ideal S64x512 .bf16 := cut o 0 h (by decide) x1

/-- What a chunk adds to the decayed state. -/
def addC (o : ℕ) (h : o + 64 ≤ 2048) : Vec Ideal S512x256 .f32 :=
  k0_pay515 k0_pay28 (k0_pay36 (k0_pay35 (bRows b o h) (kRows x0 o h))) (k0_pay38 (k0_pay33 (vRows x1 o h)))

/-- The state after a chunk. -/
def stepC (o : ℕ) (h : o + 64 ≤ 2048) (s : Vec Ideal S512x256 .f32) : Vec Ideal S512x256 .f32 :=
  k0_pay556 (k0_pay41 (k0_pay30 (bRows b o h))) (addC x0 x1 b o h) s

/-- A chunk's attention matrices, one head beside the other. -/
def attC (o : ℕ) (h : o + 64 ≤ 2048) : Vec Ideal S64x256 .bf16 :=
  k0_pay449 k0_pay27 (k0_pay34 (bRows b o h) (qRows x0 o h))
    (k0_pay39 k0_pay18 k0_pay19 (k0_pay21 k0_pay16 k0_pay20) (k0_pay22 k0_pay16) (bRows b o h) (k0_pay29 (bRows b o h))
      (k0_pay32 (kRows x0 o h)))

/-- A chunk's values, one head below the other. -/
def valC (o : ℕ) (h : o + 64 ≤ 2048) : Vec Ideal S256x512 .bf16 :=
  k0_pay40 (k0_pay23 k0_pay17) (k0_pay24 k0_pay17) (k0_pay25 k0_pay17) (k0_pay26 k0_pay17) (k0_pay33 (vRows x1 o h))

/-- The forward call's rows of a chunk. -/
def fRows (o : ℕ) (h : o + 64 ≤ 2048) : Vec Ideal S64x512 .f32 := cut o 0 h (by decide) x5

/-- What a chunk gives, added to the forward call's rows. -/
def outC (o : ℕ) (h : o + 64 ≤ 2048) (s : Vec Ideal S512x256 .f32) : Vec Ideal S64x512 .f32 :=
  k0_pay604 (k0_pay37 (bRows b o h) (k0_pay31 (qRows x0 o h))) (k0_pay481 (valC x1 o h) (attC x0 b o h)) s (fRows x5 o h)

/-- The state before the `n`th chunk from the end. -/
def stC : (n : ℕ) → n ≤ 32 → Vec Ideal S512x256 .f32
  | 0, _ => k0_pay2 (F := Ideal)
  | n + 1, h => stepC x0 x1 b (64 * (31 - n)) (by omega) (stC n (by omega))

/-- The pieces left of the last `n` chunks, the earliest first. -/
def pieces : (n : ℕ) → n ≤ 32 → List (View.Piece (Elt Ideal) S2048x512 .f32)
  | 0, _ => []
  | n + 1, h => ⟨Rect.unit (s := S2048x512) ![64 * (31 - n), 0] S64x512.size (fun a => match a with
      | ⟨0, _⟩ => (by omega : 64 * (31 - n) + 64 ≤ 2048)
      | ⟨1, _⟩ => (by decide : 0 + 512 ≤ 512)), outC x0 x1 b x5 (64 * (31 - n)) (by omega) (stC x0 x1 b n (by omega))⟩ :: pieces n (by omega)

/-- The two directions' sum. -/
def acc : Vec Ideal S2048x512 .f32 := View.canon (Val := Elt Ideal) (pieces x0 x1 b x5 32 (by decide))

end chunks

/-- Each head's norm of the sum, weighted and gated. -/
def normed (a : Vec Ideal S2048x512 .f32) (x6 : Vec Ideal S2048x512 .bf16) (x7 : Vec Ideal S1x512 .f32) : Vec Ideal S2048x512 .f32 :=
  k0_pay1 (k0_pay629 a) (k0_pay630 a) (k0_pay631 a) (k0_pay632 a) (k0_pay633 a) x7 x6

theorem acc_whole {sig : RefSig} {κ : Kind} {sp : Space} (v : View sig κ sp S2048x512 .f32) (P : List (View.Piece (Elt Ideal) S2048x512 .f32))
    (h : ∀ a, (![0, 0] : Fin 2 → ℕ) a + (![2048, 512] : Fin 2 → ℕ) a ≤ S2048x512.size a) :
    v.readCov (Val := Elt Ideal) P (Rect.unit (s := S2048x512) ![0, 0] ![2048, 512] h).toLoadRect = View.canon (Val := Elt Ideal) P := by
  rw [View.readCov_eq_canon']
  funext j
  exact congrArg (View.canon (Val := Elt Ideal) P) (Shape.idx_ext₂ (by show 0 + 1 * _ = _; omega) (by show 0 + 1 * _ = _; omega))

set_option maxHeartbeats 4000000 in
/-- The kernel's block is written whole. -/
theorem written (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S2048x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S2048x512 .f32) (harg7 : arg7.IsWhole) (arg8 : Memref sig .tc .vmem S2048x512 .bf16) (harg8 : arg8.IsWhole) (arg9 : Memref sig .tc .vmem S1x512 .f32) (harg9 : arg9.IsWhole) (arg10 : Memref sig .tc .vmem S2048x512 .f32) (harg10 : arg10.IsWhole) (arg11 : Memref sig .tc .vmem S512x256 .f32) (harg11 : arg11.IsWhole) (arg12 : Memref sig .tc .vmem S2048x256 .f32) (harg12 : arg12.IsWhole) (arg13 : Memref sig .tc .vmem S2048x512 .f32) (harg13 : arg13.IsWhole) (hc0 : cond0_0 i)
    (x0 : Vec Ideal S2048x512 .bf16) (x1 : Vec Ideal S2048x512 .bf16) (x2 : Vec Ideal S2048x256 .f32) (x3 : Vec Ideal S256x256 .f32) (x4 : Vec Ideal S1x256 .f32)
    (x5 : Vec Ideal S2048x512 .f32) (x6 : Vec Ideal S2048x512 .bf16) (x7 : Vec Ideal S1x512 .f32) :
    ((kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1)
      = [⟨Rect.unit (s := S2048x512) ![0, 0] S2048x512.size (by decide), normed (acc x0 x1 (bAll x2 x3 x4) x5) x6 x7⟩] := by
  frame_open
  simp (disch := decide) only [ld_cut, stored_cut, View.readCov_cons_unit_lit', View.readCov_unit_lit', View.ld_unit_lit', View.readAt_eq_ld, Memref.IsWhole.read_unread]
  rewrite [bAll_def x2 x3 x4]
  generalize bAll x2 x3 x4 = b
  rewrite [acc_whole]
  refine Eq.trans (congrArg (fun P : List (View.Piece (Elt Ideal) S2048x512 .f32) =>
    [(⟨Rect.unit (s := S2048x512) ![0, 0] S2048x512.size (by decide),
      k0_pay1 (k0_pay629 (View.canon (Val := Elt Ideal) P)) (k0_pay630 (View.canon (Val := Elt Ideal) P)) (k0_pay631 (View.canon (Val := Elt Ideal) P))
        (k0_pay632 (View.canon (Val := Elt Ideal) P)) (k0_pay633 (View.canon (Val := Elt Ideal) P)) x7 x6⟩ : View.Piece (Elt Ideal) S2048x512 .f32)])
    (?_ : _ = pieces x0 x1 b x5 32 (by decide))) rfl
  rfl

end Cert.GlaBwdIdeal.RefValue

end
-- ==== Proof.GlaBwdChunk.lean ====
/-
A chunk of the backward call, head by head: rows counted from the end, each head's own attention and state.
-/
module

public import proofs.«01_k».proof.Proof.GlaBwdBody

@[expose] public section

set_option maxRecDepth 16384

noncomputable section

open Idealize.ShloMosaic Idealize.ShloMosaic.TcCoe Idealize.SL.Sem
open Idealize.ShloMosaic.Pipeline (Dat)

namespace Cert.GlaBwdIdeal.RefValue

open Cert.GlaBwdIdeal Cert.GlaBwdIdeal.Gen Cert.GlaGate
open Cert.GlaIdeal.RefValue (cut fits0 fits1 ld_cut stored_cut attn upd nextS outS stS lk lv sum_lk sum_head shr7 shr6 and63 eq4 le_word sel lk_div lk_mod lv_div stacked sel_head stacked8)

theorem ge_word (a b : ℕ) (ha : a < 2 ^ 31) (hb : b < 2 ^ 31) :
    IntOp.cmpi CmpIPredicate.sge (BitVec.ofNat 32 a) (BitVec.ofNat 32 b) = if b ≤ a then 1 else 0 := by
  rw [Idealize.ShloMosaic.WordCmp.cmpi_sge_ofNat ha hb]
  by_cases h : b ≤ a
  · rw [if_pos h]; simp [h]
  · rw [if_neg h]; simp [h]

/-- A sum over the rows from the last to the first. -/
theorem sum_rev (f : Fin 64 → EReal) : ∑ r, f (Fin.rev r) = ∑ r, f r := Equiv.sum_comp Fin.revPerm f

/-- The state's mask keeps where the head of the value column is the head of the key column. -/
theorem mask_state (g h : Fin 4) (w : Fin 128) (i : Fin 64) : k0_pay28 (ix2 (lv g w) (lk h i)) = if g = h then 1 else 0 := by
  pointwise [k0_pay28]
  rw [shr7, shr6, lv_div, lk_div]
  exact eq4 g h

/-- The causal mask. -/
theorem mask_causal (r : Fin 64) (h : Fin 4) (s : Fin 64) : k0_pay27 (ix2 r (lk h s)) = if s.rev ≤ r.rev then 1 else 0 := by
  pointwise [k0_pay27]
  rw [and63, lk_mod]
  refine (ge_word s.val r.val (by omega) (by omega)).trans (if_congr ?_ rfl rfl)
  exact Fin.rev_le_rev.symm

/-- The masks that keep one head's key columns. -/
theorem mask_k (h : Fin 4) (s : Fin 64) (i : Fin 64) (g : Fin 4) :
    IntOp.cmpi CmpIPredicate.eq (k0_pay16 (ix2 s (lk h i))) (BitVec.ofNat 32 g.val) = if h = g then 1 else 0 := by
  pointwise [k0_pay16]
  rw [shr6, lk_div]
  exact eq4 h g

/-- The masks that keep one head's value columns. -/
theorem mask_v (h : Fin 4) (s : Fin 64) (w : Fin 128) (g : Fin 4) :
    IntOp.cmpi CmpIPredicate.eq (k0_pay17 (ix2 s (lv h w))) (BitVec.ofNat 32 g.val) = if h = g then 1 else 0 := by
  pointwise [k0_pay17]
  rw [shr7, lv_div]
  exact eq4 h g

/-- The keys, one head below the other. -/
theorem keys_at (g h : Fin 4) (s i : Fin 64) (B : Vec Ideal S64x256 .f32) (m : FVec Ideal S1x256 .f32) (K : FVec Ideal S64x256 .f32) :
    k0_pay39 (F := Ideal) k0_pay18 k0_pay19 (k0_pay21 k0_pay16 k0_pay20) (k0_pay22 k0_pay16) B m K (ix2 (lk g s) (lk h i))
      = if h = g then K (ix2 s (lk h i)) * Ideal.exp (m (ix2 0 (lk h i)) - B (ix2 s (lk h i))) else 0 := by
  pointwise [k0_pay39]
  let x : Fin 64 → EReal := fun s => K (ix2 s (lk h i)) * Ideal.exp (m (ix2 0 (lk h i)) - B (ix2 s (lk h i)))
  exact stacked g s (lk g s) rfl (fun s => Scalar.select (k0_pay18 (ix2 s (lk h i))) (x s) 0)
    (fun s => Scalar.select (k0_pay19 (ix2 s (lk h i))) (x s) 0) (fun s => Scalar.select (k0_pay21 k0_pay16 k0_pay20 (ix2 s (lk h i))) (x s) 0)
    (fun s => Scalar.select (k0_pay22 k0_pay16 (ix2 s (lk h i))) (x s) 0) (fun g' s' => if h = g' then x s' else 0)
    (fun s => sel_head (mask_k h s i 0) _) (fun s => sel_head (mask_k h s i 1) _) (fun s => sel_head (mask_k h s i 2) _)
    (fun s => sel_head (mask_k h s i 3) _)

/-- The values, one head below the other. -/
theorem vals_at (g h : Fin 4) (s : Fin 64) (w : Fin 128) (V : FVec Ideal S64x512 .f32) :
    k0_pay40 (F := Ideal) (k0_pay23 k0_pay17) (k0_pay24 k0_pay17) (k0_pay25 k0_pay17) (k0_pay26 k0_pay17) V (ix2 (lk g s) (lv h w))
      = if h = g then V (ix2 s (lv h w)) else 0 := by
  pointwise [k0_pay40]
  let x : Fin 64 → EReal := fun s => V (ix2 s (lv h w))
  exact stacked g s (lk g s) rfl (fun s => Scalar.select (k0_pay23 k0_pay17 (ix2 s (lv h w))) (x s) 0)
    (fun s => Scalar.select (k0_pay24 k0_pay17 (ix2 s (lv h w))) (x s) 0) (fun s => Scalar.select (k0_pay25 k0_pay17 (ix2 s (lv h w))) (x s) 0)
    (fun s => Scalar.select (k0_pay26 k0_pay17 (ix2 s (lv h w))) (x s) 0) (fun g' s' => if h = g' then x s' else 0)
    (fun s => sel_head (mask_v h s w 0) _) (fun s => sel_head (mask_v h s w 1) _) (fun s => sel_head (mask_v h s w 2) _)
    (fun s => sel_head (mask_v h s w 3) _)

section chunk

variable (x0 x1 : Vec Ideal S2048x512 .bf16) (b : Vec Ideal S2048x256 .f32) (x5 : Vec Ideal S2048x512 .f32)

/-- Row `r` of chunk `n`, both counted from the end. -/
def row (n : Fin 32) (r : Fin 64) : Fin 2048 := ⟨64 * (31 - n.val) + (63 - r.val), by omega⟩

/-- One head's scaled queries, keys, running sums, values and forward rows. -/
def hq (h : Fin 4) (n : Fin 32) (r i : Fin 64) : EReal :=
  x0 (ix2 (row n r) ⟨h.val * 64 + i.val, by omega⟩) * Ideal.ofBits FTy.f32 0x3E000000#32

def hk (h : Fin 4) (n : Fin 32) (r i : Fin 64) : EReal := x0 (ix2 (row n r) ⟨256 + (h.val * 64 + i.val), by omega⟩)

def hb (h : Fin 4) (n : Fin 32) (r i : Fin 64) : EReal := b (ix2 (row n r) (lk h i))

def hv (h : Fin 4) (n : Fin 32) (r : Fin 64) (w : Fin 128) : EReal := x1 (ix2 (row n r) (lv h w))

theorem fit (n : Fin 32) : 64 * (31 - n.val) + 64 ≤ 2048 := by omega

theorem row_rev (n : Fin 32) (r : Fin 64) : (row n r.rev).val = 64 * (31 - n.val) + r.val := by
  show 64 * (31 - n.val) + (63 - (Fin.rev r).val) = _
  rw [Fin.val_rev]; omega

theorem b_at (h : Fin 4) (n : Fin 32) (r i : Fin 64) : bRows b (64 * (31 - n.val)) (fit n) (ix2 r (lk h i)) = hb b h n r.rev i :=
  congrArg b (Shape.idx_ext₂ (row_rev n r).symm (Nat.zero_add _))

theorem q_at (h : Fin 4) (n : Fin 32) (r i : Fin 64) :
    qRows x0 (64 * (31 - n.val)) (fit n) (ix2 r (lk h i)) * Ideal.ofBits FTy.f32 0x3E000000#32 = hq x0 h n r.rev i :=
  congrArg (fun z : EReal => z * Ideal.ofBits FTy.f32 0x3E000000#32) (congrArg x0 (Shape.idx_ext₂ (row_rev n r).symm (Nat.zero_add _)))

theorem k_at (h : Fin 4) (n : Fin 32) (r i : Fin 64) : kRows x0 (64 * (31 - n.val)) (fit n) (ix2 r (lk h i)) = hk x0 h n r.rev i :=
  congrArg x0 (Shape.idx_ext₂ (row_rev n r).symm rfl)

theorem v_at (h : Fin 4) (n : Fin 32) (r : Fin 64) (w : Fin 128) : vRows x1 (64 * (31 - n.val)) (fit n) (ix2 r (lv h w)) = hv x1 h n r.rev w :=
  congrArg x1 (Shape.idx_ext₂ (row_rev n r).symm (Nat.zero_add _))

theorem f_at (n : Fin 32) (r : Fin 64) (y : Fin 512) : fRows x5 (64 * (31 - n.val)) (fit n) (ix2 r y) = x5 (ix2 (row n r.rev) y) :=
  congrArg x5 (Shape.idx_ext₂ (row_rev n r).symm (Nat.zero_add _))

/-- What is added to the state: each head's own, and 0 where two heads meet. -/
theorem add_at (n : Fin 32) (g h : Fin 4) (w : Fin 128) (i : Fin 64) :
    addC x0 x1 b (64 * (31 - n.val)) (fit n) (ix2 (lv g w) (lk h i)) = if g = h then upd (hk x0 h n) (hb b h n) (hv x1 h n) i w else 0 := by
  unfold addC
  pointwise [k0_pay515, k0_pay36, k0_pay35, k0_pay30, k0_pay32, k0_pay38, k0_pay33]
  rw [mask_state, sel]
  by_cases e : g = h
  · subst e
    rw [if_pos rfl, if_pos rfl]
    unfold upd
    rw [← sum_rev]
    refine Finset.sum_congr rfl fun r _ => ?_
    rw [b_at, b_at, k_at, v_at, Fin.rev_rev]
    rfl
  · rw [if_neg e, if_neg e]

theorem step_at (n : Fin 32) (g h : Fin 4) (w : Fin 128) (i : Fin 64) (S : Vec Ideal S512x256 .f32) :
    stepC x0 x1 b (64 * (31 - n.val)) (fit n) S (ix2 (lv g w) (lk h i))
      = S (ix2 (lv g w) (lk h i)) * Ideal.exp (hb b h n 63 i) + if g = h then upd (hk x0 h n) (hb b h n) (hv x1 h n) i w else 0 := by
  unfold stepC
  pointwise [k0_pay556, k0_pay41, k0_pay30]
  rw [b_at, add_at]
  rfl

/-- The state before a chunk: each head's own, and 0 where two heads meet. -/
theorem state_at (g h : Fin 4) (w : Fin 128) (i : Fin 64) : ∀ (n : ℕ) (hn : n ≤ 32),
    stC x0 x1 b n hn (ix2 (lv g w) (lk h i)) = if g = h then stS (hk x0 h) (hb b h) (hv x1 h) n hn i w else 0
  | 0, _ => by
    unfold stC stS
    pointwise [k0_pay2]
    rw [ite_self]
  | n + 1, hn => by
    refine (step_at x0 x1 b ⟨n, hn⟩ g h w i _).trans ?_
    rw [state_at g h w i n (Nat.le_of_lt hn)]
    by_cases e : g = h
    · rw [if_pos e, if_pos e, if_pos e]
      rfl
    · rw [if_neg e, if_neg e, if_neg e, zero_mul, zero_add]

theorem att_at (n : Fin 32) (r : Fin 64) (g : Fin 4) (s : Fin 64) :
    attC x0 b (64 * (31 - n.val)) (fit n) (ix2 r (lk g s)) = attn (hq x0 g n) (hk x0 g n) (hb b g n) r.rev s.rev := by
  unfold attC attn
  pointwise [k0_pay449, k0_pay34, k0_pay31, k0_pay29]
  rw [mask_causal, sel]
  by_cases e : s.rev ≤ r.rev
  · rw [if_pos e, if_pos e, sum_lk]
    refine (sum_head g _ fun h hh => Finset.sum_eq_zero fun i _ => ?_).trans (Finset.sum_congr rfl fun i _ => ?_)
    · rw [keys_at, if_neg hh, mul_zero]
    · rw [keys_at, if_pos rfl, b_at, b_at, b_at, q_at]
      refine congrArg₂ (· * ·) rfl (congrArg₂ (· * ·) ?_ ?_)
      · exact k_at x0 g n s i
      · refine congrArg Ideal.exp (congrArg₂ (· - ·) ?_ rfl)
        pointwise []
        exact b_at b g n 31 i
  · rw [if_neg e, if_neg e]

theorem val_at (n : Fin 32) (g h : Fin 4) (s : Fin 64) (w : Fin 128) :
    valC x1 (64 * (31 - n.val)) (fit n) (ix2 (lk g s) (lv h w)) = if h = g then hv x1 h n s.rev w else 0 := by
  unfold valC
  rw [vals_at]
  exact ite_congr rfl (fun _ => v_at x1 h n s w) fun _ => rfl

/-- What the kernel leaves of a chunk is each head's own, added to the forward rows. -/
theorem out_at (n : Fin 32) (r : Fin 64) (h : Fin 4) (w : Fin 128) :
    outC x0 x1 b x5 (64 * (31 - n.val)) (fit n) (stC x0 x1 b n.val n.isLt.le) (ix2 r.rev (lv h w))
      = x5 (ix2 (row n r) (lv h w)) + outS (hq x0 h n) (hk x0 h n) (hb b h n) (hv x1 h n) (stS (hk x0 h) (hb b h) (hv x1 h) n.val n.isLt.le) r w := by
  unfold outC outS
  pointwise [k0_pay604, k0_pay481, k0_pay37, k0_pay31]
  refine congrArg₂ (· + ·) ?_ (congrArg₂ (· + ·) ?_ ?_)
  · refine (f_at x5 n r.rev (lv h w)).trans ?_
    rw [Fin.rev_rev]
  · rw [sum_lk]
    refine (sum_head h _ fun g hg => Finset.sum_eq_zero fun s _ => ?_).trans ?_
    · rw [val_at, if_neg (Ne.symm hg), mul_zero]
    · rw [← sum_rev]
      refine Finset.sum_congr rfl fun s _ => ?_
      rw [val_at, if_pos rfl, att_at, Fin.rev_rev, Fin.rev_rev]
  · rw [sum_lk]
    refine (sum_head h _ fun g hg => Finset.sum_eq_zero fun i _ => ?_).trans (Finset.sum_congr rfl fun i _ => ?_)
    · rw [state_at, if_neg (Ne.symm hg), mul_zero]
    · rw [state_at, if_pos rfl, q_at, b_at, Fin.rev_rev]

end chunk

end Cert.GlaBwdIdeal.RefValue

end
-- ==== Proof.GlaBwdDecay.lean ====
/-
The backward call's running sums of the log decays: each row's sum runs from its chunk's last row back to it.
-/
module

public import proofs.«01_k».proof.Proof.GlaBwdChunk

@[expose] public section

set_option maxRecDepth 16384

noncomputable section

open Idealize.ShloMosaic Idealize.ShloMosaic.TcCoe Idealize.SL.Sem
open Idealize.ShloMosaic.Pipeline (Dat)

namespace Cert.GlaBwdIdeal.RefValue

open Cert.GlaBwdIdeal Cert.GlaBwdIdeal.Gen Cert.GlaGate
open Cert.GlaIdeal.RefValue (cut fits0 fits1 ld_cut stored_cut attn upd nextS outS stS lk lv sum_lk sum_head shr7 shr6 and63 eq4 le_word sel lk_div lk_mod lv_div stacked sel_head stacked8)

/-- The triangular matrix: ones where the column is in the row's chunk and not before the row. -/
def tri : Vec Ideal S256x256 .f32 := k0_pay6 (F := Ideal) (iota Kind.tc S256x256 32 [0] iota_S256x256_d0_w32) (iota Kind.tc S256x256 32 [1] iota_S256x256_d1_w32) k0_pay4 k0_pay5

theorem tri_at (a g : Fin 4) (r i : Fin 64) : tri (ix2 (lk a r) (lk g i)) = if a = g ∧ r ≤ i then (1 : EReal) else 0 := by
  unfold tri
  pointwise [k0_pay6, k0_pay4, k0_pay5]
  rw [shr6, shr6, lk_div, lk_div, eq4, ge_word _ _ (by have := (lk g i).isLt; omega) (by have := (lk a r).isLt; omega)]
  by_cases e : a = g
  · subst e
    have hle : (lk a r).val ≤ (lk a i).val ↔ r ≤ i := by
      show a.val * 64 + r.val ≤ a.val * 64 + i.val ↔ r.val ≤ i.val
      omega
    by_cases l : r ≤ i
    · rw [if_pos rfl, if_pos (hle.mpr l), if_pos ⟨rfl, l⟩]; rfl
    · rw [if_pos rfl, if_neg (fun h => l (hle.mp h)), if_neg (show ¬ (a = a ∧ r ≤ i) from fun h => l h.2)]; rfl
  · rw [if_neg e, if_neg (show ¬ (a = g ∧ r ≤ i) from fun h => e h.1)]
    split <;> rfl

/-- One product with the triangular matrix: a row of a matrix, counted from the end. -/
theorem tri_sum (n : Fin 32) (r : Fin 64) (f : Fin 2048 → EReal) :
    ∑ x : Fin 256, tri (ix2 (lk ⟨(31 - n.val) % 4, by omega⟩ r.rev) x) * f ⟨256 * ((31 - n.val) / 4) + x.val, by omega⟩
      = ∑ i : Fin 64, if i ≤ r then f (row n i) else 0 := by
  rw [Fin.sum_univ_tiles 4 64 rfl]
  refine (Finset.sum_eq_single (⟨(31 - n.val) % 4, by omega⟩ : Fin 4) ?_ ?_).trans ?_
  · intro g _ hg
    refine Finset.sum_eq_zero fun i _ => ?_
    rw [show tri (ix2 (lk ⟨(31 - n.val) % 4, by omega⟩ r.rev) ⟨g.val * 64 + i.val, by omega⟩) = (0 : EReal) from
      (tri_at _ g r.rev i).trans (if_neg fun h => hg h.1.symm), zero_mul]
  · intro h; exact absurd (Finset.mem_univ _) h
  · rw [← sum_rev]
    refine Finset.sum_congr rfl fun i _ => ?_
    rw [show tri (ix2 (lk ⟨(31 - n.val) % 4, by omega⟩ r.rev) ⟨(31 - n.val) % 4 * 64 + i.rev.val, by omega⟩) = if i ≤ r then (1 : EReal) else 0 from
      (tri_at _ ⟨(31 - n.val) % 4, by omega⟩ r.rev i.rev).trans (by simp [Fin.rev_le_rev])]
    by_cases l : i ≤ r
    · rw [if_pos l, if_pos l, one_mul]
      exact congrArg f (Fin.ext (by
        show 256 * ((31 - n.val) / 4) + ((31 - n.val) % 4 * 64 + i.rev.val) = 64 * (31 - n.val) + (63 - i.val)
        rw [Fin.val_rev]; omega))
    · rw [if_neg l, if_neg l, zero_mul]

/-- Both products of one block of 256 rows. -/
def both (l : Vec Ideal S2048x256 .f32) (J : Fin 8) (s : Fin 256) (k : Fin 256) : EReal :=
  (∑ x : Fin 256, tri (ix2 s x) * l (ix2 ⟨256 * J.val + x.val, by omega⟩ k))
    + ∑ x : Fin 256, tri (ix2 s x) * (l (ix2 ⟨256 * J.val + x.val, by omega⟩ k) - l (ix2 ⟨256 * J.val + x.val, by omega⟩ k))

theorem both_eq (l : Vec Ideal S2048x256 .f32) (n : Fin 32) (r : Fin 64) (k : Fin 256) (hl : ∀ i : Fin 64, l (ix2 (row n i) k) ≠ (⊤ : EReal)) :
    both l ⟨(31 - n.val) / 4, by omega⟩ (lk ⟨(31 - n.val) % 4, by omega⟩ r.rev) k = ∑ i : Fin 64, if i ≤ r then l (ix2 (row n i) k) else (0 : EReal) := by
  unfold both
  refine (congrArg₂ (· + ·) (tri_sum n r fun R => l (ix2 R k)) (tri_sum n r fun R => l (ix2 R k) - l (ix2 R k))).trans ?_
  exact sum_rest (fun i => l (ix2 (row n i) k)) hl (fun i => i ≤ r)

/-- The running sums, block by block. -/
theorem b_both (x2 : Vec Ideal S2048x256 .f32) (x3 : Vec Ideal S256x256 .f32) (x4 : Vec Ideal S1x256 .f32) (R : Fin 2048) (k : Fin 256)
    (J : Fin 8) (s : Fin 256) (hR : R.val = 256 * J.val + s.val) : bAll x2 x3 x4 (ix2 R k) = both (k0_pay3 x2 x3 x4) J s k := by
  unfold bAll
  generalize k0_pay3 x2 x3 x4 = l
  pointwise [k0_pay15, k0_pay7, k0_pay8, k0_pay9, k0_pay10, k0_pay11, k0_pay12, k0_pay13, k0_pay14]
  refine stacked8 (fun J s => both l J s k) R J s hR
    (fun s => (∑ x : Fin 256, tri (ix2 s x) * l (ix2 ⟨x.val, by omega⟩ k))
      + ∑ x : Fin 256, tri (ix2 s x) * (l (ix2 ⟨x.val, by omega⟩ k) - l (ix2 ⟨x.val, by omega⟩ k)))
    (both l 1 · k) (both l 2 · k) (both l 3 · k) (both l 4 · k) (both l 5 · k) (both l 6 · k) (both l 7 · k) ?_ rfl rfl rfl rfl rfl rfl rfl
  funext s
  have e : ∀ x : Fin 256, (⟨x.val, by omega⟩ : Fin 2048) = ⟨256 * (0 : Fin 8).val + x.val, by omega⟩ := fun x => Fin.ext (Nat.zero_add _).symm
  simp only [e]
  rfl

end Cert.GlaBwdIdeal.RefValue

end
-- ==== Proof.GlaBwdSpec.lean ====
/-
The backward call of the gated linear attention as one function of the argument arrays: the recurrence run from a
sequence's last row to its first, added to the forward call's result, normed head by head, weighted and gated.
-/
module

public import proofs.«01_k».proof.Proof.GlaDecay
public import proofs.«01_k».proof.GlaBwdIdeal

@[expose] public section

set_option maxRecDepth 16384

noncomputable section

open Idealize.ShloMosaic Idealize.ShloMosaic.TcCoe Idealize.SL.Sem
open Idealize.ShloMosaic.Pipeline (Dat)

namespace Cert.GlaBwdIdeal.RefValue

open Cert.GlaBwdIdeal Cert.GlaGate
open Cert.GlaIdeal.RefValue (attn upd nextS outS stS lk lv)

section spec

variable (A0 : Vec Ideal S65536x5120 .bf16) (A1 : Vec Ideal S65536x512 .f32) (A2 : Vec Ideal S1x16x256 .f32) (A3 : Vec Ideal S1x256 .f32)
  (A4 : Vec Ideal S65536x512 .f32) (A5 : Vec Ideal S1x512 .f32)

/-- Row `r` of chunk `n` of sequence `c`, rows and chunks counted from the sequence's end. -/
def pos (c n : Fin 32) (r : Fin 64) : Fin 65536 := ⟨2048 * c.val + (64 * (31 - n.val) + (63 - r.val)), by omega⟩

/-- One head's scaled queries, keys and values. -/
def sq (c : Fin 32) (h : Fin 4) (n : Fin 32) (r i : Fin 64) : EReal :=
  A0 (ix2 (pos c n r) ⟨2048 + (h.val * 64 + i.val), by omega⟩) * Ideal.ofBits FTy.f32 0x3E000000#32

def sk (c : Fin 32) (h : Fin 4) (n : Fin 32) (r i : Fin 64) : EReal := A0 (ix2 (pos c n r) ⟨2304 + (h.val * 64 + i.val), by omega⟩)

def sv (c : Fin 32) (h : Fin 4) (n : Fin 32) (r : Fin 64) (w : Fin 128) : EReal := A0 (ix2 (pos c n r) ⟨2560 + (h.val * 128 + w.val), by omega⟩)

/-- The gate's argument: the low-rank product and its bias. -/
def arg (R : Fin 65536) (k : Fin 256) : EReal :=
  (∑ i : Fin 16, A1 (ix2 R ⟨272 + i.val, by omega⟩) * A2 (ix3 0 i k)) + A3 (ix2 0 k)

/-- One head's running sums of the log decays. -/
def sb (c : Fin 32) (h : Fin 4) (n : Fin 32) (r i : Fin 64) : EReal :=
  ∑ s : Fin 64, if s ≤ r then gate (arg A1 A2 A3 (pos c n s) (lk h i)) else 0

/-- The state before a chunk. -/
def state (c : Fin 32) (h : Fin 4) (n : ℕ) (hn : n ≤ 32) : Fin 64 → Fin 128 → EReal := stS (sk A0 c h) (sb A1 A2 A3 c h) (sv A0 c h) n hn

/-- What the recurrence gives. -/
def scan (c : Fin 32) (h : Fin 4) (n : Fin 32) (r : Fin 64) (w : Fin 128) : EReal :=
  outS (sq A0 c h n) (sk A0 c h n) (sb A1 A2 A3 c h n) (sv A0 c h n) (state A0 A1 A2 A3 c h n.val n.isLt.le) r w

/-- The two directions' sum. -/
def total (c : Fin 32) (h : Fin 4) (n : Fin 32) (r : Fin 64) (w : Fin 128) : EReal :=
  A4 (ix2 (pos c n r) (lv h w)) + scan A0 A1 A2 A3 c h n r w

/-- A head's norm, weighted by `g` and gated by the swish of `o`. -/
def normGate (f : Fin 128 → EReal) (g o : EReal) (w : Fin 128) : EReal :=
  f w * Ideal.rsqrt (Ideal.div (∑ v, f v * f v) (Ideal.ofBits FTy.f32 0x43000000#32) + Ideal.ofBits FTy.f32 0x3727C5AC#32) * g
    * (o * Ideal.div 1 (1 + Ideal.exp (-o)))

/-- The result. -/
def spec (c : Fin 32) (h : Fin 4) (n : Fin 32) (r : Fin 64) (w : Fin 128) : EReal :=
  normGate (total A0 A1 A2 A3 A4 c h n r) (A5 (ix2 0 (lv h w))) (A0 (ix2 (pos c n r) ⟨3072 + (h.val * 128 + w.val), by omega⟩)) w

end spec

end Cert.GlaBwdIdeal.RefValue

end
-- ==== Proof.GlaBwdWin.lean ====
/-
What the backward call leaves in a sequence's rows is the norm of the two directions' sum, gated: the reverse gated
linear attention of the argument arrays added to the forward call's rows, the gate's inputs and weight being finite.
-/
module

public import proofs.«01_k».proof.Proof.GlaBwdDecay
public import proofs.«01_k».proof.Proof.GlaBwdSpec

@[expose] public section

set_option maxRecDepth 16384

noncomputable section

open Idealize.ShloMosaic Idealize.ShloMosaic.TcCoe Idealize.SL.Sem
open Idealize.ShloMosaic.Pipeline (Dat)

namespace Cert.GlaBwdIdeal.RefValue

open Cert.GlaBwdIdeal Cert.GlaBwdIdeal.Gen Cert.GlaGate
open Cert.GlaIdeal.RefValue (attn upd nextS outS stS lk lv)

/-! ## The gate's argument in the kernel -/

/-- The kernel's three products of the split factors, and the bias. -/
def split3 (x2 : Vec Ideal S2048x256 .f32) (x3 : Vec Ideal S256x256 .f32) (x4 : Vec Ideal S1x256 .f32) (w : Fin 2048) (k : Fin 256) : EReal :=
  (∑ x : Fin 256, x2 (ix2 w x) * x3 (ix2 x k)) + (∑ x : Fin 256, (x2 (ix2 w x) - x2 (ix2 w x)) * x3 (ix2 x k))
    + (∑ x : Fin 256, x2 (ix2 w x) * (x3 (ix2 x k) - x3 (ix2 x k))) + x4 (ix2 0 k)

theorem pay3_at (x2 : Vec Ideal S2048x256 .f32) (x3 : Vec Ideal S256x256 .f32) (x4 : Vec Ideal S1x256 .f32) (w : Fin 2048) (k : Fin 256) :
    k0_pay3 x2 x3 x4 (ix2 w k) = gate (split3 x2 x3 x4 w k) := by
  pointwise [k0_pay3]
  rfl

/-- Where the factors are finite, and the weight 0 outside the rows from 16 to 31, only the product itself is left. -/
theorem split3_eq (x2 : Vec Ideal S2048x256 .f32) (x3 : Vec Ideal S256x256 .f32) (x4 : Vec Ideal S1x256 .f32) (w : Fin 2048) (k : Fin 256)
    (h2 : ∀ i : Fin 16, (x2 (ix2 w ⟨16 + i.val, by omega⟩) : EReal) ≠ ⊥ ∧ (x2 (ix2 w ⟨16 + i.val, by omega⟩) : EReal) ≠ ⊤)
    (h3 : ∀ i : Fin 16, (x3 (ix2 ⟨16 + i.val, by omega⟩ k) : EReal) ≠ ⊥ ∧ (x3 (ix2 ⟨16 + i.val, by omega⟩ k) : EReal) ≠ ⊤)
    (h0 : ∀ x : Fin 256, ¬ (16 ≤ x.val ∧ x.val < 32) → (x3 (ix2 x k) : EReal) = 0) :
    split3 x2 x3 x4 w k = (∑ i : Fin 16, x2 (ix2 w ⟨16 + i.val, by omega⟩) * x3 (ix2 ⟨16 + i.val, by omega⟩ k)) + x4 (ix2 0 k) := by
  have a : ∀ f : Fin 256 → EReal, (∀ x : Fin 256, ¬ (16 ≤ x.val ∧ x.val < 32) → f x = 0) → ∑ x, f x = ∑ i : Fin 16, f ⟨16 + i.val, by omega⟩ := by
    intro f hf
    rw [Fin.sum_univ_two_halves 16 240 rfl f, Finset.sum_eq_zero (s := Finset.univ) (f := fun i : Fin 16 => f ⟨i.val, _⟩)
      (fun i _ => hf _ (fun h => absurd h.1 (Nat.not_le.mpr i.isLt))), zero_add,
      Fin.sum_univ_two_halves 16 224 rfl (fun i : Fin 240 => f ⟨16 + i.val, _⟩),
      Finset.sum_eq_zero (s := Finset.univ) (f := fun i : Fin 224 => f ⟨16 + (16 + i.val), by omega⟩)
      (fun i _ => hf _ (fun h => by have := h.2; simp only at this; omega)), add_zero]
  unfold split3
  have e1 : (∑ x : Fin 256, ((x2 (ix2 w x) : EReal) - x2 (ix2 w x)) * x3 (ix2 x k)) = 0 := Finset.sum_eq_zero fun x _ => by
    by_cases h : 16 ≤ x.val ∧ x.val < 32
    · have t := h2 ⟨x.val - 16, by omega⟩
      rw [show (⟨16 + (⟨x.val - 16, by omega⟩ : Fin 16).val, by simp only; omega⟩ : Fin 256) = x from Fin.ext (by simp only; omega)] at t
      rw [EReal.sub_self t.2 t.1, zero_mul]
    · rw [h0 x h, mul_zero]
  have e2 : (∑ x : Fin 256, (x2 (ix2 w x) : EReal) * (x3 (ix2 x k) - x3 (ix2 x k))) = 0 := Finset.sum_eq_zero fun x _ => by
    by_cases h : 16 ≤ x.val ∧ x.val < 32
    · have t := h3 ⟨x.val - 16, by omega⟩
      rw [show (⟨16 + (⟨x.val - 16, by omega⟩ : Fin 16).val, by simp only; omega⟩ : Fin 256) = x from Fin.ext (by simp only; omega)] at t
      rw [EReal.sub_self t.2 t.1, mul_zero]
    · rw [h0 x h, sub_zero, mul_zero]
  rw [e1, e2, add_zero, add_zero]
  exact congrArg (· + _) (a (fun x => x2 (ix2 w x) * x3 (ix2 x k)) fun x hx => by rw [h0 x hx, mul_zero])

/-! ## The windows -/

variable (m : (ℓ : Loc nD τ sig) → Buf (Elt Ideal) ℓ)

theorem idx : ∀ t : Fin cfg0.N, win0_0.index t = ![t.val, 4] ∧ win0_1.index t = ![t.val, 5] ∧ win0_2.index t = ![t.val, 1]
    ∧ win0_3.index t = ![0, 0] ∧ win0_4.index t = ![0, 0] ∧ win0_5.index t = ![t.val, 0]
    ∧ win0_6.index t = ![t.val, 6] ∧ win0_7.index t = ![0, 0] ∧ win0_8.index t = ![t.val, 0] :=
  (by decide +kernel : ∀ t : Fin grid0.N, _)

theorem t_lt (t : Fin cfg0.N) : t.val < 32 := lt_of_lt_of_eq t.isLt (by decide +kernel)

/-- The grid point's sequence. -/
def sn (t : Fin cfg0.N) : Fin 32 := ⟨t.val, t_lt t⟩

/-- The weight with rows of 0 above and below it. -/
def padB (x : FVec Ideal S1x16x256 .f32) : FVec Ideal S256x256 .f32 :=
  pad S256x256 ![16, 0] ![224, 0] ![0, 0] (shapeCast S16x256 x shapeCasts_S1x16x256_S16x256) (sitofp (F := Ideal) .f32 (constantI S_ 32 0#32))
    pads_S16x256_S256x256_162240_000 h_S_

theorem V_a (c : Dev nD) : V m c main_v1 = padB (m ((c : Thread nD τ).loc main_arg2)) := by
  rfl

theorem V_b (c : Dev nD) : V m c main_v3 = shapeCast S1x256 (shapeCast S256 (m ((c : Thread nD τ).loc main_arg3) : FVec Ideal S1x256 .f32)
    shapeCasts_S1x256_S256) shapeCasts_S256_S1x256 := by
  unfold V hostOps0
  entry_read
  rfl

theorem V_g (c : Dev nD) : V m c main_v5 = shapeCast S1x512 (shapeCast S512 (m ((c : Thread nD τ).loc main_arg5) : FVec Ideal S1x512 .f32)
    shapeCasts_S1x512_S512) shapeCasts_S512_S1x512 := by
  unfold V hostOps0
  entry_read
  rfl

theorem padB_at (x : FVec Ideal S1x16x256 .f32) (j k : Fin 256) :
    padB x (ix2 j k) = if h : 16 ≤ j.val ∧ j.val < 32 then x (ix3 0 ⟨j.val - 16, by omega⟩ k) else 0 := by
  have z : (FloatOps.sitofp (F := Ideal) FTy.f32 0#32 : EReal) = 0 := by
    show ((((0#32).toInt : ℝ)) : EReal) = 0
    simp
  pointwise [padB, z]
  by_cases h : 16 ≤ j.val ∧ j.val < 32
  · rw [dif_pos h, dif_pos (by omega)]
  · rw [dif_neg h, dif_neg (by omega)]

theorem q_read (c : Dev nD) (t : Fin cfg0.N) (r : Fin 2048) (q : Fin 512) :
    iblk m c 0 t (ix2 r q) = m ((c : Thread nD τ).loc main_arg0) (ix2 ⟨2048 * t.val + r.val, by have := t_lt t; omega⟩ ⟨2048 + q.val, by omega⟩) := by
  have ht := t_lt t
  have e : ∀ A : S65536x5120.Idx → EReal, A ((win0_0.blk t).view.emb (ix2 r q)) = A (ix2 ⟨2048 * t.val + r.val, by omega⟩ ⟨2048 + q.val, by omega⟩) :=
    fun A => by blk_ext [idx t]
  blk_simp [iblk, V]
  exact e _

theorem v_read (c : Dev nD) (t : Fin cfg0.N) (r : Fin 2048) (q : Fin 512) :
    iblk m c 1 t (ix2 r q) = m ((c : Thread nD τ).loc main_arg0) (ix2 ⟨2048 * t.val + r.val, by have := t_lt t; omega⟩ ⟨2560 + q.val, by omega⟩) := by
  have ht := t_lt t
  have e : ∀ A : S65536x5120.Idx → EReal, A ((win0_1.blk t).view.emb (ix2 r q)) = A (ix2 ⟨2048 * t.val + r.val, by omega⟩ ⟨2560 + q.val, by omega⟩) :=
    fun A => by blk_ext [idx t]
  blk_simp [iblk, V]
  exact e _

theorem s_read (c : Dev nD) (t : Fin cfg0.N) (r : Fin 2048) (q : Fin 256) :
    iblk m c 2 t (ix2 r q) = m ((c : Thread nD τ).loc main_arg1) (ix2 ⟨2048 * t.val + r.val, by have := t_lt t; omega⟩ ⟨256 + q.val, by omega⟩) := by
  have ht := t_lt t
  have e : ∀ A : S65536x512.Idx → EReal, A ((win0_2.blk t).view.emb (ix2 r q)) = A (ix2 ⟨2048 * t.val + r.val, by omega⟩ ⟨256 + q.val, by omega⟩) :=
    fun A => by blk_ext [idx t]
  blk_simp [iblk, V]
  exact e _

theorem a_read (c : Dev nD) (t : Fin cfg0.N) (j k : Fin 256) :
    iblk m c 3 t (ix2 j k) = padB (m ((c : Thread nD τ).loc main_arg2)) (ix2 j k) := by
  have e : ∀ A : S256x256.Idx → EReal, A ((win0_3.blk t).view.emb (ix2 j k)) = A (ix2 j k) := fun A => by blk_ext [idx t]
  blk_simp [iblk]
  rw [V_a]
  exact e _

theorem b_read (c : Dev nD) (t : Fin cfg0.N) (k : Fin 256) :
    iblk m c 4 t (ix2 0 k) = m ((c : Thread nD τ).loc main_arg3) (ix2 0 k) := by
  have e : ∀ A : S1x256.Idx → EReal, A ((win0_4.blk t).view.emb (ix2 0 k)) = A (ix2 0 k) := fun A => by blk_ext [idx t]
  blk_simp [iblk]
  rw [V_b]
  refine (e _).trans ?_
  pointwise []

theorem f_read (c : Dev nD) (t : Fin cfg0.N) (r : Fin 2048) (q : Fin 512) :
    iblk m c 5 t (ix2 r q) = m ((c : Thread nD τ).loc main_arg4) (ix2 ⟨2048 * t.val + r.val, by have := t_lt t; omega⟩ q) := by
  have ht := t_lt t
  have e : ∀ A : S65536x512.Idx → EReal, A ((win0_5.blk t).view.emb (ix2 r q)) = A (ix2 ⟨2048 * t.val + r.val, by omega⟩ q) :=
    fun A => by blk_ext [idx t]
  blk_simp [iblk, V]
  exact e _

theorem o_read (c : Dev nD) (t : Fin cfg0.N) (r : Fin 2048) (q : Fin 512) :
    iblk m c 6 t (ix2 r q) = m ((c : Thread nD τ).loc main_arg0) (ix2 ⟨2048 * t.val + r.val, by have := t_lt t; omega⟩ ⟨3072 + q.val, by omega⟩) := by
  have ht := t_lt t
  have e : ∀ A : S65536x5120.Idx → EReal, A ((win0_6.blk t).view.emb (ix2 r q)) = A (ix2 ⟨2048 * t.val + r.val, by omega⟩ ⟨3072 + q.val, by omega⟩) :=
    fun A => by blk_ext [idx t]
  blk_simp [iblk, V]
  exact e _

theorem g_read (c : Dev nD) (t : Fin cfg0.N) (k : Fin 512) :
    iblk m c 7 t (ix2 0 k) = m ((c : Thread nD τ).loc main_arg5) (ix2 0 k) := by
  have e : ∀ A : S1x512.Idx → EReal, A ((win0_7.blk t).view.emb (ix2 0 k)) = A (ix2 0 k) := fun A => by blk_ext [idx t]
  blk_simp [iblk]
  rw [V_g]
  refine (e _).trans ?_
  pointwise []

/-! ## The block's queries, keys, values and running sums -/

theorem hq_read (c : Dev nD) (t : Fin cfg0.N) (h : Fin 4) : hq (iblk m c 0 t) h = sq (m ((c : Thread nD τ).loc main_arg0)) (sn t) h := by
  funext n r i
  exact congrArg (fun z : EReal => z * Ideal.ofBits FTy.f32 0x3E000000#32) (q_read m c t (row n r) ⟨h.val * 64 + i.val, by omega⟩)

theorem hk_read (c : Dev nD) (t : Fin cfg0.N) (h : Fin 4) : hk (iblk m c 0 t) h = sk (m ((c : Thread nD τ).loc main_arg0)) (sn t) h := by
  funext n r i
  refine (q_read m c t (row n r) ⟨256 + (h.val * 64 + i.val), by omega⟩).trans ?_
  exact congrArg (m ((c : Thread nD τ).loc main_arg0)) (Shape.idx_ext₂ rfl (by show 2048 + (256 + _) = 2304 + _; omega))

theorem hv_read (c : Dev nD) (t : Fin cfg0.N) (h : Fin 4) : hv (iblk m c 1 t) h = sv (m ((c : Thread nD τ).loc main_arg0)) (sn t) h := by
  funext n r w
  exact v_read m c t (row n r) (lv h w)

/-- The gate's inputs and weight are finite. -/
def Finite (A1 : Vec Ideal S65536x512 .f32) (A2 : Vec Ideal S1x16x256 .f32) : Prop :=
  (∀ (R : Fin 65536) (i : Fin 16), (A1 (ix2 R ⟨272 + i.val, by omega⟩) : EReal) ≠ ⊥ ∧ (A1 (ix2 R ⟨272 + i.val, by omega⟩) : EReal) ≠ ⊤)
    ∧ ∀ (i : Fin 16) (k : Fin 256), (A2 (ix3 0 i k) : EReal) ≠ ⊥ ∧ (A2 (ix3 0 i k) : EReal) ≠ ⊤

theorem pay3_read (c : Dev nD) (t : Fin cfg0.N) (fin : Finite (m ((c : Thread nD τ).loc main_arg1)) (m ((c : Thread nD τ).loc main_arg2)))
    (n : Fin 32) (s : Fin 64) (k : Fin 256) :
    k0_pay3 (iblk m c 2 t) (iblk m c 3 t) (iblk m c 4 t) (ix2 (row n s) k)
      = gate (arg (m ((c : Thread nD τ).loc main_arg1)) (m ((c : Thread nD τ).loc main_arg2)) (m ((c : Thread nD τ).loc main_arg3)) (pos (sn t) n s) k) := by
  have hx : ∀ i : Fin 16, iblk m c 2 t (ix2 (row n s) ⟨16 + i.val, by omega⟩) = m ((c : Thread nD τ).loc main_arg1) (ix2 (pos (sn t) n s) ⟨272 + i.val, by omega⟩) :=
    fun i => (s_read m c t (row n s) ⟨16 + i.val, by omega⟩).trans
      (congrArg (m ((c : Thread nD τ).loc main_arg1)) (Shape.idx_ext₂ rfl (by show 256 + (16 + i.val) = 272 + i.val; omega)))
  have ha : ∀ i : Fin 16, iblk m c 3 t (ix2 ⟨16 + i.val, by omega⟩ k) = m ((c : Thread nD τ).loc main_arg2) (ix3 0 i k) :=
    fun i => (a_read m c t ⟨16 + i.val, by omega⟩ k).trans ((padB_at _ _ k).trans ((dif_pos ⟨by show 16 ≤ 16 + i.val; omega, by show 16 + i.val < 32; omega⟩).trans
      (congrArg (fun z : Fin 16 => m ((c : Thread nD τ).loc main_arg2) (ix3 0 z k)) (Fin.ext (by show 16 + i.val - 16 = i.val; omega)))))
  refine (pay3_at _ _ _ _ k).trans (congrArg gate ?_)
  refine (split3_eq _ _ _ _ k (fun i => by rw [hx i]; exact fin.1 _ i) (fun i => by rw [ha i]; exact fin.2 i k)
    (fun x h => (a_read m c t x k).trans ((padB_at _ _ k).trans (dif_neg h)))).trans ?_
  unfold arg
  exact congrArg₂ (· + ·) (Finset.sum_congr rfl fun i _ => congrArg₂ (· * ·) (hx i) (ha i)) (b_read m c t k)

theorem hb_read (c : Dev nD) (t : Fin cfg0.N) (fin : Finite (m ((c : Thread nD τ).loc main_arg1)) (m ((c : Thread nD τ).loc main_arg2))) (h : Fin 4) :
    hb (bAll (iblk m c 2 t) (iblk m c 3 t) (iblk m c 4 t)) h
      = sb (m ((c : Thread nD τ).loc main_arg1)) (m ((c : Thread nD τ).loc main_arg2)) (m ((c : Thread nD τ).loc main_arg3)) (sn t) h := by
  funext n r i
  have e := pay3_read m c t fin n
  refine (b_both _ _ _ (row n r) (lk h i) ⟨(31 - n.val) / 4, by omega⟩ (lk ⟨(31 - n.val) % 4, by omega⟩ r.rev)
    (by show 64 * (31 - n.val) + (63 - r.val) = 256 * ((31 - n.val) / 4) + ((31 - n.val) % 4 * 64 + r.rev.val); rw [Fin.val_rev]; omega)).trans ?_
  refine (both_eq _ n r (lk h i) fun s => by rw [e s]; exact gate_ne_top _).trans ?_
  exact Finset.sum_congr rfl fun s _ => if_congr Iff.rfl (e s _) rfl

/-! ## The block written -/

section pieces

variable (x0 x1 : Vec Ideal S2048x512 .bf16) (b : Vec Ideal S2048x256 .f32) (x5 : Vec Ideal S2048x512 .f32)

theorem pieces_at (n : Fin 32) (r : Fin 64) (y : Fin 512) : (N : ℕ) → (hN : N ≤ 32) → n.val < N →
    View.canon (Val := Elt Ideal) (pieces x0 x1 b x5 N hN) (ix2 (row n r) y)
      = outC x0 x1 b x5 (64 * (31 - n.val)) (fit n) (stC x0 x1 b n.val n.isLt.le) (ix2 r.rev y)
  | N + 1, hN, h => by
    rcases Nat.lt_succ_iff_lt_or_eq.mp h with l | l
    · refine (View.canon_cons_of_not_mem _ _ ?_).trans (pieces_at n r y N (Nat.le_of_lt hN) l)
      intro hm
      obtain ⟨i, hi, he⟩ := (LoadRect.mem_set _).mp hm (0 : Fin 2)
      have hi' : i < 64 := hi
      have he' : 64 * (31 - n.val) + (63 - r.val) = 64 * (31 - N) + 1 * i := he
      omega
    · obtain ⟨n, hn⟩ := n
      obtain rfl : n = N := l
      have e : (ix2 (row ⟨n, hn⟩ r) y : S2048x512.Idx) = Rect.emb (s := S2048x512) (Rect.unit (s := S2048x512) ![64 * (31 - n), 0] S64x512.size (fun a => match a with
          | ⟨0, _⟩ => (by omega : 64 * (31 - n) + 64 ≤ 2048)
          | ⟨1, _⟩ => (by decide : 0 + 512 ≤ 512))) (ix2 r.rev y : S64x512.Idx) :=
        Shape.idx_ext₂ (by show 64 * (31 - n) + (63 - r.val) = 64 * (31 - n) + 1 * r.rev.val; rw [Fin.val_rev]; omega) (by show y.val = 0 + 1 * y.val; omega)
      rw [e]
      exact View.canon_cons_emb (Val := Elt Ideal) (e := .f32) (Rect.unit (s := S2048x512) ![64 * (31 - n), 0] S64x512.size _) _ _ _

theorem acc_at (n : Fin 32) (r : Fin 64) (h : Fin 4) (w : Fin 128) :
    acc x0 x1 b x5 (ix2 (row n r) (lv h w))
      = x5 (ix2 (row n r) (lv h w)) + outS (hq x0 h n) (hk x0 h n) (hb b h n) (hv x1 h n) (stS (hk x0 h) (hb b h) (hv x1 h) n.val n.isLt.le) r w :=
  (pieces_at x0 x1 b x5 n r (lv h w) 32 _ n.isLt).trans (out_at x0 x1 b x5 n r h w)

end pieces

/-- Each head's norm, weighted and gated, at an index. -/
theorem normed_at (a : Vec Ideal S2048x512 .f32) (x6 : Vec Ideal S2048x512 .bf16) (x7 : Vec Ideal S1x512 .f32) (R : Fin 2048) (h : Fin 4) (w : Fin 128) :
    normed a x6 x7 (ix2 R (lv h w)) = normGate (fun v => a (ix2 R (lv h v))) (x7 (ix2 0 (lv h w))) (x6 (ix2 R (lv h w))) w := by
  unfold normed normGate
  pointwise [k0_pay1, k0_pay629, k0_pay630, k0_pay631, k0_pay632, k0_pay633]
  rw [zero_sub]
  refine congrArg (· * _ * _) ?_
  obtain ⟨h, hh⟩ := h
  obtain rfl | rfl | rfl | rfl : h = 0 ∨ h = 1 ∨ h = 2 ∨ h = 3 := by omega
  · rw [dif_pos (by show 0 * 128 + w.val < 128; omega)]
    have e : ∀ x : Fin 128, ∀ p, (⟨x.val, p⟩ : Fin 512) = lv ⟨0, hh⟩ x := fun x _ => Fin.ext (by show x.val = 0 * 128 + x.val; omega)
    simp only [e]
  · rw [dif_neg (by show ¬ 1 * 128 + w.val < 128; omega), dif_pos (by show 1 * 128 + w.val - 128 < 128; omega)]
    have e : ∀ x : Fin 128, ∀ p, (⟨128 + x.val, p⟩ : Fin 512) = lv ⟨1, hh⟩ x := fun x _ => Fin.ext (by show 128 + x.val = 1 * 128 + x.val; omega)
    have e' : ∀ p, (⟨128 + ((lv ⟨1, hh⟩ w).val - 128), p⟩ : Fin 512) = lv ⟨1, hh⟩ w := fun _ => Fin.ext (by show 128 + (1 * 128 + w.val - 128) = 1 * 128 + w.val; omega)
    simp only [e, e']
  · rw [dif_neg (by show ¬ 2 * 128 + w.val < 128; omega), dif_neg (by show ¬ 2 * 128 + w.val - 128 < 128; omega),
      dif_pos (by show 2 * 128 + w.val - 128 - 128 < 128; omega)]
    have e : ∀ x : Fin 128, ∀ p, (⟨256 + x.val, p⟩ : Fin 512) = lv ⟨2, hh⟩ x := fun x _ => Fin.ext (by show 256 + x.val = 2 * 128 + x.val; omega)
    have e' : ∀ p, (⟨256 + ((lv ⟨2, hh⟩ w).val - 128 - 128), p⟩ : Fin 512) = lv ⟨2, hh⟩ w := fun _ => Fin.ext (by show 256 + (2 * 128 + w.val - 128 - 128) = 2 * 128 + w.val; omega)
    simp only [e, e']
  · rw [dif_neg (by show ¬ 3 * 128 + w.val < 128; omega), dif_neg (by show ¬ 3 * 128 + w.val - 128 < 128; omega),
      dif_neg (by show ¬ 3 * 128 + w.val - 128 - 128 < 128; omega)]
    have e : ∀ x : Fin 128, ∀ p, (⟨384 + x.val, p⟩ : Fin 512) = lv ⟨3, hh⟩ x := fun x _ => Fin.ext (by show 384 + x.val = 3 * 128 + x.val; omega)
    have e' : ∀ p, (⟨384 + ((lv ⟨3, hh⟩ w).val - 128 - 128 - 128), p⟩ : Fin 512) = lv ⟨3, hh⟩ w := fun _ => Fin.ext (by show 384 + (3 * 128 + w.val - 128 - 128 - 128) = 3 * 128 + w.val; omega)
    simp only [e, e']

/-- What the kernel's block holds after a grid point. -/
theorem after_at (c : Dev nD) (t : Fin cfg0.N) (fin : Finite (m ((c : Thread nD τ).loc main_arg1)) (m ((c : Thread nD τ).loc main_arg2)))
    (n : Fin 32) (r : Fin 64) (h : Fin 4) (w : Fin 128) :
    (dats m 0 c).after 8 t (ix2 (row n r) (lv h w))
      = spec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (sn t) h n r w := by
  rw [after0_8]
  unfold outsAt0 out0_A_8
  rw [written, View.read_writes_junk_eq_canon]
  have e : (ix2 (row n r) (lv h w) : S2048x512.Idx) = Rect.emb (s := S2048x512) (Rect.unit (s := S2048x512) ![0, 0] S2048x512.size (by decide)) (ix2 (row n r) (lv h w) : S2048x512.Idx) :=
    Shape.idx_ext₂ (by show _ = 0 + 1 * _; omega) (by show _ = 0 + 1 * _; omega)
  refine Eq.trans (congrArg _ e) ?_
  refine (View.canon_cons_emb (Val := Elt Ideal) (e := .f32) (Rect.unit (s := S2048x512) ![0, 0] S2048x512.size _) _ _ _).trans ?_
  refine (normed_at _ _ _ (row n r) h w).trans ?_
  unfold spec
  have ea : (fun v => acc (iblk m c 0 t) (iblk m c 1 t) (bAll (iblk m c 2 t) (iblk m c 3 t) (iblk m c 4 t)) (iblk m c 5 t) (ix2 (row n r) (lv h v)))
      = total (m ((c : Thread nD τ).loc main_arg0)) (m ((c : Thread nD τ).loc main_arg1)) (m ((c : Thread nD τ).loc main_arg2))
          (m ((c : Thread nD τ).loc main_arg3)) (m ((c : Thread nD τ).loc main_arg4)) (sn t) h n r := by
    funext v
    refine (acc_at _ _ _ _ n r h v).trans ?_
    unfold total scan state
    rw [hq_read, hk_read, hv_read, hb_read m c t fin]
    exact congrArg (· + _) (f_read m c t (row n r) (lv h v))
  have eg := g_read m c t (lv h w)
  have eo : iblk m c 6 t (ix2 (row n r) (lv h w)) = m ((c : Thread nD τ).loc main_arg0) (ix2 (pos (sn t) n r) ⟨3072 + (h.val * 128 + w.val), by omega⟩) :=
    o_read m c t (row n r) (lv h w)
  rw [← eg, ← eo, ← ea]

end Cert.GlaBwdIdeal.RefValue

end
-- ==== Proof.GlaBwdRef.lean ====
/-
What the backward call's reference computes before its loop over the chunks, at an index.
-/
module

public import proofs.«01_k».proof.Proof.GlaBwdSpec
public import proofs.«01_k».proof.Proof.GlaCumsum
public import proofs.«01_k».proof.Proof.Gen.GlaBwdRefIdeal.Step

@[expose] public section

set_option maxRecDepth 16384

noncomputable section

open Idealize.ShloMosaic Idealize.ShloMosaic.TcCoe Idealize.SL.Sem
open Idealize.ShloMosaic.Pipeline (Dat)

namespace Cert.GlaBwdRefIdeal.Rows

open Cert.GlaBwdRefIdeal Cert.GlaBwdRefIdeal.Step
variable (A0 : FVec Ideal S65536x5120 .bf16) (A1 : FVec Ideal S65536x512 .f32) (A2 : FVec Ideal S1x16x256 .f32) (A3 : FVec Ideal S1x256 .f32)

/-- Row `t` from a sequence's end. -/
theorem arg_at (c : Fin 32) (t : Fin 2048) (k : Fin 256) : A_main_v19 (F := Ideal) A0 A1 A2 A3 (ix3 c t k) = Cert.GlaBwdIdeal.RefValue.arg A1 A2 A3 ⟨2048 * c.val + t.val, by omega⟩ k := by
  unfold Cert.GlaBwdIdeal.RefValue.arg
  simp only [Nat.mul_comm 2048]
  pointwise [A_main_v19, A_main_v15, A_main_v13, A_main_v12, A_main_v14, A_main_v18, A_main_v17, A_main_v16]

theorem gate_at (c : Fin 32) (t : Fin 2048) (k : Fin 256) : A_main_v36 (F := Ideal) A0 A1 A2 A3 (ix3 c t k) = Cert.GlaGate.gate (Cert.GlaBwdIdeal.RefValue.arg A1 A2 A3 ⟨2048 * c.val + t.val, by omega⟩ k) := by
  rw [← Cert.GlaGate.softplus_eq, ← arg_at A0]
  unfold Cert.GlaGate.softplus
  pointwise [A_main_v36, K_main_v35, K_main_cst_1, A_main_v34, A_main_v33, A_main_v25, A_main_v27, A_main_v32, A_main_v22, A_main_v31, A_main_v30, A_main_v29, A_main_v28, A_main_v24, A_main_v20, K_main_v21, K_main_v23, K_main_v26, K_main_cst_0]
  rw [if_neg (fun h => h rfl)]
  rfl

/-- A row counted from the end. -/
theorem flip (n : Fin 32) (r : Fin 64) (h : n.val * 64 + r.val < 2048) : (Fin.rev (⟨n.val * 64 + r.val, h⟩ : Fin 2048)).val = 64 * (31 - n.val) + (63 - r.val) := by
  rw [Fin.val_rev]; show 2048 - (n.val * 64 + r.val + 1) = _; omega

theorem decay_at (c n : Fin 32) (r : Fin 64) (h : Fin 4) (i : Fin 64) :
    A_main_v42 (F := Ideal) A0 A1 A2 A3 (ix5 c n r h i) = Cert.GlaGate.gate (Cert.GlaBwdIdeal.RefValue.arg A1 A2 A3 (Cert.GlaBwdIdeal.RefValue.pos c n r) (Cert.GlaIdeal.RefValue.lk h i)) := by
  refine Eq.trans ?_ (gate_at A0 A1 A2 A3 c ⟨64 * (31 - n.val) + (63 - r.val), by omega⟩ (Cert.GlaIdeal.RefValue.lk h i))
  unfold Cert.GlaIdeal.RefValue.lk
  pointwise [A_main_v42, A_main_v38, A_main_v37]
  exact congrArg (fun t => A_main_v36 (F := Ideal) A0 A1 A2 A3 (ix3 c t ⟨h.val * 64 + i.val, by omega⟩)) (Fin.ext (flip n r (by omega)))

theorem q_at (c n : Fin 32) (r : Fin 64) (h : Fin 4) (i : Fin 64) : A_main_v39 (F := Ideal) A0 A1 A2 A3 (ix5 c n r h i) = Cert.GlaBwdIdeal.RefValue.sq A0 c h n r i := by
  unfold Cert.GlaBwdIdeal.RefValue.sq Cert.GlaBwdIdeal.RefValue.pos
  simp only [Nat.mul_comm 2048]
  pointwise [A_main_v39, A_main_v5, A_main_v4, K_main_v3, K_main_cst, A_main_v2, A_main_v1, A_main_v0]
  exact congrArg (fun z : EReal => z * Ideal.ofBits FTy.f32 0x3E000000#32) (congrArg A0 (Shape.idx_ext₂ (congrArg (c.val * 2048 + ·) (flip n r (by omega))) rfl))

theorem k_at (c n : Fin 32) (r : Fin 64) (h : Fin 4) (i : Fin 64) : A_main_v40 (F := Ideal) A0 A1 A2 A3 (ix5 c n r h i) = Cert.GlaBwdIdeal.RefValue.sk A0 c h n r i := by
  unfold Cert.GlaBwdIdeal.RefValue.sk Cert.GlaBwdIdeal.RefValue.pos
  simp only [Nat.mul_comm 2048]
  pointwise [A_main_v40, A_main_v8, A_main_v7, A_main_v6, A_main_v0]
  exact congrArg A0 (Shape.idx_ext₂ (congrArg (c.val * 2048 + ·) (flip n r (by omega))) rfl)

theorem v_at (c n : Fin 32) (r : Fin 64) (h : Fin 4) (w : Fin 128) : A_main_v41 (F := Ideal) A0 A1 A2 A3 (ix5 c n r h w) = Cert.GlaBwdIdeal.RefValue.sv A0 c h n r w := by
  unfold Cert.GlaBwdIdeal.RefValue.sv Cert.GlaBwdIdeal.RefValue.pos
  simp only [Nat.mul_comm 2048]
  pointwise [A_main_v41, A_main_v11, A_main_v10, A_main_v9, A_main_v0]
  exact congrArg A0 (Shape.idx_ext₂ (congrArg (c.val * 2048 + ·) (flip n r (by omega))) rfl)

theorem b_at (c n : Fin 32) (r : Fin 64) (h : Fin 4) (i : Fin 64) : A_main_v43 (F := Ideal) A0 A1 A2 A3 (ix5 c n r h i) = Cert.GlaBwdIdeal.RefValue.sb A1 A2 A3 c h n r i := by
  refine (Cert.GlaRefIdeal.Rows.cumsum_at (A_main_v42 (F := Ideal) A0 A1 A2 A3) (K_main_call4_call0_v0 (F := Ideal)) _ _ ?_ c n r h i).trans ?_
  · pointwise [K_main_call4_call0_v0, K_main_call4_call0_cst]
  · unfold Cert.GlaBwdIdeal.RefValue.sb
    simp only [decay_at]

/-- The lower triangle's mask chooses by the order of the row and the column. -/
theorem mask_at (r s : Fin 64) (x y : EReal) :
    Scalar.select (Scalar.select (IntOp.cmpi CmpIPredicate.sge (IntOp.addi (BitVec.ofNat 32 r.val) 0#32) (BitVec.ofNat 32 s.val)) 1#1 0#1) x y = if s ≤ r then x else y := by
  have e : IntOp.addi (BitVec.ofNat 32 r.val) 0#32 = BitVec.ofNat 32 r.val := BitVec.add_zero _
  rw [e, WordCmp.cmpi_sge_ofNat (by omega) (by omega)]
  by_cases h : s ≤ r
  · rw [if_pos h]
    simp [h, Scalar.select]
  · rw [if_neg h]
    simp [h, Scalar.select]

/-- The attention scores below the diagonal. -/
theorem attn_at (c n : Fin 32) (h : Fin 4) (r s : Fin 64) :
    A_main_v56 (F := Ideal) A0 A1 A2 A3 (ix5 c n h r s)
      = Cert.GlaIdeal.RefValue.attn (Cert.GlaBwdIdeal.RefValue.sq A0 c h n) (Cert.GlaBwdIdeal.RefValue.sk A0 c h n) (Cert.GlaBwdIdeal.RefValue.sb A1 A2 A3 c h n) r s := by
  unfold Cert.GlaIdeal.RefValue.attn
  pointwise [A_main_v56, A_main_v53, A_main_v52, A_main_v51, A_main_v50, A_main_v49, A_main_v48, A_main_v47, A_main_v46, A_main_v45, A_main_v44, b_at, q_at, k_at,
    K_main_call6_v1, K_main_v55, K_main_call5_v4, K_main_call5_v3, K_main_call5_v2, K_main_call5_v1, K_main_call5_c, K_main_call5_v0, K_main_v54, K_main_c, K_main_call5_v5, K_main_call5_c_0, K_main_call6_v2, K_main_call6_v0, K_main_cst_2]
  exact (mask_at r s _ _).trans (congrArg (ite (s ≤ r) _) (Ideal.ofBits_zero_f32))

/-- Each chunk's decay over its whole length. -/
theorem whole_at (n c : Fin 32) (h : Fin 4) (i : Fin 64) :
    A_main_v70 (F := Ideal) A0 A1 A2 A3 (ix4 n c h i) = Ideal.exp (Cert.GlaBwdIdeal.RefValue.sb A1 A2 A3 c h n 63 i) := by
  pointwise [A_main_v70, A_main_v66, A_main_v65, A_main_v59, b_at]

/-- What each chunk adds to the state. -/
theorem upd_at (n c : Fin 32) (h : Fin 4) (i : Fin 64) (w : Fin 128) :
    A_main_v71 (F := Ideal) A0 A1 A2 A3 (ix5 n c h i w)
      = Cert.GlaIdeal.RefValue.upd (Cert.GlaBwdIdeal.RefValue.sk A0 c h n) (Cert.GlaBwdIdeal.RefValue.sb A1 A2 A3 c h n) (Cert.GlaBwdIdeal.RefValue.sv A0 c h n) i w := by
  unfold Cert.GlaIdeal.RefValue.upd
  pointwise [A_main_v71, A_main_v64, A_main_v63, A_main_v62, A_main_v61, A_main_v60, A_main_v59, b_at, k_at, v_at]
  exact Finset.sum_congr rfl fun x _ => mul_comm _ _

/-- The queries with their decay since the chunk's start. -/
theorem since_at (n c : Fin 32) (r : Fin 64) (h : Fin 4) (i : Fin 64) :
    A_main_v72 (F := Ideal) A0 A1 A2 A3 (ix5 n c r h i)
      = Cert.GlaBwdIdeal.RefValue.sq A0 c h n r i * Ideal.exp (Cert.GlaBwdIdeal.RefValue.sb A1 A2 A3 c h n r i) := by
  pointwise [A_main_v72, A_main_v68, A_main_v67, b_at, q_at]

/-- What each chunk's own rows give. -/
theorem intra_at (n c : Fin 32) (r : Fin 64) (h : Fin 4) (w : Fin 128) :
    A_main_v73 (F := Ideal) A0 A1 A2 A3 (ix5 n c r h w)
      = ∑ s, Cert.GlaIdeal.RefValue.attn (Cert.GlaBwdIdeal.RefValue.sq A0 c h n) (Cert.GlaBwdIdeal.RefValue.sk A0 c h n) (Cert.GlaBwdIdeal.RefValue.sb A1 A2 A3 c h n) r s
          * Cert.GlaBwdIdeal.RefValue.sv A0 c h n s w := by
  pointwise [A_main_v73, A_main_v58, A_main_v57, v_at, attn_at]
  exact Finset.sum_congr rfl fun x _ => mul_comm _ _

end Cert.GlaBwdRefIdeal.Rows

end
-- ==== Proof.GlaBwdStates.lean ====
/-
The reference's result is the last of the states its loop steps through.
-/
module

public import proofs.«01_k».proof.Proof.Gen.GlaBwdRefIdeal.Run
public import proofs.«01_k».proof.Proof.Gen.GlaBwdRefIdeal.Step
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlaBwdRefIdeal.States

open Cert.GlaBwdRefIdeal Cert.GlaBwdRefIdeal.Gen Cert.GlaBwdRefIdeal.Value Cert.GlaBwdRefIdeal.Step Idealize.ShloMosaic.StableHlo

/-- The state the buffers hold. -/
def held (V : Valuation τ sig (Elt Ideal)) : State Ideal where
  main_v75_5 := V (Proc.devRef .tc main_v75_5)
  main_v75_6 := V (Proc.devRef .tc main_v75_6)
  main_v75_0 := V (Proc.devRef .tc main_v75_0)
  main_v75_1 := V (Proc.devRef .tc main_v75_1)
  main_v75_2 := V (Proc.devRef .tc main_v75_2)
  main_v75_3 := V (Proc.devRef .tc main_v75_3)

/-- The state before trip `n`. -/
def at_ (A0 : FVec Ideal S65536x5120 .bf16) (A1 : FVec Ideal S65536x512 .f32) (A2 : FVec Ideal S1x16x256 .f32) (A3 : FVec Ideal S1x256 .f32) : ℕ → State Ideal
  | 0 => init A0 A1 A2 A3
  | n + 1 => step n (at_ A0 A1 A2 A3 n)

/-- The buffers hold this state, and the counter this number. -/
def Keeps (V : Valuation τ sig (Elt Ideal)) (n : ℕ) (s : State Ideal) : Prop :=
  held V = s ∧ V (Proc.devRef .tc main_v75_4) = constantI S_ 32 (BitVec.ofNat 32 n)

theorem carried (V : Valuation τ sig (Elt Ideal)) (n : ℕ) (hn : V (Proc.devRef .tc main_v75_4) = constantI S_ 32 (BitVec.ofNat 32 n)) :
    step_main_v75_5 V = b26 n (held V) := by
  unfold b26 b25 b24 b23 b10 b9 b8 b7 b6 b5 b4 b3 b2 b1 b0
  rw [← hn]
  rfl

theorem written (V : Valuation τ sig (Elt Ideal)) (n : ℕ) (hn : V (Proc.devRef .tc main_v75_4) = constantI S_ 32 (BitVec.ofNat 32 n)) :
    step_main_v75_6 V = b35 n (held V) := by
  unfold b35 b34 b33 b32 b31 b30 b29 b28 b27 b22 b21 b20 b19 b18 b17 b16 b15 b14 b13 b12 b11
  rw [← hn]
  rfl

theorem keeps_step (V : Valuation τ sig (Elt Ideal)) (n : ℕ) (s : State Ideal) (h : Keeps V n s) : Keeps (STEP V) (n + 1) (step n s) := by
  obtain ⟨h, hn⟩ := h
  subst h
  refine ⟨?_, ?_⟩
  · unfold step
    rw [← carried V n hn, ← written V n hn, ← STEP_main_v75_5, ← STEP_main_v75_6]
    unfold held
    rw [STEP_main_v75_0, STEP_main_v75_1, STEP_main_v75_2, STEP_main_v75_3]
  · rw [STEP_main_v75_4]
    unfold step_main_v75_4
    rw [hn]
    funext i
    exact (BitVec.ofNat_add n 1).symm

variable (m : (ℓ : Loc nD τ sig) → Buf (Elt Ideal) ℓ) (c : Dev nD)

set_option maxRecDepth 65536 in
set_option maxHeartbeats 1000000 in
theorem keeps_entry : Keeps (entryContents preI m c) 0
    (init (m ((c.tc : Thread nD τ).loc main_arg0)) (m ((c.tc : Thread nD τ).loc main_arg1)) (m ((c.tc : Thread nD τ).loc main_arg2)) (m ((c.tc : Thread nD τ).loc main_arg3))) := by
  refine ⟨?_, ?_⟩
  · unfold held init
    congr 1 <;> (simp only [entryContents, afterL_cons, afterL_nil]; after_reads_simp) <;> rfl
  · simp only [entryContents, afterL_cons, afterL_nil]; after_reads_simp; rfl

theorem keeps_at (n : ℕ) : Keeps (STEP^[n] (entryContents preI m c)) n
    (at_ (m ((c.tc : Thread nD τ).loc main_arg0)) (m ((c.tc : Thread nD τ).loc main_arg1)) (m ((c.tc : Thread nD τ).loc main_arg2)) (m ((c.tc : Thread nD τ).loc main_arg3)) n) := by
  induction n with
  | zero => exact keeps_entry m c
  | succ n ih => rw [Function.iterate_succ_apply']; exact keeps_step _ n _ ih

theorem result_at : out_main_v107 (STEP^[32] (entryContents preI m c)) = R_main_v107 (at_ (m ((c.tc : Thread nD τ).loc main_arg0)) (m ((c.tc : Thread nD τ).loc main_arg1)) (m ((c.tc : Thread nD τ).loc main_arg2)) (m ((c.tc : Thread nD τ).loc main_arg3)) 32) (m ((c.tc : Thread nD τ).loc main_arg0)) (m ((c.tc : Thread nD τ).loc main_arg4)) (m ((c.tc : Thread nD τ).loc main_arg5)) := by
  have e := congrArg State.main_v75_6 (keeps_at m c 32).1
  have a0 := iter_main_arg0 m c 32
  have a4 := iter_main_arg4 m c 32
  have a5 := iter_main_arg5 m c 32
  revert e a0 a4 a5
  generalize STEP^[32] (entryContents preI m c) = V
  generalize at_ _ _ _ _ 32 = s
  intro e a0 a4 a5
  have e6 : V (Proc.devRef .tc main_v75_6) = s.main_v75_6 := e
  unfold out_main_v107 R_main_v107
  rw [← e6, ← a0, ← a4, ← a5]
  rfl

/-- The result array as a function of the arguments. -/
@[irreducible] def result (A0 : FVec Ideal S65536x5120 .bf16) (A1 : FVec Ideal S65536x512 .f32) (A2 : FVec Ideal S1x16x256 .f32) (A3 : FVec Ideal S1x256 .f32)
    (A4 : FVec Ideal S65536x512 .f32) (A5 : FVec Ideal S1x512 .f32) : FVec Ideal S65536x512 .f32 :=
  R_main_v107 (at_ A0 A1 A2 A3 32) A0 A4 A5

theorem run_result (g : Dev nD → PrngReg) : θ_run (defs (F := Ideal)) (onTc (τ := τ) (main (F := Ideal))) ⟨m, fun _ => 0, g⟩ fun r => ∀ c : Dev nD,
    r.2.mem ((c.tc : Thread nD τ).loc main_v107)
        = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans ((result_at m c).trans (by unfold result; rfl)), (h c).2⟩) (Value.run m g)

end Cert.GlaBwdRefIdeal.States

end
-- ==== Proof.GlaBwdLoop.lean ====
/-
The backward call's reference, chunk by chunk: its loop's state, the rows it has written, and its result.
-/
module

public import proofs.«01_k».proof.Proof.GlaBwdRef
public import proofs.«01_k».proof.Proof.GlaBwdStates
public import proofs.«01_k».proof.Proof.GlaLoop

@[expose] public section

set_option maxRecDepth 16384

noncomputable section

open Idealize.ShloMosaic Idealize.ShloMosaic.TcCoe Idealize.SL.Sem
open Idealize.ShloMosaic.Pipeline (Dat)

namespace Cert.GlaBwdRefIdeal.Rows

open Cert.GlaBwdRefIdeal Cert.GlaBwdRefIdeal.Step Cert.GlaBwdRefIdeal.States Cert.GlaBwdRefIdeal.Facts₀
open Cert.GlaRefIdeal.Rows (slice4 slice5 update5)

theorem whole_slice (s : State Ideal) (n : Fin 32) (z : Fin 1) (c : Fin 32) (h : Fin 4) (i : Fin 64) : b3 n.val s (ix4 z c h i) = s.main_v75_0 (ix4 n c h i) := slice4 _ n _ _ z c h i

theorem upd_slice (s : State Ideal) (n : Fin 32) (z : Fin 1) (c : Fin 32) (h : Fin 4) (i : Fin 64) (w : Fin 128) : b9 n.val s (ix5 z c h i w) = s.main_v75_1 (ix5 n c h i w) := slice5 _ n _ _ z c h i w

theorem since_slice (s : State Ideal) (n : Fin 32) (z : Fin 1) (c : Fin 32) (r : Fin 64) (h : Fin 4) (i : Fin 64) : b15 n.val s (ix5 z c r h i) = s.main_v75_2 (ix5 n c r h i) := slice5 _ n _ _ z c r h i

theorem intra_slice (s : State Ideal) (n : Fin 32) (z : Fin 1) (c : Fin 32) (r : Fin 64) (h : Fin 4) (w : Fin 128) : b21 n.val s (ix5 z c r h w) = s.main_v75_3 (ix5 n c r h w) := slice5 _ n _ _ z c r h w

variable (A0 : FVec Ideal S65536x5120 .bf16) (A1 : FVec Ideal S65536x512 .f32) (A2 : FVec Ideal S1x16x256 .f32) (A3 : FVec Ideal S1x256 .f32)

/-- One trip's new state at an index. -/
theorem carry_at (s : State Ideal) (n c : Fin 32) (h : Fin 4) (i : Fin 64) (w : Fin 128) :
    b26 n.val s (ix4 c h i w) = s.main_v75_5 (ix4 c h i w) * s.main_v75_0 (ix4 n c h i) + s.main_v75_1 (ix5 n c h i w) := by
  pointwise [b26, b25, b24, b23, b10, b4, upd_slice, whole_slice]

/-- One trip's rows at an index. -/
theorem write_at (s : State Ideal) (n c' c : Fin 32) (r : Fin 64) (h : Fin 4) (w : Fin 128) :
    b35 n.val s (ix5 c' c r h w) = if c' = n then s.main_v75_3 (ix5 n c r h w) + ∑ i : Fin 64, s.main_v75_5 (ix4 c h i w) * s.main_v75_2 (ix5 n c r h i) else s.main_v75_6 (ix5 c' c r h w) := by
  refine (update5 s.main_v75_6 (b30 n.val s) n c' _ _ c r h w).trans ?_
  refine congrArg (fun e => if c' = n then e else _) ?_
  pointwise [b30, b29, b28, b27, b22, b16, intra_slice, since_slice]

/-- What no trip changes. -/
theorem kept (n : ℕ) : (at_ A0 A1 A2 A3 n).main_v75_0 = A_main_v70 (F := Ideal) A0 A1 A2 A3 ∧ (at_ A0 A1 A2 A3 n).main_v75_1 = A_main_v71 (F := Ideal) A0 A1 A2 A3
    ∧ (at_ A0 A1 A2 A3 n).main_v75_2 = A_main_v72 (F := Ideal) A0 A1 A2 A3 ∧ (at_ A0 A1 A2 A3 n).main_v75_3 = A_main_v73 (F := Ideal) A0 A1 A2 A3 := by
  induction n with
  | zero => exact ⟨rfl, rfl, rfl, rfl⟩
  | succ n ih => exact ih

/-- The loop's state before a trip. -/
theorem state_at (n : ℕ) (hn : n ≤ 32) (c : Fin 32) (h : Fin 4) (i : Fin 64) (w : Fin 128) :
    (at_ A0 A1 A2 A3 n).main_v75_5 (ix4 c h i w) = Cert.GlaBwdIdeal.RefValue.state A0 A1 A2 A3 c h n hn i w := by
  induction n generalizing i w with
  | zero =>
    show (K_main_v69 (F := Ideal)) (ix4 c h i w) = 0
    pointwise [K_main_v69, K_main_cst_3]
  | succ n ih =>
    have k := kept A0 A1 A2 A3 n
    refine (carry_at (at_ A0 A1 A2 A3 n) ⟨n, hn⟩ c h i w).trans ?_
    rw [k.1, k.2.1, ih (Nat.le_of_lt hn), whole_at, upd_at]
    rfl

/-- The rows written before a trip are the result's. -/
theorem rows_at (n : ℕ) (hn : n ≤ 32) (c' c : Fin 32) (r : Fin 64) (h : Fin 4) (w : Fin 128) (hc : c'.val < n) :
    (at_ A0 A1 A2 A3 n).main_v75_6 (ix5 c' c r h w) = Cert.GlaBwdIdeal.RefValue.scan A0 A1 A2 A3 c h c' r w := by
  induction n with
  | zero => omega
  | succ n ih =>
    have k := kept A0 A1 A2 A3 n
    refine (write_at (at_ A0 A1 A2 A3 n) ⟨n, hn⟩ c' c r h w).trans ?_
    by_cases q : c' = ⟨n, hn⟩
    · subst q
      rw [if_pos rfl, k.2.2.1, k.2.2.2, intra_at]
      unfold Cert.GlaBwdIdeal.RefValue.scan Cert.GlaIdeal.RefValue.outS
      refine congrArg (_ + ·) (Finset.sum_congr rfl fun i _ => ?_)
      rw [since_at, state_at A0 A1 A2 A3 n (Nat.le_of_lt hn)]
      exact mul_comm _ _
    · rw [if_neg q]
      exact ih (Nat.le_of_lt hn) (by have : c'.val ≠ n := fun e => q (Fin.ext e); omega)

/-- What the loop leaves, turned back to the sequence's order. -/
theorem turned_at (c n : Fin 32) (r : Fin 64) (h : Fin 4) (w : Fin 128) (t : Fin 2048) (ht : t.val = 64 * (31 - n.val) + (63 - r.val)) :
    Host.reverse [1] (shapeCast S32x2048x4x128 (transpose S32x32x64x4x128 [1, 0, 2, 3, 4] (at_ A0 A1 A2 A3 32).main_v75_6 transposes_S32x32x64x4x128_S32x32x64x4x128_1_0_2_3_4) shapeCasts_S32x32x64x4x128_S32x2048x4x128) (ix4 c t h w)
      = Cert.GlaBwdIdeal.RefValue.scan A0 A1 A2 A3 c h n r w := by
  rw [← rows_at A0 A1 A2 A3 32 (le_refl _) n c r h w n.isLt]
  generalize (at_ A0 A1 A2 A3 32).main_v75_6 = x
  pointwise []
  have hv : (Fin.rev t).val = 64 * n.val + r.val := by rw [Fin.val_rev]; omega
  have e1 : ∀ p, (⟨(Fin.rev t).val / 64, p⟩ : Fin 32) = n := fun p => Fin.ext (by show (Fin.rev t).val / 64 = n.val; omega)
  have e2 : ∀ p, (⟨(Fin.rev t).val % 64, p⟩ : Fin 64) = r := fun p => Fin.ext (by show (Fin.rev t).val % 64 = r.val; omega)
  refine Eq.trans (b := x (ix5 ⟨(Fin.rev t).val / 64, by omega⟩ c ⟨(Fin.rev t).val % 64, by omega⟩ h w)) rfl ?_
  rw [e1, e2]

variable (A4 : FVec Ideal S65536x512 .f32) (A5 : FVec Ideal S1x512 .f32)

/-- The reference's result at an index. -/
theorem result_rows (c n : Fin 32) (r : Fin 64) (h : Fin 4) (w : Fin 128) :
    result A0 A1 A2 A3 A4 A5 (ix2 (Cert.GlaBwdIdeal.RefValue.pos c n r) (Cert.GlaIdeal.RefValue.lv h w))
      = Cert.GlaBwdIdeal.RefValue.spec A0 A1 A2 A3 A4 A5 c h n r w := by
  have hs := turned_at A0 A1 A2 A3 c n r h
  unfold result Cert.GlaBwdIdeal.RefValue.spec Cert.GlaBwdIdeal.RefValue.normGate Cert.GlaBwdIdeal.RefValue.total
  unfold R_main_v107
  revert hs
  generalize Host.reverse [1] (shapeCast S32x2048x4x128 (transpose S32x32x64x4x128 [1, 0, 2, 3, 4] (at_ A0 A1 A2 A3 32).main_v75_6 transposes_S32x32x64x4x128_S32x32x64x4x128_1_0_2_3_4) shapeCasts_S32x32x64x4x128_S32x2048x4x128) = z
  intro hs
  pointwise [Cert.GlaBwdIdeal.RefValue.pos, Cert.GlaIdeal.RefValue.lv]
  have hX : (2048 * c.val + (64 * (31 - n.val) + (63 - r.val))) % 2048 = 64 * (31 - n.val) + (63 - r.val) := by omega
  have hY : c.val * 2048 + (64 * (31 - n.val) + (63 - r.val)) = 2048 * c.val + (64 * (31 - n.val) + (63 - r.val)) := by omega
  have e : ∀ v p, z (ix4 c ⟨64 * (31 - n.val) + (63 - r.val), p⟩ h v) = Cert.GlaBwdIdeal.RefValue.scan A0 A1 A2 A3 c h n r v := fun v p => hs v _ rfl
  simp only [hX, hY, e]

end Cert.GlaBwdRefIdeal.Rows

end
-- ==== Proof.GlaBwdValue.lean ====
/-
The backward call's result is its reference's, the gate's inputs and weight being finite.
-/
module

public import proofs.«01_k».proof.Proof.GlaBwdWin
public import proofs.«01_k».proof.Proof.GlaBwdLoop
public import proofs.«01_k».proof.Proof.GlaValue
public import proofs.«01_k».proof.Proof.Gen.GlaBwdIdeal.Value
public import proofs.«01_k».proof.Defs

@[expose] public section

set_option maxRecDepth 16384

noncomputable section

open Idealize.ShloMosaic Idealize.ShloMosaic.TcCoe Idealize.SL.Sem
open Idealize.ShloMosaic.Pipeline (Dat)

namespace Cert.GlaBwdIdeal.RefValue

open Cert.GlaBwdIdeal Cert.GlaBwdIdeal.Gen Cert.GlaGate
open Cert.GlaIdeal.RefValue (below_infinity lv)

variable (m : (ℓ : Loc nD τ sig) → Buf (Elt Ideal) ℓ)

/-- What the precondition says of the gate's inputs and weight. -/
theorem finite_gates [Cert.Pre_finite_gates_bwd.Facts] (c : Dev nD) (h : Cert.Pre_GlaBwdIdeal_finite_gates_bwd m) :
    Finite (m ((c : Thread nD τ).loc main_arg1)) (m ((c : Thread nD τ).loc main_arg2)) := by
  obtain ⟨h1, h2⟩ := h c
  refine ⟨fun R i => below_infinity _ ?_, fun i k => below_infinity _ ?_⟩
  · refine Eq.trans ?_ (congrFun h1 (ix2 R i))
    unfold Cert.Pre_finite_gates_bwd.fn
    dsimp only
    pointwise []
    rfl
  · refine Eq.trans ?_ (congrFun h2 (ix3 0 i k))
    unfold Cert.Pre_finite_gates_bwd.fn
    dsimp only
    pointwise []
    rfl

/-- The result array. -/
def want (c : Dev nD) : FVec Ideal S65536x512 .f32 :=
  Cert.GlaBwdRefIdeal.States.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem want_at (c : Dev nD) (d n : Fin 32) (r : Fin 64) (h : Fin 4) (w : Fin 128) : want m c (ix2 (pos d n r) (lv h w))
    = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) d h n r w :=
  Cert.GlaBwdRefIdeal.Rows.result_rows _ _ _ _ _ _ d n r h w

/-- What the kernel leaves in its result array. -/
theorem final (c : Dev nD) (fin : Finite (m ((c : Thread nD τ).loc main_arg1)) (m ((c : Thread nD τ).loc main_arg2))) :
    (dats m 0 c).arrAt 8 (cfgs 0).N = want m c := by
  refine (dats m 0 c).arrAt_eq_of_covers 8 _ (by decide +kernel) fun t _ y => ?_
  blk_simp
  idx_vars y
  have ht := t_lt t
  have e0 : y0 = row ⟨31 - y0.val / 64, by omega⟩ ⟨63 - y0.val % 64, by omega⟩ := Fin.ext (by simp only [row]; omega)
  have e1 : y1 = lv ⟨y1.val / 128, by omega⟩ ⟨y1.val % 128, by omega⟩ := Fin.ext (by simp only [lv]; omega)
  have key : (dats m 0 c).after 8 t (ix2 y0 y1) = want m c (ix2 ⟨2048 * t.val + y0.val, by omega⟩ y1) := by
    have a := after_at m c t fin ⟨31 - y0.val / 64, by omega⟩ ⟨63 - y0.val % 64, by omega⟩ ⟨y1.val / 128, by omega⟩ ⟨y1.val % 128, by omega⟩
    rw [← want_at, ← e0, ← e1] at a
    refine a.trans (congrArg (fun z => want m c (ix2 z y1)) (Fin.ext ?_))
    simp only [pos, sn]
    omega
  refine key.trans ?_
  blk_ext [idx t]

/-- Both programs leave the same array. -/
theorem algebraic [Cert.Pre_finite_gates_bwd.Facts] : Cert.algebraic_GlaBwdIdeal_GlaBwdRefIdeal_pre_finite_gates_bwd := by
  pair_intro
  · run_from Cert.GlaBwdIdeal.Gen.run_main m g
    all_goals rfl
  · run_from Cert.GlaBwdRefIdeal.States.run_result m' g'
    exact (final m c (finite_gates m c hpre)).symm

/-- The reference ends with its arguments as they were. -/
theorem frameRef : Cert.quiescent_GlaBwdRefIdeal :=
  fun m g _ => (θ_run Cert.GlaBwdRefIdeal.defs _ _).mono
    (fun r h => ⟨fun c => (h c).2, Idealize.ShloMosaic.sem_eq_zero_of_no_sems (by decide) r.2⟩)
    (Cert.GlaBwdRefIdeal.Value.run (F := Ideal) m g)

end Cert.GlaBwdIdeal.RefValue

end
-- ==== Proof.LibScratch.lean ====
/-
Reads of a scratch buffer that a kernel fills by stores of whole slots or of consecutive rows.
-/
module

public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Scratch

open Idealize.ShloMosaic

/-- Rows `o … o + n - 1` of a slot of `N` rows. -/
def slotRows {N n : ℕ} (o : ℕ) (h : o + n ≤ N) (w : FVec Ideal ⟨3, ![1, N, 512]⟩ .f32) : FVec Ideal ⟨3, ![1, n, 512]⟩ .f32 :=
  fun j => w (ix3 0 ⟨o + (j 1).val, by have : (j 1).val < n := (j 1).isLt; omega⟩ ⟨(j 2).val, (j 2).isLt⟩)

/-- Such rows lie in the slot. -/
theorem slot_le {N n s o : ℕ}
    (inb : ∀ a, (![s, o, 0] : Fin 3 → ℕ) a + (![1, n, 512] : Fin 3 → ℕ) a ≤ (![2, N, 512] : Fin 3 → ℕ) a) : o + n ≤ N :=
  inb 1

/-- A load of rows of the slot written last reads that slot's payload there. -/
theorem slot_read {sig : RefSig} {κ : Kind} {sp : Space} {N n : ℕ} (v : View sig κ sp ⟨3, ![2, N, 512]⟩ .f32) (s o : ℕ)
    (inb : ∀ a, (![s, 0, 0] : Fin 3 → ℕ) a + (![1, N, 512] : Fin 3 → ℕ) a ≤ (![2, N, 512] : Fin 3 → ℕ) a)
    (inb' : ∀ a, (![s, o, 0] : Fin 3 → ℕ) a + (![1, n, 512] : Fin 3 → ℕ) a ≤ (![2, N, 512] : Fin 3 → ℕ) a)
    (w : FVec Ideal ⟨3, ![1, N, 512]⟩ .f32) (L : List (View.Piece (Elt Ideal) ⟨3, ![2, N, 512]⟩ .f32)) :
    v.readCov (⟨Rect.unit ![s, 0, 0] ![1, N, 512] inb, w⟩ :: L) (Rect.unit ![s, o, 0] ![1, n, 512] inb').toLoadRect
      = slotRows o (slot_le inb') w := by
  rw [View.readCov_eq_canon']
  funext j
  have hj : (j 0).val < 1 := (j 0).isLt
  have e : (Rect.unit ![s, o, 0] ![1, n, 512] inb').toLoadRect.idx j
      = Rect.emb (s := ⟨3, ![2, N, 512]⟩) (Rect.unit ![s, 0, 0] ![1, N, 512] inb)
          (ix3 0 ⟨o + (j 1).val, by have : (j 1).val < n := (j 1).isLt; have : o + n ≤ N := inb' 1; omega⟩
            ⟨(j 2).val, (j 2).isLt⟩ : (⟨3, ![1, N, 512]⟩ : Shape).Idx) := by
    funext a
    apply Fin.ext
    match a with
    | ⟨0, _⟩ => show s + 1 * (j 0).val = s + 1 * 0; omega
    | ⟨1, _⟩ => show o + 1 * (j 1).val = 0 + 1 * (o + (j 1).val); omega
    | ⟨2, _⟩ => show 0 + 1 * (j 2).val = 0 + 1 * (j 2).val; rfl
  rw [e]
  exact View.canon_cons_emb (Val := Elt Ideal) (e := .f32) (Rect.unit ![s, 0, 0] ![1, N, 512] inb) w L _

/-- A block of 512 rows between the 16 before it and the 16 after it. -/
def haloRows (p : FVec Ideal ⟨2, ![16, 1024]⟩ .bf16) (q : FVec Ideal ⟨2, ![512, 1024]⟩ .bf16) (r : FVec Ideal ⟨2, ![16, 1024]⟩ .bf16) :
    FVec Ideal ⟨2, ![544, 1024]⟩ .bf16 := fun i =>
  if h : (i 0).val < 16 then p (ix2 ⟨(i 0).val, h⟩ ⟨(i 1).val, (i 1).isLt⟩)
  else if h' : (i 0).val < 528 then q (ix2 ⟨(i 0).val - 16, by omega⟩ ⟨(i 1).val, (i 1).isLt⟩)
  else r (ix2 ⟨(i 0).val - 528, by have : (i 0).val < 544 := (i 0).isLt; omega⟩ ⟨(i 1).val, (i 1).isLt⟩)

/-- Rows `o … o + n - 1` of them. -/
def someRows {n : ℕ} (o : ℕ) (h : o + n ≤ 544) (w : FVec Ideal ⟨2, ![544, 1024]⟩ .bf16) : FVec Ideal ⟨2, ![n, 1024]⟩ .bf16 :=
  fun j => w (ix2 ⟨o + (j 0).val, by have : (j 0).val < n := (j 0).isLt; omega⟩ ⟨(j 1).val, (j 1).isLt⟩)

theorem some_le {n o : ℕ}
    (inb : ∀ a, (![o, 0] : Fin 2 → ℕ) a + (![n, 1024] : Fin 2 → ℕ) a ≤ (![544, 1024] : Fin 2 → ℕ) a) : o + n ≤ 544 :=
  inb 0

theorem some_all (h : 0 + 544 ≤ 544) (w : FVec Ideal ⟨2, ![544, 1024]⟩ .bf16) : someRows 0 h w = w := by
  funext j
  exact congrArg w (Shape.idx_ext₂ (Nat.zero_add _) rfl)

/-- A load of rows after the three stores reads those. -/
theorem halo_read {sig : RefSig} {κ : Kind} {sp : Space} {n : ℕ} (v : View sig κ sp ⟨2, ![544, 1024]⟩ .bf16) (s : ℕ)
    (h0 : ∀ a, (![0, 0] : Fin 2 → ℕ) a + (![16, 1024] : Fin 2 → ℕ) a ≤ (![544, 1024] : Fin 2 → ℕ) a)
    (h1 : ∀ a, (![16, 0] : Fin 2 → ℕ) a + (![512, 1024] : Fin 2 → ℕ) a ≤ (![544, 1024] : Fin 2 → ℕ) a)
    (h2 : ∀ a, (![528, 0] : Fin 2 → ℕ) a + (![16, 1024] : Fin 2 → ℕ) a ≤ (![544, 1024] : Fin 2 → ℕ) a)
    (h3 : ∀ a, (![s, 0] : Fin 2 → ℕ) a + (![n, 1024] : Fin 2 → ℕ) a ≤ (![544, 1024] : Fin 2 → ℕ) a)
    (p : FVec Ideal ⟨2, ![16, 1024]⟩ .bf16) (q : FVec Ideal ⟨2, ![512, 1024]⟩ .bf16) (r : FVec Ideal ⟨2, ![16, 1024]⟩ .bf16) :
    v.readCov (Val := Elt Ideal) [⟨Rect.unit ![528, 0] ![16, 1024] h2, r⟩, ⟨Rect.unit ![16, 0] ![512, 1024] h1, q⟩,
        ⟨Rect.unit ![0, 0] ![16, 1024] h0, p⟩] (Rect.unit ![s, 0] ![n, 1024] h3).toLoadRect
      = someRows s (some_le h3) (haloRows p q r) := by
  rw [View.readCov_eq_canon']
  funext i
  have hs : s + n ≤ 544 := some_le h3
  have hi : (i 0).val < n := (i 0).isLt
  have hk : (i 1).val < 1024 := (i 1).isLt
  have e0 : ((Rect.unit (s := ⟨2, ![544, 1024]⟩) ![s, 0] ![n, 1024] h3).toLoadRect.idx i 0).val = s + (i 0).val := by
    show s + 1 * (i 0).val = _; omega
  have e1 : ((Rect.unit (s := ⟨2, ![544, 1024]⟩) ![s, 0] ![n, 1024] h3).toLoadRect.idx i 1).val = (i 1).val := by
    show 0 + 1 * (i 1).val = _; omega
  have mem : ∀ (o k : ℕ) (h : ∀ a, (![o, 0] : Fin 2 → ℕ) a + (![k, 1024] : Fin 2 → ℕ) a ≤ (![544, 1024] : Fin 2 → ℕ) a),
      o ≤ s + (i 0).val → s + (i 0).val < o + k → (Rect.unit (s := ⟨2, ![544, 1024]⟩) ![s, 0] ![n, 1024] h3).toLoadRect.idx i
        ∈ (Rect.unit (s := ⟨2, ![544, 1024]⟩) ![o, 0] ![k, 1024] h).set := by
    intro o k h ho hn
    refine Rect.mem_set_unit.mpr fun a => ?_
    match a with
    | ⟨0, _⟩ => exact ⟨ho.trans e0.ge, e0.le.trans_lt hn⟩
    | ⟨1, _⟩ => exact ⟨Nat.zero_le _, e1.le.trans_lt (by show _ < 0 + 1024; omega)⟩
  refine View.canon_eq_of_allAt _ _ _ ?_ (View.allAt_cons_unit _ _ _ _ _ ?_ (View.allAt_cons_unit _ _ _ _ _ ?_
    (View.allAt_cons_unit _ _ _ _ _ ?_ (View.allAt_nil _ _))))
  · by_cases c0 : s + (i 0).val < 16
    · have := mem 0 16 h0 (Nat.zero_le _) (by omega)
      exact ⟨⟨Rect.unit ![0, 0] ![16, 1024] h0, p⟩, List.mem_cons_of_mem _ (List.mem_cons_of_mem _ List.mem_cons_self), this⟩
    · by_cases c1 : s + (i 0).val < 528
      · have := mem 16 512 h1 (by omega) (by omega)
        exact ⟨⟨Rect.unit ![16, 0] ![512, 1024] h1, q⟩, List.mem_cons_of_mem _ List.mem_cons_self, this⟩
      · have := mem 528 16 h2 (by omega) (by omega)
        exact ⟨⟨Rect.unit ![528, 0] ![16, 1024] h2, r⟩, List.mem_cons_self, this⟩
  all_goals
    intro x hx
    have hx0 := hx 0
    have hx1 := hx 1
    have b0 := (x 0).isLt
    rw [e0] at hx0
    rw [e1] at hx1
  · have hb : (x 0).val < 16 := b0
    have hx0' : s + (i 0).val = 528 + (x 0).val := hx0
    have hx1' : (i 1).val = 0 + (x 1).val := hx1
    unfold someRows haloRows
    rw [dif_neg (by show ¬ s + (i 0).val < 16; omega), dif_neg (by show ¬ s + (i 0).val < 528; omega)]
    exact congrArg r (by blk_ext <;> omega)
  · have hb : (x 0).val < 512 := b0
    have hx0' : s + (i 0).val = 16 + (x 0).val := hx0
    have hx1' : (i 1).val = 0 + (x 1).val := hx1
    unfold someRows haloRows
    rw [dif_neg (by show ¬ s + (i 0).val < 16; omega), dif_pos (by show s + (i 0).val < 528; omega)]
    exact congrArg q (by blk_ext <;> omega)
  · have hb : (x 0).val < 16 := b0
    have hx0' : s + (i 0).val = 0 + (x 0).val := hx0
    have hx1' : (i 1).val = 0 + (x 1).val := hx1
    unfold someRows haloRows
    rw [dif_pos (by show s + (i 0).val < 16; omega)]
    exact congrArg p (by blk_ext <;> omega)

end Cert.Scratch

end
-- ==== Proof.FfnBody.lean ====
/-
The rows a grid point of the feed-forward block stores, as sums over its column chunks.
-/
module

public import proofs.«01_k».proof.Defs
public import proofs.«01_k».proof.Proof.Gen.FfnIdeal.Frame
public import Idealize.ShloMosaic.Lib.Pipeline.ValueKit
public import proofs.«01_k».proof.Proof.LibScratch
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.RefValue

open Cert.FfnIdeal Cert.FfnIdeal.Gen Cert.Scratch

variable (m : (ℓ : Loc nD τ sig) → Buf (Elt Ideal) ℓ)

/-- A sum over the eleven chunks, in their order. -/
theorem sum_chunks (f : Fin 11 → EReal) :
    ∑ c, f c = f 0 + f 1 + f 2 + f 3 + f 4 + f 5 + f 6 + f 7 + f 8 + f 9 + f 10 := by
  simp only [Fin.sum_univ_castSucc, Fin.sum_univ_zero, zero_add]
  rfl

/-- One column of a chunk's product at a scratch row. -/
def up (H : FVec Ideal S544x1024 .bf16) (W : FVec Ideal S11x1024x512 .bf16) (c : Fin 11) (r : Fin 544) (l : Fin 512) : EReal :=
  ∑ q : Fin 1024, H (ix2 r q) * W (ix3 c q l)

/-- The three-row convolution of a chunk's column at a row of the block. -/
def conv (H : FVec Ideal S544x1024 .bf16) (W : FVec Ideal S11x1024x512 .bf16) (cw : FVec Ideal S11x3x512 .f32)
    (cb : FVec Ideal S11x1x512 .f32) (c : Fin 11) (r : Fin 512) (l : Fin 512) : EReal :=
  cw (ix3 c 0 l) * up H W c ⟨15 + r.val, by omega⟩ l + cw (ix3 c 1 l) * up H W c ⟨16 + r.val, by omega⟩ l
    + cw (ix3 c 2 l) * up H W c ⟨17 + r.val, by omega⟩ l + cb (ix3 c 0 l)

/-- The gated unit. -/
def gated (u v : EReal) : EReal := u * Ideal.div 1 (1 + Ideal.exp (0 - u)) * v

/-- What a chunk adds to a row of the block. -/
def down (H : FVec Ideal S544x1024 .bf16) (W : FVec Ideal S11x1024x512 .bf16) (cw : FVec Ideal S11x3x512 .f32)
    (cb : FVec Ideal S11x1x512 .f32) (wd : FVec Ideal S11x256x1024 .bf16) (c : Fin 11) (r : Fin 512) (d : Fin 1024) : EReal :=
  ∑ k : Fin 256, gated (conv H W cw cb c r ⟨k.val, by omega⟩) (conv H W cw cb c r ⟨256 + k.val, by omega⟩) * wd (ix3 c k d)

/-- The block's rows before the last norm. -/
def rows (x : FVec Ideal S512x1024 .f32) (H : FVec Ideal S544x1024 .bf16) (W : FVec Ideal S11x1024x512 .bf16)
    (cw : FVec Ideal S11x3x512 .f32) (cb : FVec Ideal S11x1x512 .f32) (wd : FVec Ideal S11x256x1024 .bf16) :
    FVec Ideal S512x1024 .f32 :=
  fun j => x j + ∑ c : Fin 11, down H W cw cb wd c (j 0) (j 1)

/-- The rows of a chunk's product that a load of the slot reads. -/
theorem slot_up (H : FVec Ideal S544x1024 .bf16) (W : FVec Ideal S11x1024x512 .bf16) (s o : ℕ) (h : o + 512 ≤ 544) (hs : s < 11)
    (inb : ∀ a, (![s, 0, 0] : Fin 3 → ℕ) a + (![1, 1024, 512] : Fin 3 → ℕ) a ≤ S11x1024x512.size a) :
    slotRows o h (k0_pay8 (F := Ideal) H (View.ld (Val := Elt Ideal) (S := S11x1024x512) (e' := .bf16) W (Rect.unit ![s, 0, 0] ![1, 1024, 512] inb)))
      = fun j => up H W ⟨s, hs⟩ ⟨o + (j 1).val, by have : (j 1).val < 512 := (j 1).isLt; omega⟩ (j 2) := by
  funext j
  unfold slotRows up
  pointwise [k0_pay8]

/-- The scratch rows of a grid point. -/
def hrows (c : Dev nD) (t : Fin cfg0.N) : FVec Ideal S544x1024 .bf16 :=
  haloRows (k0_pay4 (F := Ideal) (grid0.coords t) (iblk m c 3 t) (iblk m c 0 t))
    (k0_pay6 (k0_pay3 (iblk m c 3 t)) (k0_pay5 (iblk m c 1 t)))
    (k0_pay7 (k0_pay2 (grid0.coords t)) (k0_pay3 (iblk m c 3 t)) (iblk m c 2 t))

/-- The stored rows of a grid point. -/
theorem after_eq (c : Dev nD) (t : Fin cfg0.N) : (dats m 0 c).after 9 t
    = k0_pay1 (rows (iblk m c 1 t) (hrows m c t) (iblk m c 4 t) (iblk m c 5 t) (iblk m c 6 t) (iblk m c 7 t))
        (iblk m c 8 t) := by
  rw [after0_9]
  unfold outsAt0
  frame_open
  simp only [↓ halo_read, some_all]
  simp (disch := decide) only [↓ View.readCov_skip, ↓ slot_read]
  frame_out
  simp only [show @k0_pay9 = @k0_pay8 from rfl, show @k0_pay13 = @k0_pay8 from rfl, show @k0_pay16 = @k0_pay8 from rfl,
    show ∀ a b, k0_pay22 (F := Ideal) (k0_pay21 a b) = k0_pay8 (F := Ideal) a b from fun _ _ => rfl,
    show @k0_pay25 = @k0_pay8 from rfl, show @k0_pay29 = @k0_pay8 from rfl, show @k0_pay34 = @k0_pay8 from rfl,
    show @k0_pay36 = @k0_pay8 from rfl, show @k0_pay42 = @k0_pay8 from rfl, show @k0_pay47 = @k0_pay8 from rfl]
  simp (disch := decide) only [slot_up]
  rw [show haloRows _ _ _ = hrows m c t from rfl]
  refine congrArg (fun z => k0_pay1 (F := Ideal) z (iblk m c 8 t)) ?_
  funext y
  generalize hrows m c t = H
  unfold rows
  simp only [sum_chunks]
  pointwise [k0_pay10, k0_pay11, k0_pay12, k0_pay14, k0_pay15, k0_pay17, k0_pay18, k0_pay19, k0_pay20, k0_pay23, k0_pay24, k0_pay26, k0_pay27, k0_pay28, k0_pay30, k0_pay31, k0_pay32, k0_pay33, k0_pay35, k0_pay37, k0_pay38, k0_pay39, k0_pay40, k0_pay41, k0_pay43, k0_pay44, k0_pay45, k0_pay46, k0_pay48, k0_pay49, k0_pay50, k0_pay51, k0_pay52, k0_pay53, down, conv, gated]

end Cert.FfnIdeal.RefValue

end
-- ==== Proof.FfnRef.lean ====
/-
The reference's feed-forward block, read row by row: the normalised row, its up-projection, the
three-row convolution inside a sequence, the gated unit, and the sum with the residual stream.
-/
module

public import proofs.«01_k».proof.Defs
public import proofs.«01_k».proof.Proof.Gen.FfnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnRefIdeal.Rows

open Cert.FfnRefIdeal Cert.FfnRefIdeal.Read

variable (x0 : FVec Ideal S65536x1024 .f32) (x1 : FVec Ideal S1x1024 .f32) (x2 : FVec Ideal S1x1024x5504 .f32)
  (x3 : FVec Ideal S1x3x5504 .f32) (x4 : FVec Ideal S1x5504 .f32) (x5 : FVec Ideal S1x2752x1024 .f32)
  (x6 : FVec Ideal S1024 .f32)

/-- A row of the stream over its root mean square, times the norm's weight. -/
def hn (r : Fin 65536) (q : Fin 1024) : EReal :=
  x0 (ix2 r q) * Ideal.rsqrt (Ideal.div (∑ k, x0 (ix2 r k) * x0 (ix2 r k)) (Ideal.ofBits .f32 0x44800000#32)
    + Ideal.ofBits .f32 0x358637BD#32) * x1 (ix2 0 q)

/-- A column of the row's up-projection. -/
def upr (r : Fin 65536) (j : Fin 5504) : EReal := ∑ k : Fin 1024, hn x0 x1 r k * x2 (ix3 0 k j)

/-- The same column one row before, 0 at the first row of a sequence. -/
def before (r : Fin 65536) (j : Fin 5504) : EReal :=
  if h : 1 ≤ r.val % 2048 then upr x0 x1 x2 ⟨r.val - 1, by omega⟩ j else 0

/-- The same column one row after, 0 at the last row of a sequence. -/
def following (r : Fin 65536) (j : Fin 5504) : EReal :=
  if h : r.val % 2048 < 2047 then upr x0 x1 x2 ⟨r.val + 1, by omega⟩ j else 0

/-- The three-row convolution. -/
def convr (r : Fin 65536) (j : Fin 5504) : EReal :=
  x3 (ix3 0 0 j) * before x0 x1 x2 r j + x3 (ix3 0 1 j) * upr x0 x1 x2 r j
    + x3 (ix3 0 2 j) * following x0 x1 x2 r j + x4 (ix2 0 j)

/-- The gated unit. -/
def unit (u v : EReal) : EReal := u * Ideal.div 1 (1 + Ideal.exp (-u)) * v

/-- The residual stream after the block. -/
def outr (r : Fin 65536) (d : Fin 1024) : EReal :=
  x0 (ix2 r d) + ∑ k : Fin 2752, unit (convr x0 x1 x2 x3 x4 r ⟨k.val, by omega⟩)
    (convr x0 x1 x2 x3 x4 r ⟨2752 + k.val, by omega⟩) * x5 (ix3 0 k d)

/-- The residual stream after the block over its root mean square, times the last norm's weight. -/
def result (r : Fin 65536) (d : Fin 1024) : EReal :=
  outr x0 x1 x2 x3 x4 x5 r d * Ideal.rsqrt (Ideal.div (∑ k, outr x0 x1 x2 x3 x4 x5 r k * outr x0 x1 x2 x3 x4 x5 r k)
    (Ideal.ofBits .f32 0x44800000#32) + Ideal.ofBits .f32 0x358637BD#32) * x6 (ix1 d)

/-- Row `s` of sequence `b`. -/
def row (b : Fin 32) (s : Fin 2048) : Fin 65536 := ⟨b.val * 2048 + s.val, by omega⟩

theorem v14 (b : Fin 32) (s : Fin 2048) (q : Fin 1024) : val_main_v14 (F := Ideal) x0 x1 (ix3 b s q) = hn x0 x1 (row b s) q := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, hn, row]

theorem v16 (b : Fin 32) (s : Fin 2048) (j : Fin 5504) :
    val_main_v16 (F := Ideal) x0 x1 x2 (ix3 b s j) = upr x0 x1 x2 (row b s) j := by
  pointwise [val_main_v16, val_main_v15, upr, v14]

theorem v42 (b : Fin 32) (s : Fin 2048) (j : Fin 5504) :
    val_main_v42 (F := Ideal) x0 x1 x2 x3 x4 (ix3 b s j) = convr x0 x1 x2 x3 x4 (row b s) j := by
  have z : (FloatOps.sitofp (F := Ideal) FTy.f32 0#32 : EReal) = 0 := by
    show ((((0#32).toInt : ℝ)) : EReal) = 0
    simp
  pointwise [val_main_v42, val_main_v41, val_main_v40, val_main_v39, val_main_v38, val_main_v37, val_main_v36, val_main_v35,
    val_main_v34, val_main_v33, val_main_v32, val_main_v31, val_main_v30, val_main_v29, val_main_v28, val_main_v27, val_main_v26,
    val_main_v25, val_main_v24, val_main_v23, val_main_v22, val_main_v21, val_main_v20, val_main_v19, val_main_v18,
    val_main_v17, val_main_call0_v0, val_main_call1_v0, val_main_c, val_main_c_2, v16, z, convr]
  have hm : (row b s).val % 2048 = s.val := by show (b.val * 2048 + s.val) % 2048 = _; omega
  have e1 : (if h : 1 ≤ s.val ∧ s.val - 1 < 2047 then upr x0 x1 x2 (row b ⟨s.val - 1, by omega⟩) j else 0)
      = before x0 x1 x2 (row b s) j := by
    unfold before
    by_cases h : 1 ≤ s.val
    · rw [dif_pos (by omega), dif_pos (by omega)]
      exact congrArg (upr x0 x1 x2 · j) (Fin.ext (by show b.val * 2048 + (s.val - 1) = b.val * 2048 + s.val - 1; omega))
    · rw [dif_neg (by omega), dif_neg (by omega)]
  have e2 : (if h : s.val < 2047 then upr x0 x1 x2 (row b ⟨1 + s.val, by omega⟩) j else 0)
      = following x0 x1 x2 (row b s) j := by
    unfold following
    by_cases h : s.val < 2047
    · rw [dif_pos (by omega), dif_pos (by omega)]
      exact congrArg (upr x0 x1 x2 · j) (Fin.ext (by show b.val * 2048 + (1 + s.val) = b.val * 2048 + s.val + 1; omega))
    · rw [dif_neg (by omega), dif_neg (by omega)]
  rw [e1, e2]

theorem v55 (b : Fin 32) (s : Fin 2048) (d : Fin 1024) :
    val_main_v55 (F := Ideal) x0 x1 x2 x3 x4 x5 (ix3 b s d) = outr x0 x1 x2 x3 x4 x5 (row b s) d := by
  pointwise [val_main_v55, val_main_v54, val_main_v53, val_main_v52, val_main_v51, val_main_v50, val_main_v49, val_main_v48,
    val_main_v47, val_main_v46, val_main_v45, val_main_v44, val_main_v43, val_main_cst_3, val_main_cst_4, val_main_v0, v42, outr,
    unit]
  rfl

/-- The reference's result, read at an index. -/
theorem v69 (r : Fin 65536) (d : Fin 1024) :
    val_main_v69 (F := Ideal) x0 x1 x2 x3 x4 x5 x6 (ix2 r d) = result x0 x1 x2 x3 x4 x5 x6 r d := by
  have hr : row ⟨r.val / 2048, by omega⟩ ⟨r.val % 2048, by omega⟩ = r := Fin.ext (by show r.val / 2048 * 2048 + r.val % 2048 = _; omega)
  pointwise [val_main_v69, val_main_v68, val_main_v67, val_main_v66, val_main_v65, val_main_v64, val_main_v63, val_main_v62,
    val_main_v61, val_main_v60, val_main_v59, val_main_v58, val_main_v57, val_main_v56, val_main_cst_5, val_main_cst_6,
    val_main_cst_7, v55, hr, result]

end Cert.FfnRefIdeal.Rows

end
-- ==== Proof.FfnWin.lean ====
/-
What the windows of the feed-forward kernel hold, in terms of the arguments: the normalised rows of a
block with the row before and the row after, and the packed weights.
-/
module

public import proofs.«01_k».proof.Proof.FfnBody
public import proofs.«01_k».proof.Proof.FfnRef

@[expose] public section

set_option maxRecDepth 16384

noncomputable section

open Idealize.ShloMosaic Idealize.ShloMosaic.TcCoe Idealize.SL.Sem
open Idealize.ShloMosaic.Pipeline (Dat)

namespace Cert.FfnIdeal.RefValue

open Cert.FfnIdeal Cert.FfnIdeal.Gen Cert.Scratch
open Cert.FfnRefIdeal.Rows (hn upr before following convr unit outr result)

variable (m : (ℓ : Loc nD τ sig) → Buf (Elt Ideal) ℓ)

/-- Which block of its array each window stages at a grid point. -/
theorem idx : ∀ t : Fin cfg0.N, win0_0.index t = ![32 * t.val - 1, 0] ∧ win0_1.index t = ![t.val, 0]
    ∧ win0_2.index t = ![min (32 * t.val + 32) 4095, 0] ∧ win0_3.index t = ![0, 0] ∧ win0_4.index t = ![0, 0, 0]
    ∧ win0_5.index t = ![0, 0, 0] ∧ win0_6.index t = ![0, 0, 0] ∧ win0_7.index t = ![0, 0, 0]
    ∧ win0_8.index t = ![0, 0] ∧ win0_9.index t = ![t.val, 0] :=
  (by decide +kernel : ∀ t : Fin grid0.N, _)

/-- The rows before the block belong to another sequence exactly at the first block of a sequence. -/
theorem first : ∀ t : Fin cfg0.N, Scalar.cmpi .eq (Scalar.remsi (BitVec.ofNat 32 (grid0.coords t 0).val) 4#32) 0#32
    = if t.val % 4 = 0 then 1#1 else 0#1 :=
  (by decide +kernel : ∀ t : Fin grid0.N, _)

/-- The rows after the block belong to another sequence exactly at the last block of a sequence. -/
theorem last : ∀ t : Fin cfg0.N, Scalar.cmpi .eq (Scalar.remsi (BitVec.ofNat 32 (grid0.coords t 0).val) 4#32) 3#32
    = if t.val % 4 = 3 then 1#1 else 0#1 :=
  (by decide +kernel : ∀ t : Fin grid0.N, _)

/-- There are 128 blocks. -/
theorem t_lt (t : Fin cfg0.N) : t.val < 128 := t.isLt

/-- The packed up-projection: chunk `ch` holds 256 gate columns and then the value columns that go with them. -/
def packW (x : FVec Ideal S1x1024x5504 .f32) : FVec Ideal S11x1024x512 .bf16 :=
  truncf .bf16 (transpose S11x1024x512 [1, 0, 2] (concatenate S1024x11x512 2
    [⟨S1024x11x256, shapeCast S1024x11x256 (pad S1024x2816 ![0, 0] ![0, 64] ![0, 0]
        (extractStridedSlice S1024x2752 ![0, 0] (shapeCast S1024x5504 x shapeCasts_S1x1024x5504_S1024x5504) slices_S1024x5504_S1024x2752_0_0)
        (sitofp (F := Ideal) .f32 (constantI S_ 32 0#32)) pads_S1024x2752_S1024x2816_000_0640 h_S_) shapeCasts_S1024x2816_S1024x11x256⟩,
      ⟨S1024x11x256, shapeCast S1024x11x256 (pad S1024x2816 ![0, 0] ![0, 64] ![0, 0]
        (extractStridedSlice S1024x2752 ![0, 2752] (shapeCast S1024x5504 x shapeCasts_S1x1024x5504_S1024x5504) slices_S1024x5504_S1024x2752_0_2752)
        (sitofp (F := Ideal) .f32 (constantI S_ 32 0#32)) pads_S1024x2752_S1024x2816_000_0640 h_S_) shapeCasts_S1024x2816_S1024x11x256⟩]
    concatenates_S1024x11x256_S1024x11x256_S1024x11x512_d2) transposes_S1024x11x512_S11x1024x512_1_0_2) bitsLt_bf16_f32

/-- The packed convolution taps. -/
def packC (x : FVec Ideal S1x3x5504 .f32) : FVec Ideal S11x3x512 .f32 :=
  transpose S11x3x512 [1, 0, 2] (concatenate S3x11x512 2
    [⟨S3x11x256, shapeCast S3x11x256 (pad S3x2816 ![0, 0] ![0, 64] ![0, 0]
        (extractStridedSlice S3x2752 ![0, 0] (shapeCast S3x5504 x shapeCasts_S1x3x5504_S3x5504) slices_S3x5504_S3x2752_0_0)
        (sitofp (F := Ideal) .f32 (constantI S_ 32 0#32)) pads_S3x2752_S3x2816_000_0640 h_S_) shapeCasts_S3x2816_S3x11x256⟩,
      ⟨S3x11x256, shapeCast S3x11x256 (pad S3x2816 ![0, 0] ![0, 64] ![0, 0]
        (extractStridedSlice S3x2752 ![0, 2752] (shapeCast S3x5504 x shapeCasts_S1x3x5504_S3x5504) slices_S3x5504_S3x2752_0_2752)
        (sitofp (F := Ideal) .f32 (constantI S_ 32 0#32)) pads_S3x2752_S3x2816_000_0640 h_S_) shapeCasts_S3x2816_S3x11x256⟩]
    concatenates_S3x11x256_S3x11x256_S3x11x512_d2) transposes_S3x11x512_S11x3x512_1_0_2

/-- The packed convolution bias. -/
def packB (x : FVec Ideal S1x5504 .f32) : FVec Ideal S11x1x512 .f32 :=
  transpose S11x1x512 [1, 0, 2] (concatenate S1x11x512 2
    [⟨S1x11x256, shapeCast S1x11x256 (pad S1x2816 ![0, 0] ![0, 64] ![0, 0]
        (extractStridedSlice S1x2752 ![0, 0] (broadcastInDim S1x5504 ![1] bcast_S5504_S1x5504_1 (shapeCast S5504 x shapeCasts_S1x5504_S5504)) slices_S1x5504_S1x2752_0_0)
        (sitofp (F := Ideal) .f32 (constantI S_ 32 0#32)) pads_S1x2752_S1x2816_000_0640 h_S_) shapeCasts_S1x2816_S1x11x256⟩,
      ⟨S1x11x256, shapeCast S1x11x256 (pad S1x2816 ![0, 0] ![0, 64] ![0, 0]
        (extractStridedSlice S1x2752 ![0, 2752] (broadcastInDim S1x5504 ![1] bcast_S5504_S1x5504_1 (shapeCast S5504 x shapeCasts_S1x5504_S5504)) slices_S1x5504_S1x2752_0_2752)
        (sitofp (F := Ideal) .f32 (constantI S_ 32 0#32)) pads_S1x2752_S1x2816_000_0640 h_S_) shapeCasts_S1x2816_S1x11x256⟩]
    concatenates_S1x11x256_S1x11x256_S1x11x512_d2) transposes_S1x11x512_S11x1x512_1_0_2

/-- The packed down-projection, padded with rows of 0. -/
def packD (x : FVec Ideal S1x2752x1024 .f32) : FVec Ideal S11x256x1024 .bf16 :=
  truncf .bf16 (shapeCast S11x256x1024 (pad S2816x1024 ![0, 0] ![64, 0] ![0, 0]
    (shapeCast S2752x1024 x shapeCasts_S1x2752x1024_S2752x1024)
    (sitofp (F := Ideal) .f32 (constantI S_ 32 0#32)) pads_S2752x1024_S2816x1024_0640_000 h_S_) shapeCasts_S2816x1024_S11x256x1024) bitsLt_bf16_f32

theorem V_w (c : Dev nD) : V m c main_v9 = packW (m ((c : Thread nD τ).loc main_arg2)) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, List.flatten_cons, List.flatten_nil,
    List.cons_append, List.nil_append, List.append_nil]
  entry_read
  rfl

theorem V_c (c : Dev nD) : V m c main_v18 = packC (m ((c : Thread nD τ).loc main_arg3)) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, List.flatten_cons, List.flatten_nil,
    List.cons_append, List.nil_append, List.append_nil]
  entry_read
  rfl

theorem V_b (c : Dev nD) : V m c main_v28 = packB (m ((c : Thread nD τ).loc main_arg4)) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, List.flatten_cons, List.flatten_nil,
    List.cons_append, List.nil_append, List.append_nil]
  entry_read
  rfl

theorem V_d (c : Dev nD) : V m c main_v32 = packD (m ((c : Thread nD τ).loc main_arg5)) := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, List.flatten_cons, List.flatten_nil,
    List.cons_append, List.nil_append, List.append_nil]
  entry_read
  rfl

theorem V_g (c : Dev nD) : V m c main_v34 = shapeCast S1x1024 (shapeCast S1024 (m ((c : Thread nD τ).loc main_arg1) : FVec Ideal S1x1024 .f32)
    shapeCasts_S1x1024_S1024) shapeCasts_S1024_S1x1024 := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, List.flatten_cons, List.flatten_nil,
    List.cons_append, List.nil_append, List.append_nil]
  entry_read
  rfl

theorem V_f (c : Dev nD) : V m c main_v35 = shapeCast S1x1024 (m ((c : Thread nD τ).loc main_arg6) : FVec Ideal S1024 .f32)
    shapeCasts_S1024_S1x1024 := by
  simp only [V, hostOps0, hostOps0_1, hostOps0_2, hostOps0_3, hostOps0_4, hostOps0_5, hostOps0_6, hostOps0_7, hostOps0_8,
    hostOps0_9, hostOps0_10, hostOps0_11, hostOps0_12, hostOps0_13, hostOps0_14, List.flatten_cons, List.flatten_nil,
    List.cons_append, List.nil_append, List.append_nil]
  entry_read
  rfl

/-- The gate columns of the packed up-projection. -/
theorem packW_gate (x : FVec Ideal S1x1024x5504 .f32) (ch : Fin 11) (q : Fin 1024) (k : Fin 256) (h : ch.val * 256 + k.val < 2752) :
    packW x (ix3 ch q ⟨k.val, by omega⟩) = x (ix3 0 q ⟨ch.val * 256 + k.val, by omega⟩) := by
  pointwise [packW]
  exact dif_pos h

theorem packW_val (x : FVec Ideal S1x1024x5504 .f32) (ch : Fin 11) (q : Fin 1024) (k : Fin 256) (h : ch.val * 256 + k.val < 2752) :
    packW x (ix3 ch q ⟨256 + k.val, by omega⟩) = x (ix3 0 q ⟨2752 + (ch.val * 256 + k.val), by omega⟩) := by
  pointwise [packW]
  exact dif_pos h

theorem packC_gate (x : FVec Ideal S1x3x5504 .f32) (ch : Fin 11) (q : Fin 3) (k : Fin 256) (h : ch.val * 256 + k.val < 2752) :
    packC x (ix3 ch q ⟨k.val, by omega⟩) = x (ix3 0 q ⟨ch.val * 256 + k.val, by omega⟩) := by
  pointwise [packC]
  exact dif_pos h

theorem packC_val (x : FVec Ideal S1x3x5504 .f32) (ch : Fin 11) (q : Fin 3) (k : Fin 256) (h : ch.val * 256 + k.val < 2752) :
    packC x (ix3 ch q ⟨256 + k.val, by omega⟩) = x (ix3 0 q ⟨2752 + (ch.val * 256 + k.val), by omega⟩) := by
  pointwise [packC]
  exact dif_pos h

theorem packB_gate (x : FVec Ideal S1x5504 .f32) (ch : Fin 11) (k : Fin 256) (h : ch.val * 256 + k.val < 2752) :
    packB x (ix3 ch 0 ⟨k.val, by omega⟩) = x (ix2 0 ⟨ch.val * 256 + k.val, by omega⟩) := by
  pointwise [packB]
  exact dif_pos h

theorem packB_val (x : FVec Ideal S1x5504 .f32) (ch : Fin 11) (k : Fin 256) (h : ch.val * 256 + k.val < 2752) :
    packB x (ix3 ch 0 ⟨256 + k.val, by omega⟩) = x (ix2 0 ⟨2752 + (ch.val * 256 + k.val), by omega⟩) := by
  pointwise [packB]
  exact dif_pos h

/-- The rows of the packed down-projection: the weight's, then 0. -/
theorem packD_row (x : FVec Ideal S1x2752x1024 .f32) (ch : Fin 11) (k : Fin 256) (d : Fin 1024) :
    packD x (ix3 ch k d) = if h : ch.val * 256 + k.val < 2752 then x (ix3 0 ⟨ch.val * 256 + k.val, h⟩ d) else 0 := by
  have z : (FloatOps.sitofp (F := Ideal) FTy.f32 0#32 : EReal) = 0 := by
    show ((((0#32).toInt : ℝ)) : EReal) = 0
    simp
  pointwise [packD, z]

/-- The norm's weight, as the kernel's window holds it. -/
theorem g_read (c : Dev nD) (t : Fin cfg0.N) (q : Fin 1024) :
    iblk m c 3 t (ix2 0 q) = m ((c : Thread nD τ).loc main_arg1) (ix2 0 q) := by
  have e : ∀ A : S1x1024.Idx → EReal, A ((win0_3.blk t).view.emb (ix2 0 q)) = A (ix2 0 q) := fun A => by blk_ext [idx t]
  blk_simp [iblk]
  rw [V_g]
  refine (e _).trans ?_
  pointwise []

/-- The weights' windows hold the packed weights whole. -/
theorem w_read (c : Dev nD) (t : Fin cfg0.N) (i : Fin 11) (q : Fin 1024) (l : Fin 512) :
    iblk m c 4 t (ix3 i q l) = packW (m ((c : Thread nD τ).loc main_arg2)) (ix3 i q l) := by
  have e : ∀ A : S11x1024x512.Idx → EReal, A ((win0_4.blk t).view.emb (ix3 i q l)) = A (ix3 i q l) := fun A => by blk_ext [idx t]
  blk_simp [iblk]
  rw [V_w]
  exact e _

theorem c_read (c : Dev nD) (t : Fin cfg0.N) (i : Fin 11) (q : Fin 3) (l : Fin 512) :
    iblk m c 5 t (ix3 i q l) = packC (m ((c : Thread nD τ).loc main_arg3)) (ix3 i q l) := by
  have e : ∀ A : S11x3x512.Idx → EReal, A ((win0_5.blk t).view.emb (ix3 i q l)) = A (ix3 i q l) := fun A => by blk_ext [idx t]
  blk_simp [iblk]
  rw [V_c]
  exact e _

theorem b_read (c : Dev nD) (t : Fin cfg0.N) (i : Fin 11) (l : Fin 512) :
    iblk m c 6 t (ix3 i 0 l) = packB (m ((c : Thread nD τ).loc main_arg4)) (ix3 i 0 l) := by
  have e : ∀ A : S11x1x512.Idx → EReal, A ((win0_6.blk t).view.emb (ix3 i 0 l)) = A (ix3 i 0 l) := fun A => by blk_ext [idx t]
  blk_simp [iblk]
  rw [V_b]
  exact e _

theorem d_read (c : Dev nD) (t : Fin cfg0.N) (i : Fin 11) (k : Fin 256) (d : Fin 1024) :
    iblk m c 7 t (ix3 i k d) = packD (m ((c : Thread nD τ).loc main_arg5)) (ix3 i k d) := by
  have e : ∀ A : S11x256x1024.Idx → EReal, A ((win0_7.blk t).view.emb (ix3 i k d)) = A (ix3 i k d) := fun A => by blk_ext [idx t]
  blk_simp [iblk]
  rw [V_d]
  exact e _

theorem f_read (c : Dev nD) (t : Fin cfg0.N) (q : Fin 1024) :
    iblk m c 8 t (ix2 0 q) = m ((c : Thread nD τ).loc main_arg6) (ix1 q) := by
  have e : ∀ A : S1x1024.Idx → EReal, A ((win0_8.blk t).view.emb (ix2 0 q)) = A (ix2 0 q) := fun A => by blk_ext [idx t]
  blk_simp [iblk]
  rw [V_f]
  refine (e _).trans ?_
  pointwise []

/-- The last row of the block of rows before, and the first of the rows after. -/
theorem p_read (c : Dev nD) (t : Fin cfg0.N) (h : ¬ t.val % 4 = 0) (q : Fin 1024) :
    iblk m c 0 t (ix2 15 q) = m ((c : Thread nD τ).loc main_arg0) (ix2 ⟨512 * t.val - 1, by have := t_lt t; omega⟩ q) := by
  have := t_lt t
  blk_point [iblk, V, idx t]

theorem n_read (c : Dev nD) (t : Fin cfg0.N) (h : ¬ t.val % 4 = 3) (q : Fin 1024) :
    iblk m c 2 t (ix2 0 q) = m ((c : Thread nD τ).loc main_arg0) (ix2 ⟨512 * t.val + 512, by have := t_lt t; omega⟩ q) := by
  have := t_lt t
  blk_point [iblk, V, idx t]

theorem x_read (c : Dev nD) (t : Fin cfg0.N) (r : Fin 512) (q : Fin 1024) :
    iblk m c 1 t (ix2 r q) = m ((c : Thread nD τ).loc main_arg0) (ix2 ⟨512 * t.val + r.val, by have := t_lt t; omega⟩ q) := by
  blk_point [iblk, V, idx t]

/-- The block's own rows. -/
theorem hmid (c : Dev nD) (t : Fin cfg0.N) (r : Fin 512) (q : Fin 1024) :
    hrows m c t (ix2 ⟨16 + r.val, by omega⟩ q) = hn (m ((c : Thread nD τ).loc main_arg0)) (m ((c : Thread nD τ).loc main_arg1))
      ⟨512 * t.val + r.val, by have := t_lt t; omega⟩ q := by
  unfold hrows haloRows
  pointwise [k0_pay6, k0_pay3, k0_pay5, hn]
  rw [dif_pos (by omega)]
  simp only [x_read, g_read]

theorem hprev (c : Dev nD) (t : Fin cfg0.N) (q : Fin 1024) :
    hrows m c t (ix2 15 q) = if h : t.val % 4 = 0 then 0 else
      hn (m ((c : Thread nD τ).loc main_arg0)) (m ((c : Thread nD τ).loc main_arg1)) ⟨512 * t.val - 1, by have := t_lt t; omega⟩ q := by
  unfold hrows haloRows
  pointwise [k0_pay4, k0_pay3, first t]
  by_cases h : t.val % 4 = 0
  · simp [h, Scalar.select]
  · simp only [if_neg h, dif_neg h, Scalar.select]
    simp only [if_neg (show ¬ (0#1 = 1) by decide), p_read m c t h, g_read]
    rfl

theorem hnext (c : Dev nD) (t : Fin cfg0.N) (q : Fin 1024) :
    hrows m c t (ix2 528 q) = if h : t.val % 4 = 3 then 0 else
      hn (m ((c : Thread nD τ).loc main_arg0)) (m ((c : Thread nD τ).loc main_arg1))
        ⟨512 * t.val + 512, by have := t_lt t; omega⟩ q := by
  unfold hrows haloRows
  pointwise [k0_pay7, k0_pay2, k0_pay3, last t]
  by_cases h : t.val % 4 = 3
  · simp [h, Scalar.select]
  · simp only [if_neg h, dif_neg h, Scalar.select]
    simp only [if_neg (show ¬ (0#1 = 1) by decide), n_read m c t h, g_read]
    rfl

end Cert.FfnIdeal.RefValue

end
-- ==== Proof.FfnValue.lean ====
/-
The feed-forward kernel computes the reference's feed-forward block and last norm.
-/
module

public import proofs.«01_k».proof.Proof.FfnWin
public import proofs.«01_k».proof.Proof.Gen.FfnIdeal.Value

@[expose] public section

set_option maxRecDepth 16384

noncomputable section

open Idealize.ShloMosaic Idealize.ShloMosaic.TcCoe Idealize.SL.Sem
open Idealize.ShloMosaic.Pipeline (Dat)

namespace Cert.FfnIdeal.RefValue

open Cert.FfnIdeal Cert.FfnIdeal.Gen Cert.Scratch
open Cert.FfnRefIdeal.Rows (hn upr before following convr unit outr result)

variable (m : (ℓ : Loc nD τ sig) → Buf (Elt Ideal) ℓ)

section Columns

variable (c : Dev nD) (t : Fin cfg0.N) (W : FVec Ideal S11x1024x512 .bf16) (w : FVec Ideal S1x1024x5504 .f32)
  (ch : Fin 11) (l : Fin 512) (j : Fin 5504) (hW : ∀ q, W (ix3 ch q l) = w (ix3 0 q j))

include hW

/-- A packed column of the up-projection is the weight's column it packs, at the block's own rows, -/
theorem up_mid (r : Fin 512) : up (hrows m c t) W ch ⟨16 + r.val, by omega⟩ l
    = upr (m ((c : Thread nD τ).loc main_arg0)) (m ((c : Thread nD τ).loc main_arg1)) w
      ⟨512 * t.val + r.val, by have := t_lt t; omega⟩ j := by
  unfold up upr
  simp only [hmid, hW]

/-- at the rows before them, -/
theorem up_before (r : Fin 512) : up (hrows m c t) W ch ⟨15 + r.val, by omega⟩ l
    = before (m ((c : Thread nD τ).loc main_arg0)) (m ((c : Thread nD τ).loc main_arg1)) w
      ⟨512 * t.val + r.val, by have := t_lt t; omega⟩ j := by
  have ht := t_lt t
  unfold before
  by_cases h0 : r.val = 0
  · have e : (⟨15 + r.val, by omega⟩ : Fin 544) = 15 := Fin.ext (by show 15 + r.val = 15; omega)
    rw [e]
    by_cases h : t.val % 4 = 0
    · rw [dif_neg (by show ¬ 1 ≤ (512 * t.val + r.val) % 2048; omega)]
      unfold up
      simp only [hprev, dif_pos h, zero_mul, Finset.sum_const_zero]
    · rw [dif_pos (by show 1 ≤ (512 * t.val + r.val) % 2048; omega)]
      unfold up upr
      simp only [hprev, dif_neg h, hW]
      simp only [h0, Nat.add_zero]
  · rw [dif_pos (by show 1 ≤ (512 * t.val + r.val) % 2048; omega)]
    have e : (⟨15 + r.val, by omega⟩ : Fin 544) = ⟨16 + (⟨r.val - 1, by omega⟩ : Fin 512).val, by show 16 + (r.val - 1) < 544; omega⟩ :=
      Fin.ext (by show 15 + r.val = 16 + (r.val - 1); omega)
    rw [e, up_mid m c t W w ch l j hW]
    exact congrArg (upr _ _ w · j) (Fin.ext (by show 512 * t.val + (r.val - 1) = 512 * t.val + r.val - 1; omega))

/-- and at the rows after them. -/
theorem up_following (r : Fin 512) : up (hrows m c t) W ch ⟨17 + r.val, by omega⟩ l
    = following (m ((c : Thread nD τ).loc main_arg0)) (m ((c : Thread nD τ).loc main_arg1)) w
      ⟨512 * t.val + r.val, by have := t_lt t; omega⟩ j := by
  have ht := t_lt t
  unfold following
  by_cases h0 : r.val = 511
  · have e : (⟨17 + r.val, by omega⟩ : Fin 544) = 528 := Fin.ext (by show 17 + r.val = 528; omega)
    rw [e]
    by_cases h : t.val % 4 = 3
    · rw [dif_neg (by show ¬ (512 * t.val + r.val) % 2048 < 2047; omega)]
      unfold up
      simp only [hnext, dif_pos h, zero_mul, Finset.sum_const_zero]
    · rw [dif_pos (by show (512 * t.val + r.val) % 2048 < 2047; omega)]
      unfold up upr
      simp only [hnext, dif_neg h, hW]
      simp only [h0, Nat.add_assoc, Nat.reduceAdd]
  · rw [dif_pos (by show (512 * t.val + r.val) % 2048 < 2047; omega)]
    have e : (⟨17 + r.val, by omega⟩ : Fin 544) = ⟨16 + (⟨r.val + 1, by omega⟩ : Fin 512).val, by show 16 + (r.val + 1) < 544; omega⟩ :=
      Fin.ext (by show 17 + r.val = 16 + (r.val + 1); omega)
    rw [e, up_mid m c t W w ch l j hW]
    exact congrArg (upr _ _ w · j) (Fin.ext (by show 512 * t.val + (r.val + 1) = 512 * t.val + r.val + 1; omega))

/-- So a packed column of the convolution is the reference's column. -/
theorem conv_eq (cw : FVec Ideal S11x3x512 .f32) (cb : FVec Ideal S11x1x512 .f32) (x3 : FVec Ideal S1x3x5504 .f32)
    (x4 : FVec Ideal S1x5504 .f32) (hC : ∀ q, cw (ix3 ch q l) = x3 (ix3 0 q j)) (hB : cb (ix3 ch 0 l) = x4 (ix2 0 j)) (r : Fin 512) :
    conv (hrows m c t) W cw cb ch r l
      = convr (m ((c : Thread nD τ).loc main_arg0)) (m ((c : Thread nD τ).loc main_arg1)) w x3 x4
        ⟨512 * t.val + r.val, by have := t_lt t; omega⟩ j := by
  unfold conv convr
  rw [up_before m c t W w ch l j hW, up_mid m c t W w ch l j hW, up_following m c t W w ch l j hW, hC, hC, hC, hB]

end Columns

/-- A sum over eleven chunks of 256 columns, of which those from column 2752 on add 0. -/
theorem sum_packed (f : Fin 2752 → EReal) :
    ∑ ch : Fin 11, ∑ k : Fin 256, (if h : ch.val * 256 + k.val < 2752 then f ⟨ch.val * 256 + k.val, h⟩ else 0) = ∑ k, f k := by
  refine (Fin.sum_univ_tiles 11 256 rfl (fun k : Fin (2752 + 64) => if h : k.val < 2752 then f ⟨k.val, h⟩ else 0)).symm.trans ?_
  refine (Fin.sum_univ_add (a := 2752) (b := 64) fun k => if h : k.val < 2752 then f ⟨k.val, h⟩ else 0).trans ?_
  have z : ∀ k : Fin 64, (if h : (Fin.natAdd 2752 k).val < 2752 then f ⟨(Fin.natAdd 2752 k).val, h⟩ else (0 : EReal)) = 0 :=
    fun k => dif_neg (by show ¬ 2752 + k.val < 2752; omega)
  rw [Finset.sum_eq_zero fun k _ => z k, add_zero]
  exact Finset.sum_congr rfl fun k _ => dif_pos k.isLt

/-- The rows before the last norm are the reference's. -/
theorem rows_eq (c : Dev nD) (t : Fin cfg0.N) (r : Fin 512) (d : Fin 1024) :
    rows (iblk m c 1 t) (hrows m c t) (iblk m c 4 t) (iblk m c 5 t) (iblk m c 6 t) (iblk m c 7 t) (ix2 r d)
      = outr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          ⟨512 * t.val + r.val, by have := t_lt t; omega⟩ d := by
  unfold rows outr
  refine congrArg₂ (· + ·) (x_read m c t r d) ?_
  refine Eq.trans ?_ (sum_packed _)
  refine Finset.sum_congr rfl fun ch _ => Finset.sum_congr rfl fun k _ => ?_
  show gated (conv _ _ _ _ ch r _) (conv _ _ _ _ ch r _) * iblk m c 7 t (ix3 ch k d) = _
  rw [d_read, packD_row]
  by_cases h : ch.val * 256 + k.val < 2752
  · rw [dif_pos h, dif_pos h]
    refine congrArg₂ (· * ·) ?_ rfl
    unfold gated unit
    rw [conv_eq m c t _ (m ((c : Thread nD τ).loc main_arg2)) ch _ ⟨ch.val * 256 + k.val, by omega⟩
        (fun q => (w_read m c t ch q _).trans (packW_gate _ ch q k h)) _ _ (m ((c : Thread nD τ).loc main_arg3))
        (m ((c : Thread nD τ).loc main_arg4)) (fun q => (c_read m c t ch q _).trans (packC_gate _ ch q k h))
        ((b_read m c t ch _).trans (packB_gate _ ch k h)),
      conv_eq m c t _ (m ((c : Thread nD τ).loc main_arg2)) ch _ ⟨2752 + (ch.val * 256 + k.val), by omega⟩
        (fun q => (w_read m c t ch q _).trans (packW_val _ ch q k h)) _ _ (m ((c : Thread nD τ).loc main_arg3))
        (m ((c : Thread nD τ).loc main_arg4)) (fun q => (c_read m c t ch q _).trans (packC_val _ ch q k h))
        ((b_read m c t ch _).trans (packB_val _ ch k h)), zero_sub]
  · rw [dif_neg h, dif_neg h, mul_zero]

/-- The reference's result over the kernel's argument arrays. -/
abbrev want (c : Dev nD) : FVec Ideal S65536x1024 .f32 :=
  Cert.FfnRefIdeal.Read.val_main_v69 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The rows the body stores at a grid point are the reference's rows there. -/
theorem point (c : Dev nD) (t : Fin cfg0.N) (r : Fin 512) (d : Fin 1024) :
    k0_pay1 (rows (iblk m c 1 t) (hrows m c t) (iblk m c 4 t) (iblk m c 5 t) (iblk m c 6 t) (iblk m c 7 t)) (iblk m c 8 t) (ix2 r d)
      = want m c (ix2 ⟨512 * t.val + r.val, by have := t_lt t; omega⟩ d) := by
  rw [want, Cert.FfnRefIdeal.Rows.v69]
  unfold result
  simp only [← rows_eq]
  generalize rows _ _ _ _ _ _ = R
  rw [← f_read m c t]
  pointwise [k0_pay1]

/-- The kernel's result array after the run is the reference's. -/
theorem final (c : Dev nD) : (dats m 0 c).arrAt 9 (cfgs 0).N = want m c := by
  refine (dats m 0 c).arrAt_eq_of_covers 9 _ (by decide +kernel) fun t _ y => ?_
  blk_simp
  rw [after_eq]
  idx_vars y
  refine (point m c t _ _).trans ?_
  blk_ext [idx t]

/-- Both programs leave the same array. -/
theorem algebraic : Cert.algebraic_FfnIdeal_FfnRefIdeal := by
  pair_intro
  · run_from Cert.FfnIdeal.Gen.run_main m g
    exacts [V_main_arg1 m c, V_main_arg2 m c, V_main_arg3 m c, V_main_arg4 m c, V_main_arg5 m c, V_main_arg6 m c]
  · run_from Cert.FfnRefIdeal.Value.run m' g'
    obtain ⟨a0, a1, a2, a3, a4, a5, a6⟩ := hagree c
    rw [final m c, Cert.FfnRefIdeal.Read.val_main_v69_eq, a0, a1, a2, a3, a4, a5, a6]

/-- The reference ends with its arguments as they were. -/
theorem frameRef : Cert.quiescent_FfnRefIdeal :=
  fun m g _ => (θ_run Cert.FfnRefIdeal.defs _ _).mono
    (fun r h => ⟨fun c => (h c).2, Idealize.ShloMosaic.sem_eq_zero_of_no_sems (by decide) r.2⟩)
    (Cert.FfnRefIdeal.Value.run (F := Ideal) m g)

end Cert.FfnIdeal.RefValue

end
-- ==== Proof.InprojBody.lean ====
/-
The rows a grid point of the in-projection stores: column tiles of 512, the first seven plain products,
the others products shifted by learned amounts towards the row before and the row after.
-/
module

public import proofs.«01_k».proof.Defs
public import proofs.«01_k».proof.Proof.Gen.InprojIdeal.Frame
public import proofs.«01_k».proof.Proof.LibScratch
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.RefValue

open Cert.InprojIdeal Cert.InprojIdeal.Gen Cert.Scratch

variable (m : (ℓ : Loc nD τ sig) → Buf (Elt Ideal) ℓ)

/-- The scratch rows of a grid point. -/
def hrows (c : Dev nD) (t : Fin cfg0.N) : FVec Ideal S544x1024 .bf16 :=
  haloRows (k0_pay5 (F := Ideal) (grid0.coords t) (iblk m c 3 t) (iblk m c 0 t))
    (k0_pay8 (k0_pay4 (iblk m c 3 t)) (k0_pay6 (iblk m c 1 t)) (k0_pay7 (iblk m c 1 t)))
    (k0_pay9 (k0_pay3 (grid0.coords t)) (k0_pay4 (iblk m c 3 t)) (iblk m c 2 t))

section Tiles

variable (H : FVec Ideal S544x1024 .bf16) (W : FVec Ideal S11x1024x512 .bf16) (mp mn : FVec Ideal S11x1x512 .f32)

/-- A column of a tile's product at a scratch row. -/
def proj (k : Fin 11) (r : Fin 544) (l : Fin 512) : EReal := ∑ q : Fin 1024, H (ix2 r q) * W (ix3 k q l)

/-- The column moved towards the rows before and after. -/
def shift (k : Fin 11) (r : Fin 512) (l : Fin 512) : EReal :=
  proj H W k ⟨16 + r.val, by omega⟩ l
    + mp (ix3 k 0 l) * (proj H W k ⟨15 + r.val, by omega⟩ l - proj H W k ⟨16 + r.val, by omega⟩ l)
    + mn (ix3 k 0 l) * (proj H W k ⟨17 + r.val, by omega⟩ l - proj H W k ⟨16 + r.val, by omega⟩ l)

/-- A column of a tile of the first output. -/
def tile (k : Fin 11) (r : Fin 512) (l : Fin 512) : EReal :=
  if k.val < 7 then proj H W k ⟨16 + r.val, by omega⟩ l else shift H W mp mn k r l

theorem pay_plain (k : ℕ) (hk : k < 11) (h : 16 + 512 ≤ 544)
    (inb : ∀ a, (![k, 0, 0] : Fin 3 → ℕ) a + (![1, 1024, 512] : Fin 3 → ℕ) a ≤ S11x1024x512.size a) (r l : Fin 512) :
    k0_pay10 (F := Ideal) (someRows 16 h H) (View.ld (Val := Elt Ideal) (S := S11x1024x512) (e' := .bf16) W (Rect.unit ![k, 0, 0] ![1, 1024, 512] inb))
      (ix2 r l) = proj H W ⟨k, hk⟩ ⟨16 + r.val, by omega⟩ l := by
  unfold someRows proj
  pointwise [k0_pay10]

theorem pay_shift (k o : ℕ) (hk : k < 11) (h : o + 288 ≤ 544) (h0 : 15 + 256 ≤ 288) (h1 : 16 + 256 ≤ 288) (h2 : 17 + 256 ≤ 288)
    (inb inb' inb'' : ∀ a, (![k, 0, 0] : Fin 3 → ℕ) a + (![1, 1024, 512] : Fin 3 → ℕ) a ≤ S11x1024x512.size a)
    (inb0 inb1 : ∀ a, (![k, 0, 0] : Fin 3 → ℕ) a + (![1, 1, 512] : Fin 3 → ℕ) a ≤ S11x1x512.size a) (r : Fin 256) (l : Fin 512) :
    k0_pay2 (F := Ideal)
      (slotRows 16 h1 (k0_pay43 (F := Ideal) (someRows o h H) (View.ld (Val := Elt Ideal) (S := S11x1024x512) (e' := .bf16) W (Rect.unit ![k, 0, 0] ![1, 1024, 512] inb))))
      (slotRows 15 h0 (k0_pay43 (F := Ideal) (someRows o h H) (View.ld (Val := Elt Ideal) (S := S11x1024x512) (e' := .bf16) W (Rect.unit ![k, 0, 0] ![1, 1024, 512] inb'))))
      (slotRows 17 h2 (k0_pay43 (F := Ideal) (someRows o h H) (View.ld (Val := Elt Ideal) (S := S11x1024x512) (e' := .bf16) W (Rect.unit ![k, 0, 0] ![1, 1024, 512] inb''))))
      (View.ld (Val := Elt Ideal) (S := S11x1x512) (e' := .f32) mp (Rect.unit ![k, 0, 0] ![1, 1, 512] inb0))
      (View.ld (Val := Elt Ideal) (S := S11x1x512) (e' := .f32) mn (Rect.unit ![k, 0, 0] ![1, 1, 512] inb1))
      (ix2 r l) = shift H W mp mn ⟨k, hk⟩ ⟨o + r.val, by omega⟩ l := by
  unfold slotRows someRows shift proj
  pointwise [k0_pay2, k0_pay43]
  simp only [Nat.add_left_comm o]

theorem piece_plain (K : ℕ) (hK : K < 7) (h : 16 + 512 ≤ 544)
    (inb : ∀ a, (![K, 0, 0] : Fin 3 → ℕ) a + (![1, 1024, 512] : Fin 3 → ℕ) a ≤ S11x1024x512.size a) (x : S512x512.Idx)
    (k : Fin 11) (r l : Fin 512) (hr : r.val = (x 0).val) (hl : k.val * 512 + l.val = K * 512 + (x 1).val) :
    k0_pay10 (F := Ideal) (someRows 16 h H) (View.ld (Val := Elt Ideal) (S := S11x1024x512) (e' := .bf16) W (Rect.unit ![K, 0, 0] ![1, 1024, 512] inb))
      x = tile H W mp mn k r l := by
  have hx : (x 1).val < 512 := (x 1).isLt
  obtain rfl : K = k.val := by omega
  rw [show x = ix2 r l from Shape.idx_ext₂ hr.symm (by show (x 1).val = l.val; omega)]
  exact (pay_plain H W _ (by omega) h inb r l).trans (if_pos hK).symm

theorem piece_shift (K o : ℕ) (hK : K < 11) (hK' : 7 ≤ K) (h : o + 288 ≤ 544) (h0 : 15 + 256 ≤ 288) (h1 : 16 + 256 ≤ 288) (h2 : 17 + 256 ≤ 288)
    (inb : ∀ a, (![K, 0, 0] : Fin 3 → ℕ) a + (![1, 1024, 512] : Fin 3 → ℕ) a ≤ S11x1024x512.size a)
    (inb0 : ∀ a, (![K, 0, 0] : Fin 3 → ℕ) a + (![1, 1, 512] : Fin 3 → ℕ) a ≤ S11x1x512.size a) (x : S256x512.Idx)
    (k : Fin 11) (r l : Fin 512) (hr : r.val = o + (x 0).val) (hl : k.val * 512 + l.val = K * 512 + (x 1).val) :
    k0_pay2 (F := Ideal)
      (slotRows 16 h1 (k0_pay43 (F := Ideal) (someRows o h H) (View.ld (Val := Elt Ideal) (S := S11x1024x512) (e' := .bf16) W (Rect.unit ![K, 0, 0] ![1, 1024, 512] inb))))
      (slotRows 15 h0 (k0_pay43 (F := Ideal) (someRows o h H) (View.ld (Val := Elt Ideal) (S := S11x1024x512) (e' := .bf16) W (Rect.unit ![K, 0, 0] ![1, 1024, 512] inb))))
      (slotRows 17 h2 (k0_pay43 (F := Ideal) (someRows o h H) (View.ld (Val := Elt Ideal) (S := S11x1024x512) (e' := .bf16) W (Rect.unit ![K, 0, 0] ![1, 1024, 512] inb))))
      (View.ld (Val := Elt Ideal) (S := S11x1x512) (e' := .f32) mp (Rect.unit ![K, 0, 0] ![1, 1, 512] inb0))
      (View.ld (Val := Elt Ideal) (S := S11x1x512) (e' := .f32) mn (Rect.unit ![K, 0, 0] ![1, 1, 512] inb0))
      x = tile H W mp mn k r l := by
  have hx : (x 1).val < 512 := (x 1).isLt
  have hx0 : (x 0).val < 256 := (x 0).isLt
  obtain rfl : K = k.val := by omega
  rw [show x = ix2 ⟨(x 0).val, hx0⟩ l from Shape.idx_ext₂ rfl (by show (x 1).val = l.val; omega)]
  refine (pay_shift H W mp mn _ o hK h h0 h1 h2 inb inb inb inb0 inb0 _ l).trans ?_
  rw [show (⟨o + (x 0).val, by omega⟩ : Fin 512) = r from Fin.ext hr.symm]
  exact (if_neg (by omega)).symm

end Tiles

/-- The second output's rows. -/
theorem after_small (c : Dev nD) (t : Fin cfg0.N) (r l : Fin 512) : (dats m 0 c).after 8 t (ix2 r l)
    = tile (hrows m c t) (iblk m c 4 t) (iblk m c 5 t) (iblk m c 6 t) 10 r l := by
  rw [after0_8]
  unfold outsAt0
  frame_open
  simp only [↓ halo_read]
  simp (disch := decide) only [↓ View.readCov_skip, ↓ slot_read]
  frame_out
  rw [show haloRows _ _ _ = hrows m c t from rfl]
  simp only [show @k0_pay38 = @k0_pay43 from rfl,
    show ∀ a b d e f, k0_pay1 (F := Ideal) (k0_pay45 a b e) (k0_pay46 a d f) = k0_pay2 (F := Ideal) a b d e f from fun _ _ _ _ _ => rfl]
  canon_tiles x h
  all_goals
    have h0' : r.val = _ := h0
    have h1' : l.val = _ := h1
    exact piece_shift _ _ _ _ 10 _ (by decide) (by decide) _ _ _ _ _ _ x _ r l (by omega) (by rw [h1']; rfl)

theorem after_main (c : Dev nD) (t : Fin cfg0.N) (r : Fin 512) (k : Fin 11) (hk : k.val < 10) (l : Fin 512) :
    (dats m 0 c).after 7 t (ix2 r ⟨k.val * 512 + l.val, by omega⟩)
      = tile (hrows m c t) (iblk m c 4 t) (iblk m c 5 t) (iblk m c 6 t) k r l := by
  rw [after0_7]
  unfold outsAt0
  frame_open
  simp only [↓ halo_read]
  simp (disch := decide) only [↓ View.readCov_skip, ↓ slot_read]
  frame_out
  rw [show haloRows _ _ _ = hrows m c t from rfl]
  simp only [show @k0_pay11 = @k0_pay10 from rfl, show @k0_pay12 = @k0_pay10 from rfl, show @k0_pay13 = @k0_pay10 from rfl,
    show @k0_pay14 = @k0_pay10 from rfl, show @k0_pay15 = @k0_pay10 from rfl, show @k0_pay16 = @k0_pay10 from rfl,
    show @k0_pay17 = @k0_pay43 from rfl, show @k0_pay18 = @k0_pay43 from rfl, show @k0_pay20 = @k0_pay43 from rfl,
    show @k0_pay23 = @k0_pay43 from rfl, show @k0_pay27 = @k0_pay43 from rfl, show @k0_pay32 = @k0_pay43 from rfl,
    show ∀ a b d e f, k0_pay19 (F := Ideal) a b d e f = k0_pay2 (F := Ideal) a b d e f from fun _ _ _ _ _ => rfl,
    show ∀ a b d e f, k0_pay22 (F := Ideal) (k0_pay21 a) b d e f = k0_pay2 (F := Ideal) a b d e f from fun _ _ _ _ _ => rfl,
    show ∀ a b d e f, k0_pay26 (F := Ideal) (k0_pay24 a) (k0_pay25 b) d e f = k0_pay2 (F := Ideal) a b d e f from fun _ _ _ _ _ => rfl,
    show ∀ a b d e f, k0_pay31 (F := Ideal) (k0_pay28 a) (k0_pay29 b) (k0_pay30 d) e f = k0_pay2 (F := Ideal) a b d e f
      from fun _ _ _ _ _ => rfl,
    show ∀ a b d e f, k0_pay37 (F := Ideal) (k0_pay33 a) (k0_pay34 d) (k0_pay35 a b) (k0_pay36 e) f = k0_pay2 (F := Ideal) a b d e f
      from fun _ _ _ _ _ => rfl,
    show ∀ a b d e f, k0_pay42 (F := Ideal) (k0_pay39 a) (k0_pay40 d) (k0_pay41 a b e) f = k0_pay2 (F := Ideal) a b d e f
      from fun _ _ _ _ _ => rfl]
  canon_tiles x h using (View.cover_of_tiledBy _ ![256, 512] (by sl_kernel_rfl) _)
  all_goals
    have h0' : r.val = _ := h0
    have h1' : k.val * 512 + l.val = _ := h1
    first
      | exact piece_plain _ _ _ _ _ (by decide) _ _ x _ r l h0' (by show k.val * 512 + l.val = _; omega)
      | exact piece_shift _ _ _ _ _ _ (by decide) (by decide) _ _ _ _ _ _ x _ r l (by omega) (by show k.val * 512 + l.val = _; omega)

end Cert.InprojIdeal.RefValue

end
-- ==== Proof.InprojRef.lean ====
/-
The reference's in-projection, read row by row: the normalised row, its product with the weight, and the
columns of the second mixer moved towards the row before and the row after inside a sequence.
-/
module

public import proofs.«01_k».proof.Defs
public import proofs.«01_k».proof.Proof.Gen.InprojRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InprojRefIdeal.Rows

open Cert.InprojRefIdeal Cert.InprojRefIdeal.Read

variable (x0 : FVec Ideal S32x2048x1024 .f32) (x1 : FVec Ideal S1x1024 .f32) (x2 : FVec Ideal S1x1024x5408 .f32)
  (x3 x4 : FVec Ideal S1x1792 .f32)

/-- Row `s` of sequence `b`. -/
def row (b : Fin 32) (s : Fin 2048) : Fin 65536 := ⟨b.val * 2048 + s.val, by omega⟩

/-- An entry of the stream, its rows counted through all sequences. -/
def cell (r : Fin 65536) (q : Fin 1024) : EReal := x0 (ix3 ⟨r.val / 2048, by omega⟩ ⟨r.val % 2048, by omega⟩ q)

/-- A row of the stream over its root mean square, times the norm's weight. -/
def hn (r : Fin 65536) (q : Fin 1024) : EReal :=
  cell x0 r q * Ideal.rsqrt (Ideal.div (∑ k, cell x0 r k * cell x0 r k) (Ideal.ofBits .f32 0x44800000#32)
    + Ideal.ofBits .f32 0x358637BD#32) * x1 (ix2 0 q)

/-- A column of the row's product with the weight. -/
def pr (r : Fin 65536) (j : Fin 5408) : EReal := ∑ k : Fin 1024, hn x0 x1 r k * x2 (ix3 0 k j)

/-- The same column one row before, 0 at the first row of a sequence. -/
def before (r : Fin 65536) (j : Fin 5408) : EReal :=
  if h : 1 ≤ r.val % 2048 then pr x0 x1 x2 ⟨r.val - 1, by omega⟩ j else 0

/-- The same column one row after, 0 at the last row of a sequence. -/
def following (r : Fin 65536) (j : Fin 5408) : EReal :=
  if h : r.val % 2048 < 2047 then pr x0 x1 x2 ⟨r.val + 1, by omega⟩ j else 0

/-- The weight's column that gives a column of the second mixer. -/
def col (j : Fin 1792) : Fin 5408 := ⟨1568 + j.val, by omega⟩

/-- A column of the second mixer, moved towards the rows before and after. -/
def moved (r : Fin 65536) (j : Fin 1792) : EReal :=
  pr x0 x1 x2 r (col j)
    + x3 (ix2 0 j) * (before x0 x1 x2 r (col j) - pr x0 x1 x2 r (col j))
    + x4 (ix2 0 j) * (following x0 x1 x2 r (col j) - pr x0 x1 x2 r (col j))

/-- The first result: the merge's gates, the first mixer's columns, the second mixer's. -/
def mainr (r : Fin 65536) (j : Fin 5120) : EReal :=
  if h : j.val < 2048 then pr x0 x1 x2 r ⟨3360 + j.val, by omega⟩
  else if h' : j.val < 3584 then pr x0 x1 x2 r ⟨j.val - 2048, by omega⟩
  else moved x0 x1 x2 x3 x4 r ⟨j.val - 3584, by omega⟩

/-- The second result: the low-rank inputs of the two mixers' gates, then 0. -/
def smallr (r : Fin 65536) (j : Fin 512) : EReal :=
  if h : j.val < 256 then moved x0 x1 x2 x3 x4 r ⟨1536 + j.val, by omega⟩
  else if h' : j.val < 288 then pr x0 x1 x2 r ⟨1536 + (j.val - 256), by omega⟩
  else 0

theorem cell_row (b : Fin 32) (s : Fin 2048) (q : Fin 1024) : cell x0 (row b s) q = x0 (ix3 b s q) := by
  unfold cell row
  rw [show (⟨(b.val * 2048 + s.val) / 2048, by omega⟩ : Fin 32) = b from Fin.ext (by show (b.val * 2048 + s.val) / 2048 = _; omega),
    show (⟨(b.val * 2048 + s.val) % 2048, by omega⟩ : Fin 2048) = s from Fin.ext (by show (b.val * 2048 + s.val) % 2048 = _; omega)]

theorem v13 (b : Fin 32) (s : Fin 2048) (q : Fin 1024) : val_main_v13 (F := Ideal) x0 x1 (ix3 b s q) = hn x0 x1 (row b s) q := by
  unfold hn
  simp only [cell_row]
  pointwise [val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]

theorem v15 (b : Fin 32) (s : Fin 2048) (j : Fin 5408) :
    val_main_v15 (F := Ideal) x0 x1 x2 (ix3 b s j) = pr x0 x1 x2 (row b s) j := by
  pointwise [val_main_v15, val_main_v14, pr, v13]

theorem v17 (b : Fin 32) (s : Fin 2048) (j : Fin 1792) :
    val_main_v17 (F := Ideal) x0 x1 x2 (ix3 b s j) = pr x0 x1 x2 (row b s) (col j) := by
  pointwise [val_main_v17, v15, col]

theorem v34 (b : Fin 32) (s : Fin 2048) (j : Fin 1792) :
    val_main_v34 (F := Ideal) x0 x1 x2 x3 x4 (ix3 b s j) = moved x0 x1 x2 x3 x4 (row b s) j := by
  have z : (FloatOps.sitofp (F := Ideal) FTy.f32 0#32 : EReal) = 0 := by
    show ((((0#32).toInt : ℝ)) : EReal) = 0
    simp
  pointwise [val_main_v34, val_main_v33, val_main_v32, val_main_v31, val_main_v30, val_main_v29, val_main_v28, val_main_v27, val_main_v26,
    val_main_v25, val_main_v24, val_main_v23, val_main_v22, val_main_v21, val_main_v20, val_main_v19,
    val_main_call0_v0, val_main_call1_v0, val_main_c, val_main_c_2, v17, z, moved]
  have hm : (row b s).val % 2048 = s.val := by show (b.val * 2048 + s.val) % 2048 = _; omega
  have e1 : ∀ j, (if h : 1 ≤ s.val ∧ s.val - 1 < 2047 then pr x0 x1 x2 (row b ⟨s.val - 1, by omega⟩) j else 0)
      = before x0 x1 x2 (row b s) j := by
    intro j
    unfold before
    by_cases h : 1 ≤ s.val
    · rw [dif_pos (by omega), dif_pos (by omega)]
      exact congrArg (pr x0 x1 x2 · j) (Fin.ext (by show b.val * 2048 + (s.val - 1) = b.val * 2048 + s.val - 1; omega))
    · rw [dif_neg (by omega), dif_neg (by omega)]
  have e2 : ∀ j, (if h : s.val < 2047 then pr x0 x1 x2 (row b ⟨1 + s.val, by omega⟩) j else 0)
      = following x0 x1 x2 (row b s) j := by
    intro j
    unfold following
    by_cases h : s.val < 2047
    · rw [dif_pos (by omega), dif_pos (by omega)]
      exact congrArg (pr x0 x1 x2 · j) (Fin.ext (by show b.val * 2048 + (1 + s.val) = b.val * 2048 + s.val + 1; omega))
    · rw [dif_neg (by omega), dif_neg (by omega)]
  rw [e1, e2]

/-- The reference's results, read at an index. -/
theorem v43 (r : Fin 65536) (j : Fin 5120) :
    val_main_v43 (F := Ideal) x0 x1 x2 x3 x4 (ix2 r j) = mainr x0 x1 x2 x3 x4 r j := by
  have hr : row ⟨r.val / 2048, by omega⟩ ⟨r.val % 2048, by omega⟩ = r := Fin.ext (by show r.val / 2048 * 2048 + r.val % 2048 = _; omega)
  pointwise [val_main_v43, val_main_v42, val_main_v37, val_main_v36, val_main_v35, val_main_v18, val_main_v16, v15, v34, hr, mainr]
  by_cases h : j.val < 2048
  · simp only [dif_pos h]
  · by_cases h' : j.val < 3584
    · simp only [dif_neg h, dif_pos h', dif_pos (show j.val - 2048 < 1536 by omega)]
    · simp only [dif_neg h, dif_neg h', dif_neg (show ¬ j.val - 2048 < 1536 by omega)]
      exact congrArg (moved x0 x1 x2 x3 x4 r) (Fin.ext (by show j.val - 2048 - 1536 = j.val - 3584; omega))

theorem v44 (r : Fin 65536) (j : Fin 512) :
    val_main_v44 (F := Ideal) x0 x1 x2 x3 x4 (ix2 r j) = smallr x0 x1 x2 x3 x4 r j := by
  have hr : row ⟨r.val / 2048, by omega⟩ ⟨r.val % 2048, by omega⟩ = r := Fin.ext (by show r.val / 2048 * 2048 + r.val % 2048 = _; omega)
  pointwise [val_main_v44, val_main_v41, val_main_v40, val_main_v39, val_main_v38, val_main_v16, val_main_cst_3, v15, v34, hr, smallr]
  by_cases h : j.val < 256
  · simp only [dif_pos h]
  · by_cases h' : j.val < 288
    · simp only [dif_neg h, dif_pos h', dif_pos (show j.val - 256 < 32 by omega)]
    · simp only [dif_neg h, dif_neg h', dif_neg (show ¬ j.val - 256 < 32 by omega)]

end Cert.InprojRefIdeal.Rows

end
-- ==== Proof.InprojWin.lean ====
/-
What the windows of the in-projection kernel hold, in terms of the arguments: the normalised rows of a
block with the row before and the row after, and the packed weight and shift amounts.
-/
module

public import proofs.«01_k».proof.Proof.InprojBody
public import proofs.«01_k».proof.Proof.InprojRef

@[expose] public section

set_option maxRecDepth 16384

noncomputable section

open Idealize.ShloMosaic Idealize.ShloMosaic.TcCoe Idealize.SL.Sem
open Idealize.ShloMosaic.Pipeline (Dat)

namespace Cert.InprojIdeal.RefValue

open Cert.InprojIdeal Cert.InprojIdeal.Gen Cert.Scratch
open Cert.InprojRefIdeal.Rows (cell hn pr before following moved mainr smallr col)

variable (m : (ℓ : Loc nD τ sig) → Buf (Elt Ideal) ℓ)

/-- Which block of its array each window stages at a grid point. -/
theorem idx : ∀ t : Fin cfg0.N, win0_0.index t = ![32 * t.val - 1, 0] ∧ win0_1.index t = ![t.val, 0]
    ∧ win0_2.index t = ![min (32 * t.val + 32) 4095, 0] ∧ win0_3.index t = ![0, 0] ∧ win0_4.index t = ![0, 0, 0]
    ∧ win0_5.index t = ![0, 0, 0] ∧ win0_6.index t = ![0, 0, 0] ∧ win0_7.index t = ![t.val, 0] ∧ win0_8.index t = ![t.val, 0] :=
  (by decide +kernel : ∀ t : Fin grid0.N, _)

/-- The rows before the block belong to another sequence exactly at the first block of a sequence. -/
theorem first : ∀ t : Fin cfg0.N, Scalar.cmpi .eq (Scalar.remsi (BitVec.ofNat 32 (grid0.coords t 0).val) 4#32) 0#32
    = if t.val % 4 = 0 then 1#1 else 0#1 :=
  (by decide +kernel : ∀ t : Fin grid0.N, _)

/-- The rows after the block belong to another sequence exactly at the last block of a sequence. -/
theorem last : ∀ t : Fin cfg0.N, Scalar.cmpi .eq (Scalar.remsi (BitVec.ofNat 32 (grid0.coords t 0).val) 4#32) 3#32
    = if t.val % 4 = 3 then 1#1 else 0#1 :=
  (by decide +kernel : ∀ t : Fin grid0.N, _)

/-- There are 128 blocks. -/
theorem t_lt (t : Fin cfg0.N) : t.val < 128 := t.isLt

/-- The packed weight: the merge's gate columns, the first mixer's, the second mixer's, the first mixer's low-rank
gate columns, then 0, in tiles of 512 columns. -/
def packW (x : FVec Ideal S1x1024x5408 .f32) : FVec Ideal S11x1024x512 .bf16 :=
  transpose S11x1024x512 [1, 0, 2] (shapeCast S1024x11x512 (truncf .bf16 (concatenate S1024x5632 1
    [⟨S1024x2048, extractStridedSlice S1024x2048 ![0, 3360] (shapeCast S1024x5408 x shapeCasts_S1x1024x5408_S1024x5408) slices_S1024x5408_S1024x2048_0_3360⟩,
     ⟨S1024x1536, extractStridedSlice S1024x1536 ![0, 0] (shapeCast S1024x5408 x shapeCasts_S1x1024x5408_S1024x5408) slices_S1024x5408_S1024x1536_0_0⟩,
     ⟨S1024x1792, extractStridedSlice S1024x1792 ![0, 1568] (shapeCast S1024x5408 x shapeCasts_S1x1024x5408_S1024x5408) slices_S1024x5408_S1024x1792_0_1568⟩,
     ⟨S1024x32, extractStridedSlice S1024x32 ![0, 1536] (shapeCast S1024x5408 x shapeCasts_S1x1024x5408_S1024x5408) slices_S1024x5408_S1024x32_0_1536⟩,
     ⟨S1024x224, broadcastInDim S1024x224 ![] bcast_S_S1024x224 (constant (F := Ideal) S_ .f32 0x00000000#32)⟩]
    concatenates_S1024x2048_S1024x1536_S1024x1792_S1024x32_S1024x224_S1024x5632_d1) bitsLt_bf16_f32)
    shapeCasts_S1024x5632_S1024x11x512) transposes_S1024x11x512_S11x1024x512_1_0_2

/-- The packed shift amounts: 0 but for the second mixer's columns. -/
def packMu (x : FVec Ideal S1x1792 .f32) : FVec Ideal S11x1x512 .f32 :=
  transpose S11x1x512 [1, 0, 2] (shapeCast S1x11x512 (broadcastInDim S1x5632 ![1] bcast_S5632_S1x5632_1 (concatenate S5632 0
    [⟨S3584, broadcastInDim S3584 ![] bcast_S_S3584 (constant (F := Ideal) S_ .f32 0x00000000#32)⟩,
     ⟨S1792, shapeCast S1792 x shapeCasts_S1x1792_S1792⟩,
     ⟨S256, broadcastInDim S256 ![] bcast_S_S256 (constant (F := Ideal) S_ .f32 0x00000000#32)⟩]
    concatenates_S3584_S1792_S256_S5632_d0)) shapeCasts_S1x5632_S1x11x512) transposes_S1x11x512_S11x1x512_1_0_2

theorem V_w (c : Dev nD) : V m c main_v22 = packW (m ((c : Thread nD τ).loc main_arg2)) := by
  rfl

theorem V_mp (c : Dev nD) : V m c main_v24 = packMu (m ((c : Thread nD τ).loc main_arg3)) := by
  rfl

theorem V_mn (c : Dev nD) : V m c main_v26 = packMu (m ((c : Thread nD τ).loc main_arg4)) := by
  rfl

theorem V_g (c : Dev nD) : V m c main_v10 = shapeCast S1x1024 (shapeCast S1024 (m ((c : Thread nD τ).loc main_arg1) : FVec Ideal S1x1024 .f32)
    shapeCasts_S1x1024_S1024) shapeCasts_S1024_S1x1024 := by
  unfold V hostOps0
  entry_read
  rfl

theorem V_x (c : Dev nD) : V m c main_v0 = shapeCast S65536x1024 (m ((c : Thread nD τ).loc main_arg0) : FVec Ideal S32x2048x1024 .f32)
    shapeCasts_S32x2048x1024_S65536x1024 := by
  unfold V hostOps0
  entry_read
  rfl

/-- A column of the packed weight. -/
theorem packW_col (x : FVec Ideal S1x1024x5408 .f32) (k : Fin 11) (q : Fin 1024) (l : Fin 512) :
    packW x (ix3 k q l) = if h : k.val * 512 + l.val < 2048 then x (ix3 0 q ⟨3360 + (k.val * 512 + l.val), by omega⟩)
      else if h : k.val * 512 + l.val < 3584 then x (ix3 0 q ⟨k.val * 512 + l.val - 2048, by omega⟩)
      else if h : k.val * 512 + l.val < 5376 then x (ix3 0 q ⟨1568 + (k.val * 512 + l.val - 3584), by omega⟩)
      else if h : k.val * 512 + l.val < 5408 then x (ix3 0 q ⟨1536 + (k.val * 512 + l.val - 5376), by omega⟩)
      else 0 := by
  pointwise [packW]
  by_cases h0 : k.val * 512 + l.val < 2048
  · simp only [dif_pos h0]
  by_cases h1 : k.val * 512 + l.val < 3584
  · simp only [dif_neg h0, dif_pos h1, dif_pos (show k.val * 512 + l.val - 2048 < 1536 by omega)]
  by_cases h2 : k.val * 512 + l.val < 5376
  · simp only [dif_neg h0, dif_neg h1, dif_pos h2, dif_neg (show ¬ k.val * 512 + l.val - 2048 < 1536 by omega),
      dif_pos (show k.val * 512 + l.val - 2048 - 1536 < 1792 by omega)]
    exact congrArg (fun j => x (ix3 0 q j)) (Fin.ext (by show 1568 + (k.val * 512 + l.val - 2048 - 1536) = 1568 + (k.val * 512 + l.val - 3584); omega))
  by_cases h3 : k.val * 512 + l.val < 5408
  · simp only [dif_neg h0, dif_neg h1, dif_neg h2, dif_pos h3, dif_neg (show ¬ k.val * 512 + l.val - 2048 < 1536 by omega),
      dif_neg (show ¬ k.val * 512 + l.val - 2048 - 1536 < 1792 by omega), dif_pos (show k.val * 512 + l.val - 2048 - 1536 - 1792 < 32 by omega)]
    exact congrArg (fun j => x (ix3 0 q j)) (Fin.ext (by show 1536 + (k.val * 512 + l.val - 2048 - 1536 - 1792) = 1536 + (k.val * 512 + l.val - 5376); omega))
  · simp only [dif_neg h0, dif_neg h1, dif_neg h2, dif_neg h3, dif_neg (show ¬ k.val * 512 + l.val - 2048 < 1536 by omega),
      dif_neg (show ¬ k.val * 512 + l.val - 2048 - 1536 < 1792 by omega), dif_neg (show ¬ k.val * 512 + l.val - 2048 - 1536 - 1792 < 32 by omega)]

section Packed

variable (x : FVec Ideal S1x1024x5408 .f32) (k : Fin 11) (q : Fin 1024) (l : Fin 512)

/-- The merge's gate columns, -/
theorem packW_gate (h : k.val * 512 + l.val < 2048) :
    packW x (ix3 k q l) = x (ix3 0 q ⟨3360 + (k.val * 512 + l.val), by omega⟩) :=
  (packW_col x k q l).trans (dif_pos h)

/-- the first mixer's, -/
theorem packW_first (n : ¬ k.val * 512 + l.val < 2048) (h : k.val * 512 + l.val < 3584) :
    packW x (ix3 k q l) = x (ix3 0 q ⟨k.val * 512 + l.val - 2048, by omega⟩) :=
  (packW_col x k q l).trans ((dif_neg n).trans (dif_pos h))

/-- the second mixer's, -/
theorem packW_second (n : ¬ k.val * 512 + l.val < 3584) (h : k.val * 512 + l.val < 5376) :
    packW x (ix3 k q l) = x (ix3 0 q (col ⟨k.val * 512 + l.val - 3584, by omega⟩)) :=
  (packW_col x k q l).trans ((dif_neg (by omega)).trans ((dif_neg n).trans (dif_pos h)))

/-- the first mixer's low-rank gate columns, -/
theorem packW_rank (n : ¬ k.val * 512 + l.val < 5376) (h : k.val * 512 + l.val < 5408) :
    packW x (ix3 k q l) = x (ix3 0 q ⟨1536 + (k.val * 512 + l.val - 5376), by omega⟩) :=
  (packW_col x k q l).trans ((dif_neg (by omega)).trans ((dif_neg (by omega)).trans ((dif_neg n).trans (dif_pos h))))

/-- and the columns of 0. -/
theorem packW_pad (n : ¬ k.val * 512 + l.val < 5408) : packW x (ix3 k q l) = 0 :=
  (packW_col x k q l).trans ((dif_neg (by omega)).trans ((dif_neg (by omega)).trans ((dif_neg (by omega)).trans (dif_neg n))))

end Packed

/-- A packed shift amount. -/
theorem packMu_col (x : FVec Ideal S1x1792 .f32) (k : Fin 11) (l : Fin 512) :
    packMu x (ix3 k 0 l) = if h : 3584 ≤ k.val * 512 + l.val ∧ k.val * 512 + l.val < 5376
      then x (ix2 0 ⟨k.val * 512 + l.val - 3584, by omega⟩) else 0 := by
  pointwise [packMu]
  by_cases h0 : k.val * 512 + l.val < 3584
  · rw [dif_pos h0, dif_neg (by omega)]
  by_cases h1 : k.val * 512 + l.val < 5376
  · rw [dif_neg h0, dif_pos (by omega), dif_pos (by omega)]
  · rw [dif_neg h0, dif_neg (by omega), dif_neg (by omega)]

/-- The second mixer's shift amounts, and no shift elsewhere. -/
theorem packMu_second (x : FVec Ideal S1x1792 .f32) (k : Fin 11) (l : Fin 512) (n : ¬ k.val * 512 + l.val < 3584)
    (h : k.val * 512 + l.val < 5376) : packMu x (ix3 k 0 l) = x (ix2 0 ⟨k.val * 512 + l.val - 3584, by omega⟩) :=
  (packMu_col x k l).trans (dif_pos ⟨Nat.le_of_not_lt n, h⟩)

theorem packMu_pad (x : FVec Ideal S1x1792 .f32) (k : Fin 11) (l : Fin 512) (n : ¬ k.val * 512 + l.val < 5376) :
    packMu x (ix3 k 0 l) = 0 :=
  (packMu_col x k l).trans (dif_neg fun h => n h.2)

/-- The norm's weight, as the kernel's window holds it. -/
theorem g_read (c : Dev nD) (t : Fin cfg0.N) (q : Fin 1024) :
    iblk m c 3 t (ix2 0 q) = m ((c : Thread nD τ).loc main_arg1) (ix2 0 q) := by
  have e : ∀ A : S1x1024.Idx → EReal, A ((win0_3.blk t).view.emb (ix2 0 q)) = A (ix2 0 q) := fun A => by blk_ext [idx t]
  blk_simp [iblk]
  rw [V_g]
  refine (e _).trans ?_
  pointwise []

/-- The packed weight's window holds it whole, -/
theorem w_read (c : Dev nD) (t : Fin cfg0.N) (i : Fin 11) (q : Fin 1024) (l : Fin 512) :
    iblk m c 4 t (ix3 i q l) = packW (m ((c : Thread nD τ).loc main_arg2)) (ix3 i q l) := by
  have e : ∀ A : S11x1024x512.Idx → EReal, A ((win0_4.blk t).view.emb (ix3 i q l)) = A (ix3 i q l) := fun A => by blk_ext [idx t]
  blk_simp [iblk]
  rw [V_w]
  exact e _

/-- and so do the windows of the shift amounts. -/
theorem mp_read (c : Dev nD) (t : Fin cfg0.N) (i : Fin 11) (l : Fin 512) :
    iblk m c 5 t (ix3 i 0 l) = packMu (m ((c : Thread nD τ).loc main_arg3)) (ix3 i 0 l) := by
  have e : ∀ A : S11x1x512.Idx → EReal, A ((win0_5.blk t).view.emb (ix3 i 0 l)) = A (ix3 i 0 l) := fun A => by blk_ext [idx t]
  blk_simp [iblk]
  rw [V_mp]
  exact e _

theorem mn_read (c : Dev nD) (t : Fin cfg0.N) (i : Fin 11) (l : Fin 512) :
    iblk m c 6 t (ix3 i 0 l) = packMu (m ((c : Thread nD τ).loc main_arg4)) (ix3 i 0 l) := by
  have e : ∀ A : S11x1x512.Idx → EReal, A ((win0_6.blk t).view.emb (ix3 i 0 l)) = A (ix3 i 0 l) := fun A => by blk_ext [idx t]
  blk_simp [iblk]
  rw [V_mn]
  exact e _

/-- The stream with its sequences laid end to end, read at a row. -/
theorem flat_read (x : FVec Ideal S32x2048x1024 .f32) (r : Fin 65536) (q : Fin 1024) :
    shapeCast S65536x1024 x shapeCasts_S32x2048x1024_S65536x1024 (ix2 r q) = cell x r q := by
  unfold cell
  pointwise []

/-- The last row of the block of rows before, the first of the rows after, and the block's own rows. -/
theorem p_read (c : Dev nD) (t : Fin cfg0.N) (h : ¬ t.val % 4 = 0) (q : Fin 1024) :
    iblk m c 0 t (ix2 15 q) = cell (m ((c : Thread nD τ).loc main_arg0)) ⟨512 * t.val - 1, by have := t_lt t; omega⟩ q := by
  have ht := t_lt t
  have e : ∀ A : S65536x1024.Idx → EReal, A ((win0_0.blk t).view.emb (ix2 15 q)) = A (ix2 ⟨512 * t.val - 1, by omega⟩ q) :=
    fun A => by blk_ext [idx t]
  blk_simp [iblk]
  rw [V_x]
  exact (e _).trans (flat_read _ _ q)

theorem n_read (c : Dev nD) (t : Fin cfg0.N) (h : ¬ t.val % 4 = 3) (q : Fin 1024) :
    iblk m c 2 t (ix2 0 q) = cell (m ((c : Thread nD τ).loc main_arg0)) ⟨512 * t.val + 512, by have := t_lt t; omega⟩ q := by
  have ht := t_lt t
  have e : ∀ A : S65536x1024.Idx → EReal, A ((win0_2.blk t).view.emb (ix2 0 q)) = A (ix2 ⟨512 * t.val + 512, by omega⟩ q) :=
    fun A => by blk_ext [idx t]
  blk_simp [iblk]
  rw [V_x]
  exact (e _).trans (flat_read _ _ q)

theorem x_read (c : Dev nD) (t : Fin cfg0.N) (r : Fin 512) (q : Fin 1024) :
    iblk m c 1 t (ix2 r q) = cell (m ((c : Thread nD τ).loc main_arg0)) ⟨512 * t.val + r.val, by have := t_lt t; omega⟩ q := by
  have ht := t_lt t
  have e : ∀ A : S65536x1024.Idx → EReal, A ((win0_1.blk t).view.emb (ix2 r q)) = A (ix2 ⟨512 * t.val + r.val, by omega⟩ q) :=
    fun A => by blk_ext [idx t]
  blk_simp [iblk]
  rw [V_x]
  exact (e _).trans (flat_read _ _ q)

/-- The block's own rows. -/
theorem hmid (c : Dev nD) (t : Fin cfg0.N) (r : Fin 512) (q : Fin 1024) :
    hrows m c t (ix2 ⟨16 + r.val, by omega⟩ q) = hn (m ((c : Thread nD τ).loc main_arg0)) (m ((c : Thread nD τ).loc main_arg1))
      ⟨512 * t.val + r.val, by have := t_lt t; omega⟩ q := by
  unfold hrows haloRows
  pointwise [k0_pay8, k0_pay4, k0_pay6, k0_pay7, hn]
  rw [dif_pos (by omega)]
  simp only [x_read, g_read]

theorem hprev (c : Dev nD) (t : Fin cfg0.N) (q : Fin 1024) :
    hrows m c t (ix2 15 q) = if h : t.val % 4 = 0 then 0 else
      hn (m ((c : Thread nD τ).loc main_arg0)) (m ((c : Thread nD τ).loc main_arg1)) ⟨512 * t.val - 1, by have := t_lt t; omega⟩ q := by
  unfold hrows haloRows
  pointwise [k0_pay5, k0_pay4, first t]
  by_cases h : t.val % 4 = 0
  · simp [h, Scalar.select]
  · simp only [if_neg h, dif_neg h, Scalar.select]
    simp only [if_neg (show ¬ (0#1 = 1) by decide), p_read m c t h, g_read]
    rfl

theorem hnext (c : Dev nD) (t : Fin cfg0.N) (q : Fin 1024) :
    hrows m c t (ix2 528 q) = if h : t.val % 4 = 3 then 0 else
      hn (m ((c : Thread nD τ).loc main_arg0)) (m ((c : Thread nD τ).loc main_arg1))
        ⟨512 * t.val + 512, by have := t_lt t; omega⟩ q := by
  unfold hrows haloRows
  pointwise [k0_pay9, k0_pay3, k0_pay4, last t]
  by_cases h : t.val % 4 = 3
  · simp [h, Scalar.select]
  · simp only [if_neg h, dif_neg h, Scalar.select]
    simp only [if_neg (show ¬ (0#1 = 1) by decide), n_read m c t h, g_read]
    rfl

end Cert.InprojIdeal.RefValue

end
-- ==== Proof.InprojValue.lean ====
/-
The in-projection kernel computes the reference's two packed results.
-/
module

public import proofs.«01_k».proof.Proof.InprojWin
public import proofs.«01_k».proof.Proof.Gen.InprojIdeal.Value

@[expose] public section

set_option maxRecDepth 16384

noncomputable section

open Idealize.ShloMosaic Idealize.ShloMosaic.TcCoe Idealize.SL.Sem
open Idealize.ShloMosaic.Pipeline (Dat)

namespace Cert.InprojIdeal.RefValue

open Cert.InprojIdeal Cert.InprojIdeal.Gen Cert.Scratch
open Cert.InprojRefIdeal.Rows (cell hn pr before following moved mainr smallr col)

variable (m : (ℓ : Loc nD τ sig) → Buf (Elt Ideal) ℓ)

section Columns

variable (c : Dev nD) (t : Fin cfg0.N) (W : FVec Ideal S11x1024x512 .bf16) (w : FVec Ideal S1x1024x5408 .f32)
  (k : Fin 11) (l : Fin 512) (j : Fin 5408) (hW : ∀ q, W (ix3 k q l) = w (ix3 0 q j))

include hW

/-- A packed column of the product is the weight's column it packs, at the block's own rows, -/
theorem proj_mid (r : Fin 512) : proj (hrows m c t) W k ⟨16 + r.val, by omega⟩ l
    = pr (m ((c : Thread nD τ).loc main_arg0)) (m ((c : Thread nD τ).loc main_arg1)) w
      ⟨512 * t.val + r.val, by have := t_lt t; omega⟩ j := by
  unfold proj pr
  simp only [hmid, hW]

/-- at the rows before them, -/
theorem proj_before (r : Fin 512) : proj (hrows m c t) W k ⟨15 + r.val, by omega⟩ l
    = before (m ((c : Thread nD τ).loc main_arg0)) (m ((c : Thread nD τ).loc main_arg1)) w
      ⟨512 * t.val + r.val, by have := t_lt t; omega⟩ j := by
  have ht := t_lt t
  unfold before
  by_cases h0 : r.val = 0
  · have e : (⟨15 + r.val, by omega⟩ : Fin 544) = 15 := Fin.ext (by show 15 + r.val = 15; omega)
    rw [e]
    by_cases h : t.val % 4 = 0
    · rw [dif_neg (by show ¬ 1 ≤ (512 * t.val + r.val) % 2048; omega)]
      unfold proj
      simp only [hprev, dif_pos h, zero_mul, Finset.sum_const_zero]
    · rw [dif_pos (by show 1 ≤ (512 * t.val + r.val) % 2048; omega)]
      unfold proj pr
      simp only [hprev, dif_neg h, hW]
      simp only [h0, Nat.add_zero]
  · rw [dif_pos (by show 1 ≤ (512 * t.val + r.val) % 2048; omega)]
    have e : (⟨15 + r.val, by omega⟩ : Fin 544) = ⟨16 + (⟨r.val - 1, by omega⟩ : Fin 512).val, by show 16 + (r.val - 1) < 544; omega⟩ :=
      Fin.ext (by show 15 + r.val = 16 + (r.val - 1); omega)
    rw [e, proj_mid m c t W w k l j hW]
    exact congrArg (pr _ _ w · j) (Fin.ext (by show 512 * t.val + (r.val - 1) = 512 * t.val + r.val - 1; omega))

/-- and at the rows after them. -/
theorem proj_following (r : Fin 512) : proj (hrows m c t) W k ⟨17 + r.val, by omega⟩ l
    = following (m ((c : Thread nD τ).loc main_arg0)) (m ((c : Thread nD τ).loc main_arg1)) w
      ⟨512 * t.val + r.val, by have := t_lt t; omega⟩ j := by
  have ht := t_lt t
  unfold following
  by_cases h0 : r.val = 511
  · have e : (⟨17 + r.val, by omega⟩ : Fin 544) = 528 := Fin.ext (by show 17 + r.val = 528; omega)
    rw [e]
    by_cases h : t.val % 4 = 3
    · rw [dif_neg (by show ¬ (512 * t.val + r.val) % 2048 < 2047; omega)]
      unfold proj
      simp only [hnext, dif_pos h, zero_mul, Finset.sum_const_zero]
    · rw [dif_pos (by show (512 * t.val + r.val) % 2048 < 2047; omega)]
      unfold proj pr
      simp only [hnext, dif_neg h, hW]
      simp only [h0, Nat.add_assoc, Nat.reduceAdd]
  · rw [dif_pos (by show (512 * t.val + r.val) % 2048 < 2047; omega)]
    have e : (⟨17 + r.val, by omega⟩ : Fin 544) = ⟨16 + (⟨r.val + 1, by omega⟩ : Fin 512).val, by show 16 + (r.val + 1) < 544; omega⟩ :=
      Fin.ext (by show 17 + r.val = 16 + (r.val + 1); omega)
    rw [e, proj_mid m c t W w k l j hW]
    exact congrArg (pr _ _ w · j) (Fin.ext (by show 512 * t.val + (r.val + 1) = 512 * t.val + r.val + 1; omega))

/-- A column that is shifted by nothing is the product's. -/
theorem shift_zero (mp mn : FVec Ideal S11x1x512 .f32) (hp : mp (ix3 k 0 l) = 0) (hn : mn (ix3 k 0 l) = 0) (r : Fin 512) :
    shift (hrows m c t) W mp mn k r l
      = pr (m ((c : Thread nD τ).loc main_arg0)) (m ((c : Thread nD τ).loc main_arg1)) w
        ⟨512 * t.val + r.val, by have := t_lt t; omega⟩ j := by
  unfold shift
  rw [hp, hn, zero_mul, zero_mul, add_zero, add_zero, proj_mid m c t W w k l j hW]

end Columns

/-- A packed column of the second mixer is the reference's. -/
theorem shift_moved (c : Dev nD) (t : Fin cfg0.N) (W : FVec Ideal S11x1024x512 .bf16) (w : FVec Ideal S1x1024x5408 .f32)
    (k : Fin 11) (l : Fin 512) (j : Fin 1792) (hW : ∀ q, W (ix3 k q l) = w (ix3 0 q (col j)))
    (mp mn : FVec Ideal S11x1x512 .f32) (x3 x4 : FVec Ideal S1x1792 .f32) (hp : mp (ix3 k 0 l) = x3 (ix2 0 j))
    (hn : mn (ix3 k 0 l) = x4 (ix2 0 j)) (r : Fin 512) :
    shift (hrows m c t) W mp mn k r l
      = moved (m ((c : Thread nD τ).loc main_arg0)) (m ((c : Thread nD τ).loc main_arg1)) w x3 x4
        ⟨512 * t.val + r.val, by have := t_lt t; omega⟩ j := by
  unfold shift moved
  rw [hp, hn, proj_before m c t W w k l _ hW, proj_mid m c t W w k l _ hW, proj_following m c t W w k l _ hW]

/-- A column of a packed weight that is 0 gives 0. -/
theorem shift_pad (H : FVec Ideal S544x1024 .bf16) (W : FVec Ideal S11x1024x512 .bf16) (mp mn : FVec Ideal S11x1x512 .f32)
    (k : Fin 11) (l : Fin 512) (hW : ∀ q, W (ix3 k q l) = 0) (r : Fin 512) : shift H W mp mn k r l = 0 := by
  unfold shift proj
  simp only [hW, mul_zero, Finset.sum_const_zero, sub_zero, add_zero]

/-- The reference's results over the kernel's argument arrays. -/
abbrev wantMain (c : Dev nD) : FVec Ideal S65536x5120 .bf16 :=
  Cert.InprojRefIdeal.Read.val_main_v43 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

abbrev wantSmall (c : Dev nD) : FVec Ideal S65536x512 .f32 :=
  Cert.InprojRefIdeal.Read.val_main_v44 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The tiles the body stores at a grid point are the reference's columns there. -/
theorem point_main (c : Dev nD) (t : Fin cfg0.N) (r : Fin 512) (k : Fin 11) (hk : k.val < 10) (l : Fin 512) :
    tile (hrows m c t) (iblk m c 4 t) (iblk m c 5 t) (iblk m c 6 t) k r l
      = wantMain m c (ix2 ⟨512 * t.val + r.val, by have := t_lt t; omega⟩ ⟨k.val * 512 + l.val, by omega⟩) := by
  rw [wantMain, Cert.InprojRefIdeal.Rows.v43]
  unfold mainr tile
  by_cases hk : k.val < 7
  · rw [if_pos hk]
    by_cases h : k.val * 512 + l.val < 2048
    · rw [dif_pos h]
      exact proj_mid m c t _ _ k l _ (fun q => (w_read m c t k q l).trans (packW_gate _ k q l h)) r
    · rw [dif_neg h, dif_pos (show k.val * 512 + l.val < 3584 by omega)]
      exact proj_mid m c t _ _ k l _ (fun q => (w_read m c t k q l).trans (packW_first _ k q l h (by omega))) r
  · have n : ¬ k.val * 512 + l.val < 3584 := by omega
    have y : k.val * 512 + l.val < 5376 := by omega
    rw [if_neg hk, dif_neg (show ¬ k.val * 512 + l.val < 2048 by omega), dif_neg n]
    exact shift_moved m c t _ _ k l _ (fun q => (w_read m c t k q l).trans (packW_second _ k q l n y)) _ _ _ _
      ((mp_read m c t k l).trans (packMu_second _ k l n y)) ((mn_read m c t k l).trans (packMu_second _ k l n y)) r

theorem point_small (c : Dev nD) (t : Fin cfg0.N) (r : Fin 512) (k : Fin 11) (hk : k.val = 10) (l : Fin 512) :
    tile (hrows m c t) (iblk m c 4 t) (iblk m c 5 t) (iblk m c 6 t) k r l
      = wantSmall m c (ix2 ⟨512 * t.val + r.val, by have := t_lt t; omega⟩ l) := by
  rw [wantSmall, Cert.InprojRefIdeal.Rows.v44]
  unfold smallr tile
  rw [if_neg (by omega)]
  have n : ¬ k.val * 512 + l.val < 3584 := by omega
  by_cases h : l.val < 256
  · have y : k.val * 512 + l.val < 5376 := by omega
    rw [dif_pos h, show (⟨1536 + l.val, by omega⟩ : Fin 1792) = ⟨k.val * 512 + l.val - 3584, by omega⟩ from Fin.ext (by simp only; omega)]
    exact shift_moved m c t _ _ k l _ (fun q => (w_read m c t k q l).trans (packW_second _ k q l n y)) _ _ _ _
      ((mp_read m c t k l).trans (packMu_second _ k l n y)) ((mn_read m c t k l).trans (packMu_second _ k l n y)) r
  · have n' : ¬ k.val * 512 + l.val < 5376 := by omega
    rw [dif_neg h]
    by_cases h' : l.val < 288
    · have y : k.val * 512 + l.val < 5408 := by omega
      rw [dif_pos h', show (⟨1536 + (l.val - 256), by omega⟩ : Fin 5408) = ⟨1536 + (k.val * 512 + l.val - 5376), by omega⟩
        from Fin.ext (by simp only; omega)]
      exact shift_zero m c t _ _ k l _ (fun q => (w_read m c t k q l).trans (packW_rank _ k q l n' y)) _ _
        ((mp_read m c t k l).trans (packMu_pad _ k l n')) ((mn_read m c t k l).trans (packMu_pad _ k l n')) r
    · rw [dif_neg h']
      exact shift_pad _ _ _ _ k l (fun q => (w_read m c t k q l).trans (packW_pad _ k q l (by omega))) r

/-- The kernel's result arrays after the run are the reference's. -/
theorem final_main (c : Dev nD) : (dats m 0 c).arrAt 7 (cfgs 0).N = wantMain m c := by
  refine (dats m 0 c).arrAt_eq_of_covers 7 _ (by decide +kernel) fun t _ y => ?_
  blk_simp
  idx_vars y
  have e : y1 = ⟨(⟨y1.val / 512, by omega⟩ : Fin 11).val * 512 + (⟨y1.val % 512, by omega⟩ : Fin 512).val, by simp only; omega⟩ :=
    Fin.ext (by simp only; omega)
  rw [e]
  refine (after_main m c t y0 ⟨y1.val / 512, by omega⟩ (by simp only; omega) ⟨y1.val % 512, by omega⟩).trans
    ((point_main m c t _ _ (by simp only; omega) _).trans ?_)
  blk_ext [idx t]

theorem final_small (c : Dev nD) : (dats m 0 c).arrAt 8 (cfgs 0).N = wantSmall m c := by
  refine (dats m 0 c).arrAt_eq_of_covers 8 _ (by decide +kernel) fun t _ y => ?_
  blk_simp
  idx_vars y
  refine (after_small m c t _ _).trans ((point_small m c t _ _ rfl _).trans ?_)
  blk_ext [idx t]

/-- Both programs leave the same arrays. -/
theorem algebraic : Cert.algebraic_InprojIdeal_InprojRefIdeal := by
  pair_intro
  · run_from Cert.InprojIdeal.Gen.run_main m g
  · run_from Cert.InprojRefIdeal.Value.run m' g'
    all_goals obtain ⟨a0, a1, a2, a3, a4⟩ := hagree c
    · rw [final_main m c, Cert.InprojRefIdeal.Read.val_main_v43_eq, a0, a1, a2, a3, a4]
    · rw [final_small m c, Cert.InprojRefIdeal.Read.val_main_v44_eq, a0, a1, a2, a3, a4]

/-- The reference ends with its arguments as they were. -/
theorem frameRef : Cert.quiescent_InprojRefIdeal :=
  fun m g _ => (θ_run Cert.InprojRefIdeal.defs _ _).mono
    (fun r h => ⟨fun c => (h c).2.2, Idealize.ShloMosaic.sem_eq_zero_of_no_sems (by decide) r.2⟩)
    (Cert.InprojRefIdeal.Value.run (F := Ideal) m g)

end Cert.InprojIdeal.RefValue

end
-- ==== Proof.MergeValue.lean ====
/-
The merge of the two mixers into the residual stream: what the kernel leaves in its result array is
the reference's composed term over the same arguments.
-/
module

public import proofs.«01_k».proof.Defs
public import proofs.«01_k».proof.Proof.Gen.MergeIdeal.Frame
public import proofs.«01_k».proof.Proof.Gen.MergeRefIdeal.Read
public import proofs.«01_k».proof.Proof.Gen.MergeRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen Cert.MergeRefIdeal.Read

variable (m : (ℓ : Loc nD τ sig) → Buf (Elt Ideal) ℓ)

/-- The reference's result over the kernel's argument arrays. -/
abbrev want (c : Dev nD) : FVec Ideal S65536x1024 .f32 :=
  val_main_v25 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- Which block of its array each window stages at a grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 1]
    ∧ win0_5.index t = ![0, 0] ∧ win0_6.index t = ![0, 0] ∧ win0_7.index t = ![0, 0]
    ∧ win0_8.index t = ![t.val, 0] :=
  (by decide +kernel : ∀ t : Fin grid0.N, _)

/-- The rows the body stores at a grid point are the reference's rows there. -/
theorem point (c : Dev nD) (t : Fin cfg0.N) (y) :
    k0_pay1 (iblk m c 0 t) (k0_pay2 (iblk m c 1 t) (iblk m c 5 t) (iblk m c 2 t) (iblk m c 6 t) (iblk m c 3 t) (iblk m c 4 t))
      (k0_pay3 (iblk m c 7 t)) y = want m c (((cfg0.win 8).blk t).view.emb y) := by
  pointwise [k0_pay1, k0_pay2, k0_pay3, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  simp only [zero_sub]
  blk_point [iblk, V, idx t]

/-- The kernel's result array after the run is the reference's. -/
theorem final (c : Dev nD) : (dats m 0 c).arrAt 8 (cfgs 0).N = want m c := by
  refine (dats m 0 c).arrAt_eq_of_covers 8 _ (by decide +kernel) fun t _ y => ?_
  blk_simp
  rw [after0_8]
  frame_out
  exact point m c t y

/-- Both programs leave the same array. -/
theorem algebraic : Cert.algebraic_MergeIdeal_MergeRefIdeal := by
  pair_intro
  · run_from Cert.MergeIdeal.Gen.run_main m g
  · run_from Cert.MergeRefIdeal.Value.run m' g'
    exact (final m c).symm

/-- The reference ends with its arguments as they were. -/
theorem frameRef : Cert.quiescent_MergeRefIdeal :=
  fun m g _ => (θ_run Cert.MergeRefIdeal.defs _ _).mono
    (fun r h => ⟨fun c => (h c).2, Idealize.ShloMosaic.sem_eq_zero_of_no_sems (by decide) r.2⟩)
    (Cert.MergeRefIdeal.Value.run (F := Ideal) m g)

end Cert.MergeIdeal.RefValue

end
-- ==== Proof.lean ====
/-
The proof of `Cert.Claim`: for each of the kernel's calls the three frames, that the idealized kernel is the
printed one, and that the idealized kernel and the reference leave the same array.
-/
module

public import proofs.«01_k».proof.Defs
public import proofs.«01_k».proof.Proof.Gen.Gla.Frame
public import proofs.«01_k».proof.Proof.GlaValue
public import proofs.«01_k».proof.Proof.Gen.GlaRefIdeal.Run
public import proofs.«01_k».proof.Proof.Gen.GlaRefIdeal.Step
public import proofs.«01_k».proof.Proof.Gen.GlaBwd.Frame
public import proofs.«01_k».proof.Proof.GlaBwdValue
public import proofs.«01_k».proof.Proof.Gen.GlaBwdRefIdeal.Run
public import proofs.«01_k».proof.Proof.Gen.GlaBwdRefIdeal.Step
public import proofs.«01_k».proof.Proof.Gen.Ffn.Frame
public import proofs.«01_k».proof.Proof.FfnValue
public import proofs.«01_k».proof.Proof.Gen.FfnRefIdeal.Run
public import proofs.«01_k».proof.Proof.Gen.FfnRefIdeal.Read
public import proofs.«01_k».proof.Proof.Gen.Inproj.Frame
public import proofs.«01_k».proof.Proof.InprojValue
public import proofs.«01_k».proof.Proof.Gen.InprojRefIdeal.Run
public import proofs.«01_k».proof.Proof.Gen.InprojRefIdeal.Read
public import proofs.«01_k».proof.Proof.Gen.Merge.Frame
public import proofs.«01_k».proof.Proof.MergeValue
public import proofs.«01_k».proof.Proof.Gen.MergeRefIdeal.Run
public import proofs.«01_k».proof.Proof.Gen.MergeRefIdeal.Read

@[expose] public section

noncomputable section

namespace Cert.Proof

/-- The side conditions that the predicates state. -/
instance gates : Cert.Pre_finite_gates.Facts := ⟨by decide, by decide, by decide⟩

instance gatesBwd : Cert.Pre_finite_gates_bwd.Facts := ⟨by decide, by decide, by decide⟩

theorem claim : Cert.Claim := ⟨
  Cert.Gla.Gen.facts, Cert.GlaIdeal.Gen.facts, Cert.GlaRefIdeal.Gen.facts,
  Cert.GlaBwd.Gen.facts, Cert.GlaBwdIdeal.Gen.facts, Cert.GlaBwdRefIdeal.Gen.facts,
  Cert.Ffn.Gen.facts, Cert.FfnIdeal.Gen.facts, Cert.FfnRefIdeal.Gen.facts,
  Cert.Inproj.Gen.facts, Cert.InprojIdeal.Gen.facts, Cert.InprojRefIdeal.Gen.facts,
  Cert.Merge.Gen.facts, Cert.MergeIdeal.Gen.facts, Cert.MergeRefIdeal.Gen.facts,
  gates, gatesBwd,
  fun m ρ _ => Cert.Gla.Gen.frame m ρ, fun m ρ _ => Cert.GlaIdeal.Gen.frame m ρ, fun m ρ _ => Cert.GlaIdeal.Gen.frame m ρ,
  Cert.GlaIdeal.RefValue.frameRef, fun m ρ _ => Cert.GlaIdeal.RefValue.frameRef m ρ trivial,
  fun m ρ _ => Cert.GlaBwd.Gen.frame m ρ, fun m ρ _ => Cert.GlaBwdIdeal.Gen.frame m ρ, fun m ρ _ => Cert.GlaBwdIdeal.Gen.frame m ρ,
  Cert.GlaBwdIdeal.RefValue.frameRef, fun m ρ _ => Cert.GlaBwdIdeal.RefValue.frameRef m ρ trivial,
  fun m ρ _ => Cert.Ffn.Gen.frame m ρ, fun m ρ _ => Cert.FfnIdeal.Gen.frame m ρ,
  Cert.FfnIdeal.RefValue.frameRef,
  fun m ρ _ => Cert.Inproj.Gen.frame m ρ, fun m ρ _ => Cert.InprojIdeal.Gen.frame m ρ,
  Cert.InprojIdeal.RefValue.frameRef,
  fun m ρ _ => Cert.Merge.Gen.frame m ρ, fun m ρ _ => Cert.MergeIdeal.Gen.frame m ρ,
  Cert.MergeIdeal.RefValue.frameRef,
  trivial, Cert.GlaIdeal.RefValue.algebraic,
  trivial, Cert.GlaBwdIdeal.RefValue.algebraic,
  trivial, Cert.FfnIdeal.RefValue.algebraic,
  trivial, Cert.InprojIdeal.RefValue.algebraic,
  trivial, Cert.MergeIdeal.RefValue.algebraic⟩

end Cert.Proof

end
